-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeReferenceIdeal (m : (ℓ : Loc Cert.MoeReferenceIdeal.nD Cert.MoeReferenceIdeal.τ Cert.MoeReferenceIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleReferenceIdeal (m : (ℓ : Loc Cert.ProjSampleReferenceIdeal.nD Cert.ProjSampleReferenceIdeal.τ Cert.ProjSampleReferenceIdeal.sig) → Buf (Elt Ideal) ℓ) : Prop :=
  True

def Pre_ProjPrompt (m : (ℓ : Loc Cert.ProjPrompt.nD Cert.ProjPrompt.τ Cert.ProjPrompt.sig) → Buf (Elt Bits) ℓ) : Prop :=
  True

def Pre_ProjPromptIdeal (m : (ℓ : Loc Cert.ProjPromptIdeal.nD Cert.ProjPromptIdeal.τ Cert.ProjPromptIdeal.sig) → Buf (Elt Ideal) ℓ) : Prop :=
  True

def Pre_ProjPromptReferenceIdeal (m : (ℓ : Loc Cert.ProjPromptReferenceIdeal.nD Cert.ProjPromptReferenceIdeal.τ Cert.ProjPromptReferenceIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3)
      ∧ r.2.mem ((c.tc : Thread Cert.ProjSample.nD Cert.ProjSample.τ).loc Cert.ProjSample.main_arg4) = m ((c.tc : Thread Cert.ProjSample.nD Cert.ProjSample.τ).loc Cert.ProjSample.main_arg4)
      ∧ r.2.mem ((c.tc : Thread Cert.ProjSample.nD Cert.ProjSample.τ).loc Cert.ProjSample.main_arg5) = m ((c.tc : Thread Cert.ProjSample.nD Cert.ProjSample.τ).loc Cert.ProjSample.main_arg5)
      ∧ r.2.mem ((c.tc : Thread Cert.ProjSample.nD Cert.ProjSample.τ).loc Cert.ProjSample.main_arg6) = m ((c.tc : Thread Cert.ProjSample.nD Cert.ProjSample.τ).loc Cert.ProjSample.main_arg6))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
      ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
      ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6))
      ∧ r.2.sem = fun _ => 0)

def quiescent_ProjSampleReferenceIdeal [hProjSampleReferenceIdeal : Cert.ProjSampleReferenceIdeal.Facts] : Prop :=
  ∀ (m : (ℓ : Loc Cert.ProjSampleReferenceIdeal.nD Cert.ProjSampleReferenceIdeal.τ Cert.ProjSampleReferenceIdeal.sig) → Buf (Elt Ideal) ℓ) (g : Dev Cert.ProjSampleReferenceIdeal.nD → PrngReg), Pre_ProjSampleReferenceIdeal m →
    θ_run (Cert.ProjSampleReferenceIdeal.defs (F := Ideal)) (onTc (τ := Cert.ProjSampleReferenceIdeal.τ) (Cert.ProjSampleReferenceIdeal.main (F := Ideal))) ⟨m, fun _ => 0, g⟩ (fun r => (∀ c : Dev Cert.ProjSampleReferenceIdeal.nD,
      r.2.mem ((c.tc : Thread Cert.ProjSampleReferenceIdeal.nD Cert.ProjSampleReferenceIdeal.τ).loc Cert.ProjSampleReferenceIdeal.main_arg0) = m ((c.tc : Thread Cert.ProjSampleReferenceIdeal.nD Cert.ProjSampleReferenceIdeal.τ).loc Cert.ProjSampleReferenceIdeal.main_arg0)
      ∧ r.2.mem ((c.tc : Thread Cert.ProjSampleReferenceIdeal.nD Cert.ProjSampleReferenceIdeal.τ).loc Cert.ProjSampleReferenceIdeal.main_arg1) = m ((c.tc : Thread Cert.ProjSampleReferenceIdeal.nD Cert.ProjSampleReferenceIdeal.τ).loc Cert.ProjSampleReferenceIdeal.main_arg1)
      ∧ r.2.mem ((c.tc : Thread Cert.ProjSampleReferenceIdeal.nD Cert.ProjSampleReferenceIdeal.τ).loc Cert.ProjSampleReferenceIdeal.main_arg2) = m ((c.tc : Thread Cert.ProjSampleReferenceIdeal.nD Cert.ProjSampleReferenceIdeal.τ).loc Cert.ProjSampleReferenceIdeal.main_arg2)
      ∧ r.2.mem ((c.tc : Thread Cert.ProjSampleReferenceIdeal.nD Cert.ProjSampleReferenceIdeal.τ).loc Cert.ProjSampleReferenceIdeal.main_arg3) = m ((c.tc : Thread Cert.ProjSampleReferenceIdeal.nD Cert.ProjSampleReferenceIdeal.τ).loc Cert.ProjSampleReferenceIdeal.main_arg3)
      ∧ r.2.mem ((c.tc : Thread Cert.ProjSampleReferenceIdeal.nD Cert.ProjSampleReferenceIdeal.τ).loc Cert.ProjSampleReferenceIdeal.main_arg4) = m ((c.tc : Thread Cert.ProjSampleReferenceIdeal.nD Cert.ProjSampleReferenceIdeal.τ).loc Cert.ProjSampleReferenceIdeal.main_arg4)
      ∧ r.2.mem ((c.tc : Thread Cert.ProjSampleReferenceIdeal.nD Cert.ProjSampleReferenceIdeal.τ).loc Cert.ProjSampleReferenceIdeal.main_arg5) = m ((c.tc : Thread Cert.ProjSampleReferenceIdeal.nD Cert.ProjSampleReferenceIdeal.τ).loc Cert.ProjSampleReferenceIdeal.main_arg5)
      ∧ r.2.mem ((c.tc : Thread Cert.ProjSampleReferenceIdeal.nD Cert.ProjSampleReferenceIdeal.τ).loc Cert.ProjSampleReferenceIdeal.main_arg6) = m ((c.tc : Thread Cert.ProjSampleReferenceIdeal.nD Cert.ProjSampleReferenceIdeal.τ).loc Cert.ProjSampleReferenceIdeal.main_arg6))
      ∧ r.2.sem = fun _ => 0)

def quiescent_ProjPrompt [hProjPrompt : Cert.ProjPrompt.Facts] : Prop :=
  ∀ (m : (ℓ : Loc Cert.ProjPrompt.nD Cert.ProjPrompt.τ Cert.ProjPrompt.sig) → Buf (Elt Bits) ℓ) (g : Dev Cert.ProjPrompt.nD → PrngReg), Pre_ProjPrompt m →
    θ_run (Cert.ProjPrompt.defs (F := Bits)) (onTc (τ := Cert.ProjPrompt.τ) (Cert.ProjPrompt.main (F := Bits))) ⟨m, fun _ => 0, g⟩ (fun r => (∀ c : Dev Cert.ProjPrompt.nD,
      r.2.mem ((c.tc : Thread Cert.ProjPrompt.nD Cert.ProjPrompt.τ).loc Cert.ProjPrompt.main_arg0) = m ((c.tc : Thread Cert.ProjPrompt.nD Cert.ProjPrompt.τ).loc Cert.ProjPrompt.main_arg0)
      ∧ r.2.mem ((c.tc : Thread Cert.ProjPrompt.nD Cert.ProjPrompt.τ).loc Cert.ProjPrompt.main_arg1) = m ((c.tc : Thread Cert.ProjPrompt.nD Cert.ProjPrompt.τ).loc Cert.ProjPrompt.main_arg1)
      ∧ r.2.mem ((c.tc : Thread Cert.ProjPrompt.nD Cert.ProjPrompt.τ).loc Cert.ProjPrompt.main_arg2) = m ((c.tc : Thread Cert.ProjPrompt.nD Cert.ProjPrompt.τ).loc Cert.ProjPrompt.main_arg2)
      ∧ r.2.mem ((c.tc : Thread Cert.ProjPrompt.nD Cert.ProjPrompt.τ).loc Cert.ProjPrompt.main_arg3) = m ((c.tc : Thread Cert.ProjPrompt.nD Cert.ProjPrompt.τ).loc Cert.ProjPrompt.main_arg3)
      ∧ r.2.mem ((c.tc : Thread Cert.ProjPrompt.nD Cert.ProjPrompt.τ).loc Cert.ProjPrompt.main_arg4) = m ((c.tc : Thread Cert.ProjPrompt.nD Cert.ProjPrompt.τ).loc Cert.ProjPrompt.main_arg4)
      ∧ r.2.mem ((c.tc : Thread Cert.ProjPrompt.nD Cert.ProjPrompt.τ).loc Cert.ProjPrompt.main_arg5) = m ((c.tc : Thread Cert.ProjPrompt.nD Cert.ProjPrompt.τ).loc Cert.ProjPrompt.main_arg5)
      ∧ r.2.mem ((c.tc : Thread Cert.ProjPrompt.nD Cert.ProjPrompt.τ).loc Cert.ProjPrompt.main_arg6) = m ((c.tc : Thread Cert.ProjPrompt.nD Cert.ProjPrompt.τ).loc Cert.ProjPrompt.main_arg6))
      ∧ r.2.sem = fun _ => 0)

def quiescent_ProjPromptIdeal [hProjPromptIdeal : Cert.ProjPromptIdeal.Facts] : Prop :=
  ∀ (m : (ℓ : Loc Cert.ProjPromptIdeal.nD Cert.ProjPromptIdeal.τ Cert.ProjPromptIdeal.sig) → Buf (Elt Ideal) ℓ) (g : Dev Cert.ProjPromptIdeal.nD → PrngReg), Pre_ProjPromptIdeal m →
    θ_run (Cert.ProjPromptIdeal.defs (F := Ideal)) (onTc (τ := Cert.ProjPromptIdeal.τ) (Cert.ProjPromptIdeal.main (F := Ideal))) ⟨m, fun _ => 0, g⟩ (fun r => (∀ c : Dev Cert.ProjPromptIdeal.nD,
      r.2.mem ((c.tc : Thread Cert.ProjPromptIdeal.nD Cert.ProjPromptIdeal.τ).loc Cert.ProjPromptIdeal.main_arg0) = m ((c.tc : Thread Cert.ProjPromptIdeal.nD Cert.ProjPromptIdeal.τ).loc Cert.ProjPromptIdeal.main_arg0)
      ∧ r.2.mem ((c.tc : Thread Cert.ProjPromptIdeal.nD Cert.ProjPromptIdeal.τ).loc Cert.ProjPromptIdeal.main_arg1) = m ((c.tc : Thread Cert.ProjPromptIdeal.nD Cert.ProjPromptIdeal.τ).loc Cert.ProjPromptIdeal.main_arg1)
      ∧ r.2.mem ((c.tc : Thread Cert.ProjPromptIdeal.nD Cert.ProjPromptIdeal.τ).loc Cert.ProjPromptIdeal.main_arg2) = m ((c.tc : Thread Cert.ProjPromptIdeal.nD Cert.ProjPromptIdeal.τ).loc Cert.ProjPromptIdeal.main_arg2)
      ∧ r.2.mem ((c.tc : Thread Cert.ProjPromptIdeal.nD Cert.ProjPromptIdeal.τ).loc Cert.ProjPromptIdeal.main_arg3) = m ((c.tc : Thread Cert.ProjPromptIdeal.nD Cert.ProjPromptIdeal.τ).loc Cert.ProjPromptIdeal.main_arg3)
      ∧ r.2.mem ((c.tc : Thread Cert.ProjPromptIdeal.nD Cert.ProjPromptIdeal.τ).loc Cert.ProjPromptIdeal.main_arg4) = m ((c.tc : Thread Cert.ProjPromptIdeal.nD Cert.ProjPromptIdeal.τ).loc Cert.ProjPromptIdeal.main_arg4)
      ∧ r.2.mem ((c.tc : Thread Cert.ProjPromptIdeal.nD Cert.ProjPromptIdeal.τ).loc Cert.ProjPromptIdeal.main_arg5) = m ((c.tc : Thread Cert.ProjPromptIdeal.nD Cert.ProjPromptIdeal.τ).loc Cert.ProjPromptIdeal.main_arg5)
      ∧ r.2.mem ((c.tc : Thread Cert.ProjPromptIdeal.nD Cert.ProjPromptIdeal.τ).loc Cert.ProjPromptIdeal.main_arg6) = m ((c.tc : Thread Cert.ProjPromptIdeal.nD Cert.ProjPromptIdeal.τ).loc Cert.ProjPromptIdeal.main_arg6))
      ∧ r.2.sem = fun _ => 0)

def quiescent_ProjPromptReferenceIdeal [hProjPromptReferenceIdeal : Cert.ProjPromptReferenceIdeal.Facts] : Prop :=
  ∀ (m : (ℓ : Loc Cert.ProjPromptReferenceIdeal.nD Cert.ProjPromptReferenceIdeal.τ Cert.ProjPromptReferenceIdeal.sig) → Buf (Elt Ideal) ℓ) (g : Dev Cert.ProjPromptReferenceIdeal.nD → PrngReg), Pre_ProjPromptReferenceIdeal m →
    θ_run (Cert.ProjPromptReferenceIdeal.defs (F := Ideal)) (onTc (τ := Cert.ProjPromptReferenceIdeal.τ) (Cert.ProjPromptReferenceIdeal.main (F := Ideal))) ⟨m, fun _ => 0, g⟩ (fun r => (∀ c : Dev Cert.ProjPromptReferenceIdeal.nD,
      r.2.mem ((c.tc : Thread Cert.ProjPromptReferenceIdeal.nD Cert.ProjPromptReferenceIdeal.τ).loc Cert.ProjPromptReferenceIdeal.main_arg0) = m ((c.tc : Thread Cert.ProjPromptReferenceIdeal.nD Cert.ProjPromptReferenceIdeal.τ).loc Cert.ProjPromptReferenceIdeal.main_arg0)
      ∧ r.2.mem ((c.tc : Thread Cert.ProjPromptReferenceIdeal.nD Cert.ProjPromptReferenceIdeal.τ).loc Cert.ProjPromptReferenceIdeal.main_arg1) = m ((c.tc : Thread Cert.ProjPromptReferenceIdeal.nD Cert.ProjPromptReferenceIdeal.τ).loc Cert.ProjPromptReferenceIdeal.main_arg1)
      ∧ r.2.mem ((c.tc : Thread Cert.ProjPromptReferenceIdeal.nD Cert.ProjPromptReferenceIdeal.τ).loc Cert.ProjPromptReferenceIdeal.main_arg2) = m ((c.tc : Thread Cert.ProjPromptReferenceIdeal.nD Cert.ProjPromptReferenceIdeal.τ).loc Cert.ProjPromptReferenceIdeal.main_arg2)
      ∧ r.2.mem ((c.tc : Thread Cert.ProjPromptReferenceIdeal.nD Cert.ProjPromptReferenceIdeal.τ).loc Cert.ProjPromptReferenceIdeal.main_arg3) = m ((c.tc : Thread Cert.ProjPromptReferenceIdeal.nD Cert.ProjPromptReferenceIdeal.τ).loc Cert.ProjPromptReferenceIdeal.main_arg3)
      ∧ r.2.mem ((c.tc : Thread Cert.ProjPromptReferenceIdeal.nD Cert.ProjPromptReferenceIdeal.τ).loc Cert.ProjPromptReferenceIdeal.main_arg4) = m ((c.tc : Thread Cert.ProjPromptReferenceIdeal.nD Cert.ProjPromptReferenceIdeal.τ).loc Cert.ProjPromptReferenceIdeal.main_arg4)
      ∧ r.2.mem ((c.tc : Thread Cert.ProjPromptReferenceIdeal.nD Cert.ProjPromptReferenceIdeal.τ).loc Cert.ProjPromptReferenceIdeal.main_arg5) = m ((c.tc : Thread Cert.ProjPromptReferenceIdeal.nD Cert.ProjPromptReferenceIdeal.τ).loc Cert.ProjPromptReferenceIdeal.main_arg5)
      ∧ r.2.mem ((c.tc : Thread Cert.ProjPromptReferenceIdeal.nD Cert.ProjPromptReferenceIdeal.τ).loc Cert.ProjPromptReferenceIdeal.main_arg6) = m ((c.tc : Thread Cert.ProjPromptReferenceIdeal.nD Cert.ProjPromptReferenceIdeal.τ).loc Cert.ProjPromptReferenceIdeal.main_arg6))
      ∧ r.2.sem = fun _ => 0)

def preserves_Moe_MoeIdeal : Prop :=
  True

def algebraic_MoeIdeal_MoeReferenceIdeal [hMoeIdeal : Cert.MoeIdeal.Facts] [hMoeReferenceIdeal : Cert.MoeReferenceIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v9)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v9) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v17) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_ProjSample_ProjSampleIdeal : Prop :=
  True

def algebraic_ProjSampleIdeal_ProjSampleReferenceIdeal [hProjSampleIdeal : Cert.ProjSampleIdeal.Facts] [hProjSampleReferenceIdeal : Cert.ProjSampleReferenceIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleReferenceIdeal.nD Cert.ProjSampleReferenceIdeal.τ Cert.ProjSampleReferenceIdeal.sig) → Buf (Elt Ideal) ℓ) (g' : Dev Cert.ProjSampleReferenceIdeal.nD → PrngReg), Pre_ProjSampleIdeal m →
    (∀ c : Dev Cert.ProjSampleIdeal.nD,
      m' ((c.tc : Thread Cert.ProjSampleReferenceIdeal.nD Cert.ProjSampleReferenceIdeal.τ).loc Cert.ProjSampleReferenceIdeal.main_arg0) = m ((c.tc : Thread Cert.ProjSampleIdeal.nD Cert.ProjSampleIdeal.τ).loc Cert.ProjSampleIdeal.main_arg0)
      ∧ m' ((c.tc : Thread Cert.ProjSampleReferenceIdeal.nD Cert.ProjSampleReferenceIdeal.τ).loc Cert.ProjSampleReferenceIdeal.main_arg1) = m ((c.tc : Thread Cert.ProjSampleIdeal.nD Cert.ProjSampleIdeal.τ).loc Cert.ProjSampleIdeal.main_arg1)
      ∧ m' ((c.tc : Thread Cert.ProjSampleReferenceIdeal.nD Cert.ProjSampleReferenceIdeal.τ).loc Cert.ProjSampleReferenceIdeal.main_arg2) = m ((c.tc : Thread Cert.ProjSampleIdeal.nD Cert.ProjSampleIdeal.τ).loc Cert.ProjSampleIdeal.main_arg2)
      ∧ m' ((c.tc : Thread Cert.ProjSampleReferenceIdeal.nD Cert.ProjSampleReferenceIdeal.τ).loc Cert.ProjSampleReferenceIdeal.main_arg3) = m ((c.tc : Thread Cert.ProjSampleIdeal.nD Cert.ProjSampleIdeal.τ).loc Cert.ProjSampleIdeal.main_arg3)
      ∧ m' ((c.tc : Thread Cert.ProjSampleReferenceIdeal.nD Cert.ProjSampleReferenceIdeal.τ).loc Cert.ProjSampleReferenceIdeal.main_arg4) = m ((c.tc : Thread Cert.ProjSampleIdeal.nD Cert.ProjSampleIdeal.τ).loc Cert.ProjSampleIdeal.main_arg4)
      ∧ m' ((c.tc : Thread Cert.ProjSampleReferenceIdeal.nD Cert.ProjSampleReferenceIdeal.τ).loc Cert.ProjSampleReferenceIdeal.main_arg5) = m ((c.tc : Thread Cert.ProjSampleIdeal.nD Cert.ProjSampleIdeal.τ).loc Cert.ProjSampleIdeal.main_arg5)
      ∧ m' ((c.tc : Thread Cert.ProjSampleReferenceIdeal.nD Cert.ProjSampleReferenceIdeal.τ).loc Cert.ProjSampleReferenceIdeal.main_arg6) = m ((c.tc : Thread Cert.ProjSampleIdeal.nD Cert.ProjSampleIdeal.τ).loc Cert.ProjSampleIdeal.main_arg6)) →
    ∃ (v0 : (c : Dev Cert.ProjSampleIdeal.nD) → Buf (Elt Ideal) ((c.tc : Thread Cert.ProjSampleIdeal.nD Cert.ProjSampleIdeal.τ).loc Cert.ProjSampleIdeal.main_v80_1)) (v1 : (c : Dev Cert.ProjSampleIdeal.nD) → Buf (Elt Ideal) ((c.tc : Thread Cert.ProjSampleIdeal.nD Cert.ProjSampleIdeal.τ).loc Cert.ProjSampleIdeal.main_v80_2)) (v2 : (c : Dev Cert.ProjSampleIdeal.nD) → Buf (Elt Ideal) ((c.tc : Thread Cert.ProjSampleIdeal.nD Cert.ProjSampleIdeal.τ).loc Cert.ProjSampleIdeal.main_v80_3)) (v3 : (c : Dev Cert.ProjSampleIdeal.nD) → Buf (Elt Ideal) ((c.tc : Thread Cert.ProjSampleIdeal.nD Cert.ProjSampleIdeal.τ).loc Cert.ProjSampleIdeal.main_v80_4)) (v4 : (c : Dev Cert.ProjSampleIdeal.nD) → Buf (Elt Ideal) ((c.tc : Thread Cert.ProjSampleIdeal.nD Cert.ProjSampleIdeal.τ).loc Cert.ProjSampleIdeal.main_v80_5)) (v5 : (c : Dev Cert.ProjSampleIdeal.nD) → Buf (Elt Ideal) ((c.tc : Thread Cert.ProjSampleIdeal.nD Cert.ProjSampleIdeal.τ).loc Cert.ProjSampleIdeal.main_v80_6)) (v6 : (c : Dev Cert.ProjSampleIdeal.nD) → Buf (Elt Ideal) ((c.tc : Thread Cert.ProjSampleIdeal.nD Cert.ProjSampleIdeal.τ).loc Cert.ProjSampleIdeal.main_v80_7)) (v7 : (c : Dev Cert.ProjSampleIdeal.nD) → Buf (Elt Ideal) ((c.tc : Thread Cert.ProjSampleIdeal.nD Cert.ProjSampleIdeal.τ).loc Cert.ProjSampleIdeal.main_v80_8)) (v8 : (c : Dev Cert.ProjSampleIdeal.nD) → Buf (Elt Ideal) ((c.tc : Thread Cert.ProjSampleIdeal.nD Cert.ProjSampleIdeal.τ).loc Cert.ProjSampleIdeal.main_v80_9)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v80_1) = v0 c
          ∧ r.2.mem ((c.tc : Thread Cert.ProjSampleIdeal.nD Cert.ProjSampleIdeal.τ).loc Cert.ProjSampleIdeal.main_v80_2) = v1 c
          ∧ r.2.mem ((c.tc : Thread Cert.ProjSampleIdeal.nD Cert.ProjSampleIdeal.τ).loc Cert.ProjSampleIdeal.main_v80_3) = v2 c
          ∧ r.2.mem ((c.tc : Thread Cert.ProjSampleIdeal.nD Cert.ProjSampleIdeal.τ).loc Cert.ProjSampleIdeal.main_v80_4) = v3 c
          ∧ r.2.mem ((c.tc : Thread Cert.ProjSampleIdeal.nD Cert.ProjSampleIdeal.τ).loc Cert.ProjSampleIdeal.main_v80_5) = v4 c
          ∧ r.2.mem ((c.tc : Thread Cert.ProjSampleIdeal.nD Cert.ProjSampleIdeal.τ).loc Cert.ProjSampleIdeal.main_v80_6) = v5 c
          ∧ r.2.mem ((c.tc : Thread Cert.ProjSampleIdeal.nD Cert.ProjSampleIdeal.τ).loc Cert.ProjSampleIdeal.main_v80_7) = v6 c
          ∧ r.2.mem ((c.tc : Thread Cert.ProjSampleIdeal.nD Cert.ProjSampleIdeal.τ).loc Cert.ProjSampleIdeal.main_v80_8) = v7 c
          ∧ r.2.mem ((c.tc : Thread Cert.ProjSampleIdeal.nD Cert.ProjSampleIdeal.τ).loc Cert.ProjSampleIdeal.main_v80_9) = v8 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
          ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
          ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
          ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6))
      ∧ θ_run (Cert.ProjSampleReferenceIdeal.defs (F := Ideal)) (onTc (τ := Cert.ProjSampleReferenceIdeal.τ) (Cert.ProjSampleReferenceIdeal.main (F := Ideal))) ⟨m', fun _ => 0, g'⟩ (fun r => ∀ c : Dev Cert.ProjSampleReferenceIdeal.nD,
          r.2.mem ((c.tc : Thread Cert.ProjSampleReferenceIdeal.nD Cert.ProjSampleReferenceIdeal.τ).loc Cert.ProjSampleReferenceIdeal.main_v103) = v0 c
          ∧ r.2.mem ((c.tc : Thread Cert.ProjSampleReferenceIdeal.nD Cert.ProjSampleReferenceIdeal.τ).loc Cert.ProjSampleReferenceIdeal.main_v105) = v1 c
          ∧ r.2.mem ((c.tc : Thread Cert.ProjSampleReferenceIdeal.nD Cert.ProjSampleReferenceIdeal.τ).loc Cert.ProjSampleReferenceIdeal.main_v107) = v2 c
          ∧ r.2.mem ((c.tc : Thread Cert.ProjSampleReferenceIdeal.nD Cert.ProjSampleReferenceIdeal.τ).loc Cert.ProjSampleReferenceIdeal.main_v109) = v3 c
          ∧ r.2.mem ((c.tc : Thread Cert.ProjSampleReferenceIdeal.nD Cert.ProjSampleReferenceIdeal.τ).loc Cert.ProjSampleReferenceIdeal.main_v111) = v4 c
          ∧ r.2.mem ((c.tc : Thread Cert.ProjSampleReferenceIdeal.nD Cert.ProjSampleReferenceIdeal.τ).loc Cert.ProjSampleReferenceIdeal.main_v112) = v5 c
          ∧ r.2.mem ((c.tc : Thread Cert.ProjSampleReferenceIdeal.nD Cert.ProjSampleReferenceIdeal.τ).loc Cert.ProjSampleReferenceIdeal.main_v113) = v6 c
          ∧ r.2.mem ((c.tc : Thread Cert.ProjSampleReferenceIdeal.nD Cert.ProjSampleReferenceIdeal.τ).loc Cert.ProjSampleReferenceIdeal.main_v114) = v7 c
          ∧ r.2.mem ((c.tc : Thread Cert.ProjSampleReferenceIdeal.nD Cert.ProjSampleReferenceIdeal.τ).loc Cert.ProjSampleReferenceIdeal.main_v115) = v8 c
          ∧ r.2.mem ((c.tc : Thread Cert.ProjSampleReferenceIdeal.nD Cert.ProjSampleReferenceIdeal.τ).loc Cert.ProjSampleReferenceIdeal.main_arg0) = m' ((c.tc : Thread Cert.ProjSampleReferenceIdeal.nD Cert.ProjSampleReferenceIdeal.τ).loc Cert.ProjSampleReferenceIdeal.main_arg0)
          ∧ r.2.mem ((c.tc : Thread Cert.ProjSampleReferenceIdeal.nD Cert.ProjSampleReferenceIdeal.τ).loc Cert.ProjSampleReferenceIdeal.main_arg1) = m' ((c.tc : Thread Cert.ProjSampleReferenceIdeal.nD Cert.ProjSampleReferenceIdeal.τ).loc Cert.ProjSampleReferenceIdeal.main_arg1)
          ∧ r.2.mem ((c.tc : Thread Cert.ProjSampleReferenceIdeal.nD Cert.ProjSampleReferenceIdeal.τ).loc Cert.ProjSampleReferenceIdeal.main_arg2) = m' ((c.tc : Thread Cert.ProjSampleReferenceIdeal.nD Cert.ProjSampleReferenceIdeal.τ).loc Cert.ProjSampleReferenceIdeal.main_arg2)
          ∧ r.2.mem ((c.tc : Thread Cert.ProjSampleReferenceIdeal.nD Cert.ProjSampleReferenceIdeal.τ).loc Cert.ProjSampleReferenceIdeal.main_arg3) = m' ((c.tc : Thread Cert.ProjSampleReferenceIdeal.nD Cert.ProjSampleReferenceIdeal.τ).loc Cert.ProjSampleReferenceIdeal.main_arg3)
          ∧ r.2.mem ((c.tc : Thread Cert.ProjSampleReferenceIdeal.nD Cert.ProjSampleReferenceIdeal.τ).loc Cert.ProjSampleReferenceIdeal.main_arg4) = m' ((c.tc : Thread Cert.ProjSampleReferenceIdeal.nD Cert.ProjSampleReferenceIdeal.τ).loc Cert.ProjSampleReferenceIdeal.main_arg4)
          ∧ r.2.mem ((c.tc : Thread Cert.ProjSampleReferenceIdeal.nD Cert.ProjSampleReferenceIdeal.τ).loc Cert.ProjSampleReferenceIdeal.main_arg5) = m' ((c.tc : Thread Cert.ProjSampleReferenceIdeal.nD Cert.ProjSampleReferenceIdeal.τ).loc Cert.ProjSampleReferenceIdeal.main_arg5)
          ∧ r.2.mem ((c.tc : Thread Cert.ProjSampleReferenceIdeal.nD Cert.ProjSampleReferenceIdeal.τ).loc Cert.ProjSampleReferenceIdeal.main_arg6) = m' ((c.tc : Thread Cert.ProjSampleReferenceIdeal.nD Cert.ProjSampleReferenceIdeal.τ).loc Cert.ProjSampleReferenceIdeal.main_arg6))

def preserves_ProjPrompt_ProjPromptIdeal : Prop :=
  True

def algebraic_ProjPromptIdeal_ProjPromptReferenceIdeal [hProjPromptIdeal : Cert.ProjPromptIdeal.Facts] [hProjPromptReferenceIdeal : Cert.ProjPromptReferenceIdeal.Facts] : Prop :=
  ∀ (m : (ℓ : Loc Cert.ProjPromptIdeal.nD Cert.ProjPromptIdeal.τ Cert.ProjPromptIdeal.sig) → Buf (Elt Ideal) ℓ) (g : Dev Cert.ProjPromptIdeal.nD → PrngReg)
    (m' : (ℓ : Loc Cert.ProjPromptReferenceIdeal.nD Cert.ProjPromptReferenceIdeal.τ Cert.ProjPromptReferenceIdeal.sig) → Buf (Elt Ideal) ℓ) (g' : Dev Cert.ProjPromptReferenceIdeal.nD → PrngReg), Pre_ProjPromptIdeal m →
    (∀ c : Dev Cert.ProjPromptIdeal.nD,
      m' ((c.tc : Thread Cert.ProjPromptReferenceIdeal.nD Cert.ProjPromptReferenceIdeal.τ).loc Cert.ProjPromptReferenceIdeal.main_arg0) = m ((c.tc : Thread Cert.ProjPromptIdeal.nD Cert.ProjPromptIdeal.τ).loc Cert.ProjPromptIdeal.main_arg0)
      ∧ m' ((c.tc : Thread Cert.ProjPromptReferenceIdeal.nD Cert.ProjPromptReferenceIdeal.τ).loc Cert.ProjPromptReferenceIdeal.main_arg1) = m ((c.tc : Thread Cert.ProjPromptIdeal.nD Cert.ProjPromptIdeal.τ).loc Cert.ProjPromptIdeal.main_arg1)
      ∧ m' ((c.tc : Thread Cert.ProjPromptReferenceIdeal.nD Cert.ProjPromptReferenceIdeal.τ).loc Cert.ProjPromptReferenceIdeal.main_arg2) = m ((c.tc : Thread Cert.ProjPromptIdeal.nD Cert.ProjPromptIdeal.τ).loc Cert.ProjPromptIdeal.main_arg2)
      ∧ m' ((c.tc : Thread Cert.ProjPromptReferenceIdeal.nD Cert.ProjPromptReferenceIdeal.τ).loc Cert.ProjPromptReferenceIdeal.main_arg3) = m ((c.tc : Thread Cert.ProjPromptIdeal.nD Cert.ProjPromptIdeal.τ).loc Cert.ProjPromptIdeal.main_arg3)
      ∧ m' ((c.tc : Thread Cert.ProjPromptReferenceIdeal.nD Cert.ProjPromptReferenceIdeal.τ).loc Cert.ProjPromptReferenceIdeal.main_arg4) = m ((c.tc : Thread Cert.ProjPromptIdeal.nD Cert.ProjPromptIdeal.τ).loc Cert.ProjPromptIdeal.main_arg4)
      ∧ m' ((c.tc : Thread Cert.ProjPromptReferenceIdeal.nD Cert.ProjPromptReferenceIdeal.τ).loc Cert.ProjPromptReferenceIdeal.main_arg5) = m ((c.tc : Thread Cert.ProjPromptIdeal.nD Cert.ProjPromptIdeal.τ).loc Cert.ProjPromptIdeal.main_arg5)
      ∧ m' ((c.tc : Thread Cert.ProjPromptReferenceIdeal.nD Cert.ProjPromptReferenceIdeal.τ).loc Cert.ProjPromptReferenceIdeal.main_arg6) = m ((c.tc : Thread Cert.ProjPromptIdeal.nD Cert.ProjPromptIdeal.τ).loc Cert.ProjPromptIdeal.main_arg6)) →
    ∃ (v0 : (c : Dev Cert.ProjPromptIdeal.nD) → Buf (Elt Ideal) ((c.tc : Thread Cert.ProjPromptIdeal.nD Cert.ProjPromptIdeal.τ).loc Cert.ProjPromptIdeal.main_v75_1)) (v1 : (c : Dev Cert.ProjPromptIdeal.nD) → Buf (Elt Ideal) ((c.tc : Thread Cert.ProjPromptIdeal.nD Cert.ProjPromptIdeal.τ).loc Cert.ProjPromptIdeal.main_v75_2)) (v2 : (c : Dev Cert.ProjPromptIdeal.nD) → Buf (Elt Ideal) ((c.tc : Thread Cert.ProjPromptIdeal.nD Cert.ProjPromptIdeal.τ).loc Cert.ProjPromptIdeal.main_v75_3)) (v3 : (c : Dev Cert.ProjPromptIdeal.nD) → Buf (Elt Ideal) ((c.tc : Thread Cert.ProjPromptIdeal.nD Cert.ProjPromptIdeal.τ).loc Cert.ProjPromptIdeal.main_v75_4)) (v4 : (c : Dev Cert.ProjPromptIdeal.nD) → Buf (Elt Ideal) ((c.tc : Thread Cert.ProjPromptIdeal.nD Cert.ProjPromptIdeal.τ).loc Cert.ProjPromptIdeal.main_v75_5)) (v5 : (c : Dev Cert.ProjPromptIdeal.nD) → Buf (Elt Ideal) ((c.tc : Thread Cert.ProjPromptIdeal.nD Cert.ProjPromptIdeal.τ).loc Cert.ProjPromptIdeal.main_v75_6)) (v6 : (c : Dev Cert.ProjPromptIdeal.nD) → Buf (Elt Ideal) ((c.tc : Thread Cert.ProjPromptIdeal.nD Cert.ProjPromptIdeal.τ).loc Cert.ProjPromptIdeal.main_v75_7)) (v7 : (c : Dev Cert.ProjPromptIdeal.nD) → Buf (Elt Ideal) ((c.tc : Thread Cert.ProjPromptIdeal.nD Cert.ProjPromptIdeal.τ).loc Cert.ProjPromptIdeal.main_v75_8)) (v8 : (c : Dev Cert.ProjPromptIdeal.nD) → Buf (Elt Ideal) ((c.tc : Thread Cert.ProjPromptIdeal.nD Cert.ProjPromptIdeal.τ).loc Cert.ProjPromptIdeal.main_v75_9)),
      θ_run (Cert.ProjPromptIdeal.defs (F := Ideal)) (onTc (τ := Cert.ProjPromptIdeal.τ) (Cert.ProjPromptIdeal.main (F := Ideal))) ⟨m, fun _ => 0, g⟩ (fun r => ∀ c : Dev Cert.ProjPromptIdeal.nD,
          r.2.mem ((c.tc : Thread Cert.ProjPromptIdeal.nD Cert.ProjPromptIdeal.τ).loc Cert.ProjPromptIdeal.main_v75_1) = v0 c
          ∧ r.2.mem ((c.tc : Thread Cert.ProjPromptIdeal.nD Cert.ProjPromptIdeal.τ).loc Cert.ProjPromptIdeal.main_v75_2) = v1 c
          ∧ r.2.mem ((c.tc : Thread Cert.ProjPromptIdeal.nD Cert.ProjPromptIdeal.τ).loc Cert.ProjPromptIdeal.main_v75_3) = v2 c
          ∧ r.2.mem ((c.tc : Thread Cert.ProjPromptIdeal.nD Cert.ProjPromptIdeal.τ).loc Cert.ProjPromptIdeal.main_v75_4) = v3 c
          ∧ r.2.mem ((c.tc : Thread Cert.ProjPromptIdeal.nD Cert.ProjPromptIdeal.τ).loc Cert.ProjPromptIdeal.main_v75_5) = v4 c
          ∧ r.2.mem ((c.tc : Thread Cert.ProjPromptIdeal.nD Cert.ProjPromptIdeal.τ).loc Cert.ProjPromptIdeal.main_v75_6) = v5 c
          ∧ r.2.mem ((c.tc : Thread Cert.ProjPromptIdeal.nD Cert.ProjPromptIdeal.τ).loc Cert.ProjPromptIdeal.main_v75_7) = v6 c
          ∧ r.2.mem ((c.tc : Thread Cert.ProjPromptIdeal.nD Cert.ProjPromptIdeal.τ).loc Cert.ProjPromptIdeal.main_v75_8) = v7 c
          ∧ r.2.mem ((c.tc : Thread Cert.ProjPromptIdeal.nD Cert.ProjPromptIdeal.τ).loc Cert.ProjPromptIdeal.main_v75_9) = v8 c
          ∧ r.2.mem ((c.tc : Thread Cert.ProjPromptIdeal.nD Cert.ProjPromptIdeal.τ).loc Cert.ProjPromptIdeal.main_arg0) = m ((c.tc : Thread Cert.ProjPromptIdeal.nD Cert.ProjPromptIdeal.τ).loc Cert.ProjPromptIdeal.main_arg0)
          ∧ r.2.mem ((c.tc : Thread Cert.ProjPromptIdeal.nD Cert.ProjPromptIdeal.τ).loc Cert.ProjPromptIdeal.main_arg1) = m ((c.tc : Thread Cert.ProjPromptIdeal.nD Cert.ProjPromptIdeal.τ).loc Cert.ProjPromptIdeal.main_arg1)
          ∧ r.2.mem ((c.tc : Thread Cert.ProjPromptIdeal.nD Cert.ProjPromptIdeal.τ).loc Cert.ProjPromptIdeal.main_arg2) = m ((c.tc : Thread Cert.ProjPromptIdeal.nD Cert.ProjPromptIdeal.τ).loc Cert.ProjPromptIdeal.main_arg2)
          ∧ r.2.mem ((c.tc : Thread Cert.ProjPromptIdeal.nD Cert.ProjPromptIdeal.τ).loc Cert.ProjPromptIdeal.main_arg3) = m ((c.tc : Thread Cert.ProjPromptIdeal.nD Cert.ProjPromptIdeal.τ).loc Cert.ProjPromptIdeal.main_arg3)
          ∧ r.2.mem ((c.tc : Thread Cert.ProjPromptIdeal.nD Cert.ProjPromptIdeal.τ).loc Cert.ProjPromptIdeal.main_arg4) = m ((c.tc : Thread Cert.ProjPromptIdeal.nD Cert.ProjPromptIdeal.τ).loc Cert.ProjPromptIdeal.main_arg4)
          ∧ r.2.mem ((c.tc : Thread Cert.ProjPromptIdeal.nD Cert.ProjPromptIdeal.τ).loc Cert.ProjPromptIdeal.main_arg5) = m ((c.tc : Thread Cert.ProjPromptIdeal.nD Cert.ProjPromptIdeal.τ).loc Cert.ProjPromptIdeal.main_arg5)
          ∧ r.2.mem ((c.tc : Thread Cert.ProjPromptIdeal.nD Cert.ProjPromptIdeal.τ).loc Cert.ProjPromptIdeal.main_arg6) = m ((c.tc : Thread Cert.ProjPromptIdeal.nD Cert.ProjPromptIdeal.τ).loc Cert.ProjPromptIdeal.main_arg6))
      ∧ θ_run (Cert.ProjPromptReferenceIdeal.defs (F := Ideal)) (onTc (τ := Cert.ProjPromptReferenceIdeal.τ) (Cert.ProjPromptReferenceIdeal.main (F := Ideal))) ⟨m', fun _ => 0, g'⟩ (fun r => ∀ c : Dev Cert.ProjPromptReferenceIdeal.nD,
          r.2.mem ((c.tc : Thread Cert.ProjPromptReferenceIdeal.nD Cert.ProjPromptReferenceIdeal.τ).loc Cert.ProjPromptReferenceIdeal.main_v101) = v0 c
          ∧ r.2.mem ((c.tc : Thread Cert.ProjPromptReferenceIdeal.nD Cert.ProjPromptReferenceIdeal.τ).loc Cert.ProjPromptReferenceIdeal.main_v103) = v1 c
          ∧ r.2.mem ((c.tc : Thread Cert.ProjPromptReferenceIdeal.nD Cert.ProjPromptReferenceIdeal.τ).loc Cert.ProjPromptReferenceIdeal.main_v105) = v2 c
          ∧ r.2.mem ((c.tc : Thread Cert.ProjPromptReferenceIdeal.nD Cert.ProjPromptReferenceIdeal.τ).loc Cert.ProjPromptReferenceIdeal.main_v107) = v3 c
          ∧ r.2.mem ((c.tc : Thread Cert.ProjPromptReferenceIdeal.nD Cert.ProjPromptReferenceIdeal.τ).loc Cert.ProjPromptReferenceIdeal.main_v109) = v4 c
          ∧ r.2.mem ((c.tc : Thread Cert.ProjPromptReferenceIdeal.nD Cert.ProjPromptReferenceIdeal.τ).loc Cert.ProjPromptReferenceIdeal.main_v111) = v5 c
          ∧ r.2.mem ((c.tc : Thread Cert.ProjPromptReferenceIdeal.nD Cert.ProjPromptReferenceIdeal.τ).loc Cert.ProjPromptReferenceIdeal.main_v113) = v6 c
          ∧ r.2.mem ((c.tc : Thread Cert.ProjPromptReferenceIdeal.nD Cert.ProjPromptReferenceIdeal.τ).loc Cert.ProjPromptReferenceIdeal.main_v115) = v7 c
          ∧ r.2.mem ((c.tc : Thread Cert.ProjPromptReferenceIdeal.nD Cert.ProjPromptReferenceIdeal.τ).loc Cert.ProjPromptReferenceIdeal.main_v117) = v8 c
          ∧ r.2.mem ((c.tc : Thread Cert.ProjPromptReferenceIdeal.nD Cert.ProjPromptReferenceIdeal.τ).loc Cert.ProjPromptReferenceIdeal.main_arg0) = m' ((c.tc : Thread Cert.ProjPromptReferenceIdeal.nD Cert.ProjPromptReferenceIdeal.τ).loc Cert.ProjPromptReferenceIdeal.main_arg0)
          ∧ r.2.mem ((c.tc : Thread Cert.ProjPromptReferenceIdeal.nD Cert.ProjPromptReferenceIdeal.τ).loc Cert.ProjPromptReferenceIdeal.main_arg1) = m' ((c.tc : Thread Cert.ProjPromptReferenceIdeal.nD Cert.ProjPromptReferenceIdeal.τ).loc Cert.ProjPromptReferenceIdeal.main_arg1)
          ∧ r.2.mem ((c.tc : Thread Cert.ProjPromptReferenceIdeal.nD Cert.ProjPromptReferenceIdeal.τ).loc Cert.ProjPromptReferenceIdeal.main_arg2) = m' ((c.tc : Thread Cert.ProjPromptReferenceIdeal.nD Cert.ProjPromptReferenceIdeal.τ).loc Cert.ProjPromptReferenceIdeal.main_arg2)
          ∧ r.2.mem ((c.tc : Thread Cert.ProjPromptReferenceIdeal.nD Cert.ProjPromptReferenceIdeal.τ).loc Cert.ProjPromptReferenceIdeal.main_arg3) = m' ((c.tc : Thread Cert.ProjPromptReferenceIdeal.nD Cert.ProjPromptReferenceIdeal.τ).loc Cert.ProjPromptReferenceIdeal.main_arg3)
          ∧ r.2.mem ((c.tc : Thread Cert.ProjPromptReferenceIdeal.nD Cert.ProjPromptReferenceIdeal.τ).loc Cert.ProjPromptReferenceIdeal.main_arg4) = m' ((c.tc : Thread Cert.ProjPromptReferenceIdeal.nD Cert.ProjPromptReferenceIdeal.τ).loc Cert.ProjPromptReferenceIdeal.main_arg4)
          ∧ r.2.mem ((c.tc : Thread Cert.ProjPromptReferenceIdeal.nD Cert.ProjPromptReferenceIdeal.τ).loc Cert.ProjPromptReferenceIdeal.main_arg5) = m' ((c.tc : Thread Cert.ProjPromptReferenceIdeal.nD Cert.ProjPromptReferenceIdeal.τ).loc Cert.ProjPromptReferenceIdeal.main_arg5)
          ∧ r.2.mem ((c.tc : Thread Cert.ProjPromptReferenceIdeal.nD Cert.ProjPromptReferenceIdeal.τ).loc Cert.ProjPromptReferenceIdeal.main_arg6) = m' ((c.tc : Thread Cert.ProjPromptReferenceIdeal.nD Cert.ProjPromptReferenceIdeal.τ).loc Cert.ProjPromptReferenceIdeal.main_arg6))

def Claim : Prop :=
  ∃ (hMoe : Cert.Moe.Facts) (hMoeIdeal : Cert.MoeIdeal.Facts) (hMoeReferenceIdeal : Cert.MoeReferenceIdeal.Facts) (hProjSample : Cert.ProjSample.Facts) (hProjSampleIdeal : Cert.ProjSampleIdeal.Facts) (hProjSampleReferenceIdeal : Cert.ProjSampleReferenceIdeal.Facts) (hProjPrompt : Cert.ProjPrompt.Facts) (hProjPromptIdeal : Cert.ProjPromptIdeal.Facts) (hProjPromptReferenceIdeal : Cert.ProjPromptReferenceIdeal.Facts),
    quiescent_Moe (hMoe := hMoe)
    ∧ quiescent_MoeIdeal (hMoeIdeal := hMoeIdeal)
    ∧ quiescent_MoeReferenceIdeal (hMoeReferenceIdeal := hMoeReferenceIdeal)
    ∧ quiescent_ProjSample (hProjSample := hProjSample)
    ∧ quiescent_ProjSampleIdeal (hProjSampleIdeal := hProjSampleIdeal)
    ∧ quiescent_ProjSampleReferenceIdeal (hProjSampleReferenceIdeal := hProjSampleReferenceIdeal)
    ∧ quiescent_ProjPrompt (hProjPrompt := hProjPrompt)
    ∧ quiescent_ProjPromptIdeal (hProjPromptIdeal := hProjPromptIdeal)
    ∧ quiescent_ProjPromptReferenceIdeal (hProjPromptReferenceIdeal := hProjPromptReferenceIdeal)
    ∧ preserves_Moe_MoeIdeal
    ∧ algebraic_MoeIdeal_MoeReferenceIdeal (hMoeIdeal := hMoeIdeal) (hMoeReferenceIdeal := hMoeReferenceIdeal)
    ∧ preserves_ProjSample_ProjSampleIdeal
    ∧ algebraic_ProjSampleIdeal_ProjSampleReferenceIdeal (hProjSampleIdeal := hProjSampleIdeal) (hProjSampleReferenceIdeal := hProjSampleReferenceIdeal)
    ∧ preserves_ProjPrompt_ProjPromptIdeal
    ∧ algebraic_ProjPromptIdeal_ProjPromptReferenceIdeal (hProjPromptIdeal := hProjPromptIdeal) (hProjPromptReferenceIdeal := hProjPromptReferenceIdeal)
-- ==== Moe.lean ====
abbrev S32768x1024 : Shape := ⟨2, ![32768, 1024]⟩
abbrev S32768x128 : Shape := ⟨2, ![32768, 128]⟩
abbrev S1x4x8x1024x256 : Shape := ⟨5, ![1, 4, 8, 1024, 256]⟩
abbrev S1x4x8x256x1024 : Shape := ⟨5, ![1, 4, 8, 256, 1024]⟩
abbrev S4x8x1024x256 : Shape := ⟨4, ![4, 8, 1024, 256]⟩
abbrev S32x1024x256 : Shape := ⟨3, ![32, 1024, 256]⟩
abbrev S4x8x256x1024 : Shape := ⟨4, ![4, 8, 256, 1024]⟩
abbrev S32x256x1024 : Shape := ⟨3, ![32, 256, 1024]⟩
abbrev S1024x1024 : Shape := ⟨2, ![1024, 1024]⟩
abbrev S1024x128 : Shape := ⟨2, ![1024, 128]⟩
abbrev S1x1024x256 : Shape := ⟨3, ![1, 1024, 256]⟩
abbrev S1x256x1024 : Shape := ⟨3, ![1, 256, 1024]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩

abbrev nBuf : Space → Nat
  | .hbm => 16
  | .vmem => 15
  | .smem => 0
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S32768x1024, .f32⟩
  | .hbm, ⟨3, _⟩ => ⟨S1x4x8x1024x256, .f32⟩
  | .hbm, ⟨4, _⟩ => ⟨S1x4x8x1024x256, .f32⟩
  | .hbm, ⟨5, _⟩ => ⟨S1x4x8x256x1024, .f32⟩
  | .hbm, ⟨6, _⟩ => ⟨S4x8x1024x256, .f32⟩
  | .hbm, ⟨7, _⟩ => ⟨S32x1024x256, .f32⟩
  | .hbm, ⟨8, _⟩ => ⟨S32x1024x256, .bf16⟩
  | .hbm, ⟨9, _⟩ => ⟨S4x8x1024x256, .f32⟩
  | .hbm, ⟨10, _⟩ => ⟨S32x1024x256, .f32⟩
  | .hbm, ⟨11, _⟩ => ⟨S32x1024x256, .bf16⟩
  | .hbm, ⟨12, _⟩ => ⟨S4x8x256x1024, .f32⟩
  | .hbm, ⟨13, _⟩ => ⟨S32x256x1024, .f32⟩
  | .hbm, ⟨14, _⟩ => ⟨S32x256x1024, .bf16⟩
  | .hbm, ⟨15, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x256x1024, .bf16⟩
  | .local _ .vmem, ⟨11, _⟩ => ⟨S1x256x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v33 : BitVec 1 := Scalar.cmpi .eq arg1 c31_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MoeReferenceIdeal.lean ====
abbrev S32768x1024 : Shape := ⟨2, ![32768, 1024]⟩
abbrev S32768x128 : Shape := ⟨2, ![32768, 128]⟩
abbrev S1x4x8x1024x256 : Shape := ⟨5, ![1, 4, 8, 1024, 256]⟩
abbrev S1x4x8x256x1024 : Shape := ⟨5, ![1, 4, 8, 256, 1024]⟩
abbrev S32768x32 : Shape := ⟨2, ![32768, 32]⟩
abbrev S32768x4x8 : Shape := ⟨3, ![32768, 4, 8]⟩
abbrev S4x8x1024x256 : Shape := ⟨4, ![4, 8, 1024, 256]⟩
abbrev S32768x4x8x256 : Shape := ⟨4, ![32768, 4, 8, 256]⟩
abbrev S_ : Shape := ⟨0, ![]⟩
abbrev S32768x4x8x1 : Shape := ⟨4, ![32768, 4, 8, 1]⟩
abbrev S4x8x256x1024 : Shape := ⟨4, ![4, 8, 256, 1024]⟩
abbrev S4x8x1024x32768 : Shape := ⟨4, ![4, 8, 1024, 32768]⟩
abbrev S32768x4x8x1024 : Shape := ⟨4, ![32768, 4, 8, 1024]⟩
abbrev S32768x4x1024 : Shape := ⟨3, ![32768, 4, 1024]⟩

abbrev nBuf : Space → Nat
  | .hbm => 34
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S32768x1024, .f32⟩
  | .hbm, ⟨3, _⟩ => ⟨S1x4x8x1024x256, .f32⟩
  | .hbm, ⟨4, _⟩ => ⟨S1x4x8x1024x256, .f32⟩
  | .hbm, ⟨5, _⟩ => ⟨S1x4x8x256x1024, .f32⟩
  | .hbm, ⟨6, _⟩ => ⟨S32768x1024, .f32⟩
  | .hbm, ⟨7, _⟩ => ⟨S32768x32, .f32⟩
  | .hbm, ⟨8, _⟩ => ⟨S32768x4x8, .f32⟩
  | .hbm, ⟨9, _⟩ => ⟨S4x8x1024x256, .f32⟩
  | .hbm, ⟨10, _⟩ => ⟨S32768x4x8x256, .f32⟩
  | .hbm, ⟨11, _⟩ => ⟨S4x8x1024x256, .f32⟩
  | .hbm, ⟨12, _⟩ => ⟨S32768x4x8x256, .f32⟩
  | .hbm, ⟨13, _⟩ => ⟨S32768x4x8x256, .f32⟩
  | .hbm, ⟨14, _⟩ => ⟨S32768x4x8x256, .f32⟩
  | .hbm, ⟨15, _⟩ => ⟨S_, .f32⟩
  | .hbm, ⟨16, _⟩ => ⟨S32768x4x8x256, .f32⟩
  | .hbm, ⟨17, _⟩ => ⟨S32768x4x8x256, .f32⟩
  | .hbm, ⟨18, _⟩ => ⟨S_, .f32⟩
  | .hbm, ⟨19, _⟩ => ⟨S32768x4x8x256, .f32⟩
  | .hbm, ⟨20, _⟩ => ⟨S32768x4x8x256, .f32⟩
  | .hbm, ⟨21, _⟩ => ⟨S32768x4x8x256, .f32⟩
  | .hbm, ⟨22, _⟩ => ⟨S32768x4x8x256, .f32⟩
  | .hbm, ⟨23, _⟩ => ⟨S32768x4x8x1, .f32⟩
  | .hbm, ⟨24, _⟩ => ⟨S32768x4x8x256, .f32⟩
  | .hbm, ⟨25, _⟩ => ⟨S32768x4x8x256, .f32⟩
  | .hbm, ⟨26, _⟩ => ⟨S4x8x256x1024, .f32⟩
  | .hbm, ⟨27, _⟩ => ⟨S4x8x1024x32768, .f32⟩
  | .hbm, ⟨28, _⟩ => ⟨S32768x4x8x1024, .f32⟩
  | .hbm, ⟨29, _⟩ => ⟨S_, .f32⟩
  | .hbm, ⟨30, _⟩ => ⟨S32768x4x1024, .f32⟩
  | .hbm, ⟨31, _⟩ => ⟨S_, .f32⟩
  | .hbm, ⟨32, _⟩ => ⟨S32768x1024, .f32⟩
  | .hbm, ⟨33, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== ProjSample.lean ====
abbrev S32x32x1024 : Shape := ⟨3, ![32, 32, 1024]⟩
abbrev S1x1024 : Shape := ⟨2, ![1, 1024]⟩
abbrev S1x1024x2304 : Shape := ⟨3, ![1, 1024, 2304]⟩
abbrev S1x64 : Shape := ⟨2, ![1, 64]⟩
abbrev S8 : Shape := ⟨1, ![8]⟩
abbrev S256x256 : Shape := ⟨2, ![256, 256]⟩
abbrev S1024x2304 : Shape := ⟨2, ![1024, 2304]⟩
abbrev S1024x512 : Shape := ⟨2, ![1024, 512]⟩
abbrev S1024x8x64 : Shape := ⟨3, ![1024, 8, 64]⟩
abbrev S_ : Shape := ⟨0, ![]⟩
abbrev S8x1 : Shape := ⟨2, ![8, 1]⟩
abbrev S1024x128 : Shape := ⟨2, ![1024, 128]⟩
abbrev S64 : Shape := ⟨1, ![64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S1664 : Shape := ⟨1, ![1664]⟩
abbrev S1x1664 : Shape := ⟨2, ![1, 1664]⟩
abbrev S1024 : Shape := ⟨1, ![1024]⟩
abbrev S1024x1024 : Shape := ⟨2, ![1024, 1024]⟩
abbrev S32 : Shape := ⟨1, ![32]⟩
abbrev S1x32 : Shape := ⟨2, ![1, 32]⟩
abbrev S16x32 : Shape := ⟨2, ![16, 32]⟩
abbrev S512x1 : Shape := ⟨2, ![512, 1]⟩
abbrev S1x8 : Shape := ⟨2, ![1, 8]⟩
abbrev S512x8 : Shape := ⟨2, ![512, 8]⟩
abbrev S512x48 : Shape := ⟨2, ![512, 48]⟩
abbrev S512x64 : Shape := ⟨2, ![512, 64]⟩
abbrev S512x56 : Shape := ⟨2, ![512, 56]⟩
abbrev S1x512x1x64 : Shape := ⟨4, ![1, 512, 1, 64]⟩
abbrev S1x512x2x64 : Shape := ⟨4, ![1, 512, 2, 64]⟩
abbrev S512x128 : Shape := ⟨2, ![512, 128]⟩
abbrev S512x1024 : Shape := ⟨2, ![512, 1024]⟩
abbrev S512x512 : Shape := ⟨2, ![512, 512]⟩
abbrev S512x256 : Shape := ⟨2, ![512, 256]⟩
abbrev S1x512 : Shape := ⟨2, ![1, 512]⟩
abbrev S128x128 : Shape := ⟨2, ![128, 128]⟩
abbrev S1x128 : Shape := ⟨2, ![1, 128]⟩

abbrev nBuf : Space → Nat
  | .hbm => 110
  | .vmem => 29
  | .smem => 0
  | _ => 0

abbrev bufTy : (tb : Table) → Fin (tcTables nBuf tb) → BufTy
  | .hbm, ⟨0, _⟩ => ⟨S32x32x1024, .f32⟩
  | .hbm, ⟨1, _⟩ => ⟨S1x1024, .f32⟩
  | .hbm, ⟨2, _⟩ => ⟨S1x1024x2304, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S8, .i32⟩
  | .hbm, ⟨8, _⟩ => ⟨S256x256, .bf16⟩
  | .hbm, ⟨9, _⟩ => ⟨S1024x2304, .f32⟩
  | .hbm, ⟨10, _⟩ => ⟨S1024x512, .f32⟩
  | .hbm, ⟨11, _⟩ => ⟨S1024x8x64, .f32⟩
  | .hbm, ⟨12, _⟩ => ⟨S_, .i32⟩
  | .hbm, ⟨13, _⟩ => ⟨S8, .i32⟩
  | .hbm, ⟨14, _⟩ => ⟨S8, .i1⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8, .i32⟩
  | .hbm, ⟨19, _⟩ => ⟨S8x1, .i32⟩
  | .hbm, ⟨20, _⟩ => ⟨S1024x8x64, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x128, .f32⟩
  | .hbm, ⟨25, _⟩ => ⟨S1024x128, .f32⟩
  | .hbm, ⟨26, _⟩ => ⟨S1024x512, .f32⟩
  | .hbm, ⟨27, _⟩ => ⟨S1024x2304, .f32⟩
  | .hbm, ⟨28, _⟩ => ⟨S1024x2304, .bf16⟩
  | .hbm, ⟨29, _⟩ => ⟨S64, .f32⟩
  | .hbm, ⟨30, _⟩ => ⟨S1x64, .f32⟩
  | .hbm, ⟨31, _⟩ => ⟨S8x64, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S64, .f32⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S64, .f32⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S64, .f32⟩
  | .hbm, ⟨48, _⟩ => ⟨S1x64, .f32⟩
  | .hbm, ⟨49, _⟩ => ⟨S2x64, .f32⟩
  | .hbm, ⟨50, _⟩ => ⟨S128, .f32⟩
  | .hbm, ⟨51, _⟩ => ⟨S1664, .f32⟩
  | .hbm, ⟨52, _⟩ => ⟨S1x1664, .f32⟩
  | .hbm, ⟨53, _⟩ => ⟨S1024, .f32⟩
  | .hbm, ⟨54, _⟩ => ⟨S1x1024, .f32⟩
  | .hbm, ⟨55, _⟩ => ⟨S1024x1024, .f32⟩
  | .hbm, ⟨56, _⟩ => ⟨S32, .i32⟩
  | .hbm, ⟨57, _⟩ => ⟨S_, .i32⟩
  | .hbm, ⟨58, _⟩ => ⟨S32, .i32⟩
  | .hbm, ⟨59, _⟩ => ⟨S32, .i32⟩
  | .hbm, ⟨60, _⟩ => ⟨S1x32, .i32⟩
  | .hbm, ⟨61, _⟩ => ⟨S16x32, .i32⟩
  | .hbm, ⟨62, _⟩ => ⟨S512, .i32⟩
  | .hbm, ⟨63, _⟩ => ⟨S8, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S512, .f32⟩
  | .hbm, ⟨72, _⟩ => ⟨S512x1, .f32⟩
  | .hbm, ⟨73, _⟩ => ⟨S1x8, .f32⟩
  | .hbm, ⟨74, _⟩ => ⟨S512x8, .f32⟩
  | .hbm, ⟨75, _⟩ => ⟨S512x8, .f32⟩
  | .hbm, ⟨76, _⟩ => ⟨S512x8, .f32⟩
  | .hbm, ⟨77, _⟩ => ⟨S512x8, .f32⟩
  | .hbm, ⟨78, _⟩ => ⟨S512x8, .f32⟩
  | .hbm, ⟨79, _⟩ => ⟨S_, .f32⟩
  | .hbm, ⟨80, _⟩ => ⟨S512x48, .f32⟩
  | .hbm, ⟨81, _⟩ => ⟨S512x64, .f32⟩
  | .hbm, ⟨82, _⟩ => ⟨S_, .f32⟩
  | .hbm, ⟨83, _⟩ => ⟨S512x8, .f32⟩
  | .hbm, ⟨84, _⟩ => ⟨S_, .f32⟩
  | .hbm, ⟨85, _⟩ => ⟨S512x48, .f32⟩
  | .hbm, ⟨86, _⟩ => ⟨S512x64, .f32⟩
  | .hbm, ⟨87, _⟩ => ⟨S512x8, .f32⟩
  | .hbm, ⟨88, _⟩ => ⟨S_, .f32⟩
  | .hbm, ⟨89, _⟩ => ⟨S512x56, .f32⟩
  | .hbm, ⟨90, _⟩ => ⟨S512x64, .f32⟩
  | .hbm, ⟨91, _⟩ => ⟨S1x512x1x64, .f32⟩
  | .hbm, ⟨92, _⟩ => ⟨S1x512x2x64, .f32⟩
  | .hbm, ⟨93, _⟩ => ⟨S512x128, .f32⟩
  | .hbm, ⟨94, _⟩ => ⟨S1x512x1x64, .f32⟩
  | .hbm, ⟨95, _⟩ => ⟨S1x512x2x64, .f32⟩
  | .hbm, ⟨96, _⟩ => ⟨S512x128, .f32⟩
  | .hbm, ⟨97, _⟩ => ⟨S1x512x1x64, .f32⟩
  | .hbm, ⟨98, _⟩ => ⟨S1x512x2x64, .f32⟩
  | .hbm, ⟨99, _⟩ => ⟨S512x128, .f32⟩
  | .hbm, ⟨100, _⟩ => ⟨S1024x512, .bf16⟩
  | .hbm, ⟨101, _⟩ => ⟨S1024x512, .bf16⟩
  | .hbm, ⟨102, _⟩ => ⟨S1024x512, .bf16⟩
  | .hbm, ⟨103, _⟩ => ⟨S1024x128, .bf16⟩
  | .hbm, ⟨104, _⟩ => ⟨S1024x128, .bf16⟩
  | .hbm, ⟨105, _⟩ => ⟨S1024x512, .bf16⟩
  | .hbm, ⟨106, _⟩ => ⟨S1024x128, .f32⟩
  | .hbm, ⟨107, _⟩ => ⟨S1024x128, .f32⟩
  | .hbm, ⟨108, _⟩ => ⟨S1024x512, .f32⟩
  | .hbm, ⟨109, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S1x1664, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S256x256, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x512, .bf16⟩
  | .local _ .vmem, ⟨20, _⟩ => ⟨S512x512, .bf16⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80_0 : Ref sig .tc := ⟨.hbm, 100, rfl⟩
abbrev main_v80_1 : Ref sig .tc := ⟨.hbm, 101, rfl⟩
abbrev main_v80_2 : Ref sig .tc := ⟨.hbm, 102, rfl⟩
abbrev main_v80_3 : Ref sig .tc := ⟨.hbm, 103, rfl⟩
abbrev main_v80_4 : Ref sig .tc := ⟨.hbm, 104, rfl⟩
abbrev main_v80_5 : Ref sig .tc := ⟨.hbm, 105, rfl⟩
abbrev main_v80_6 : Ref sig .tc := ⟨.hbm, 106, rfl⟩
abbrev main_v80_7 : Ref sig .tc := ⟨.hbm, 107, rfl⟩
abbrev main_v80_8 : Ref sig .tc := ⟨.hbm, 108, rfl⟩
abbrev main_v80_9 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjSampleReferenceIdeal.lean ====
abbrev S32x32x1024 : Shape := ⟨3, ![32, 32, 1024]⟩
abbrev S1x1024 : Shape := ⟨2, ![1, 1024]⟩
abbrev S1x1024x2304 : Shape := ⟨3, ![1, 1024, 2304]⟩
abbrev S1x64 : Shape := ⟨2, ![1, 64]⟩
abbrev S32 : Shape := ⟨1, ![32]⟩
abbrev S_ : Shape := ⟨0, ![]⟩
abbrev S8 : Shape := ⟨1, ![8]⟩
abbrev S32x1 : Shape := ⟨2, ![32, 1]⟩
abbrev S1x8 : Shape := ⟨2, ![1, 8]⟩
abbrev S32x8 : Shape := ⟨2, ![32, 8]⟩
abbrev S1x32x1x8 : Shape := ⟨4, ![1, 32, 1, 8]⟩
abbrev S1024 : Shape := ⟨1, ![1024]⟩
abbrev S32x32 : Shape := ⟨2, ![32, 32]⟩
abbrev S32x32x1 : Shape := ⟨3, ![32, 32, 1]⟩
abbrev S1x1x1024 : Shape := ⟨3, ![1, 1, 1024]⟩
abbrev S1024x2304 : Shape := ⟨2, ![1024, 2304]⟩
abbrev S32x32x2304 : Shape := ⟨3, ![32, 32, 2304]⟩
abbrev S32x32x512 : Shape := ⟨3, ![32, 32, 512]⟩
abbrev S32x32x128 : Shape := ⟨3, ![32, 32, 128]⟩
abbrev S32x32x8x64 : Shape := ⟨4, ![32, 32, 8, 64]⟩
abbrev S64 : Shape := ⟨1, ![64]⟩
abbrev S32x32x8 : Shape := ⟨3, ![32, 32, 8]⟩
abbrev S32x32x8x1 : Shape := ⟨4, ![32, 32, 8, 1]⟩
abbrev S1x1x1x64 : Shape := ⟨4, ![1, 1, 1, 64]⟩
abbrev S32x32x2x64 : Shape := ⟨4, ![32, 32, 2, 64]⟩
abbrev S32x32x2 : Shape := ⟨3, ![32, 32, 2]⟩
abbrev S32x32x2x1 : Shape := ⟨4, ![32, 32, 2, 1]⟩
abbrev S32x32x2x8 : Shape := ⟨4, ![32, 32, 2, 8]⟩
abbrev S32x32x2x48 : Shape := ⟨4, ![32, 32, 2, 48]⟩
abbrev S1024x512 : Shape := ⟨2, ![1024, 512]⟩
abbrev S1024x128 : Shape := ⟨2, ![1024, 128]⟩

abbrev nBuf : Space → Nat
  | .hbm => 139
  | .vmem => 0
  | .smem => 0
  | _ => 0

abbrev hbmTy0_0 (i : Nat) : BufTy := match i % 128 with
  | 0 => ⟨S32x32x1024, .f32⟩
  | 1 => ⟨S1x1024, .f32⟩
  | 2 => ⟨S1x1024x2304, .f32⟩
  | 3 => ⟨S1x64, .f32⟩
  | 4 => ⟨S1x64, .f32⟩
  | 5 => ⟨S1x64, .f32⟩
  | 6 => ⟨S1x64, .f32⟩
  | 7 => ⟨S32, .i32⟩
  | 8 => ⟨S_, .i32⟩
  | 9 => ⟨S32, .i32⟩
  | 10 => ⟨S32, .i32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S32, .f32⟩
  | 20 => ⟨S32x1, .f32⟩
  | 21 => ⟨S1x8, .f32⟩
  | 22 => ⟨S32x8, .f32⟩
  | 23 => ⟨S32x8, .f32⟩
  | 24 => ⟨S32x8, .f32⟩
  | 25 => ⟨S32x8, .f32⟩
  | 26 => ⟨S1x32x1x8, .f32⟩
  | 27 => ⟨S32x8, .f32⟩
  | 28 => ⟨S1x32x1x8, .f32⟩
  | 29 => ⟨S1024, .f32⟩
  | 30 => ⟨S32x32x1024, .f32⟩
  | 31 => ⟨S_, .f32⟩
  | 32 => ⟨S32x32, .f32⟩
  | 33 => ⟨S32x32x1, .f32⟩
  | 34 => ⟨S_, .f32⟩
  | 35 => ⟨S32x32x1, .f32⟩
  | 36 => ⟨S32x32x1, .f32⟩
  | 37 => ⟨S_, .f32⟩
  | 38 => ⟨S32x32x1, .f32⟩
  | 39 => ⟨S32x32x1, .f32⟩
  | 40 => ⟨S32x32x1, .f32⟩
  | 41 => ⟨S32x32x1024, .f32⟩
  | 42 => ⟨S32x32x1024, .f32⟩
  | 43 => ⟨S1x1x1024, .f32⟩
  | 44 => ⟨S32x32x1024, .f32⟩
  | 45 => ⟨S32x32x1024, .f32⟩
  | 46 => ⟨S1024x2304, .f32⟩
  | 47 => ⟨S32x32x2304, .f32⟩
  | 48 => ⟨S32x32x512, .f32⟩
  | 49 => ⟨S32x32x128, .f32⟩
  | 50 => ⟨S32x32x128, .f32⟩
  | 51 => ⟨S32x32x512, .f32⟩
  | 52 => ⟨S32x32x512, .f32⟩
  | 53 => ⟨S32x32x512, .f32⟩
  | 54 => ⟨S32x32x8x64, .f32⟩
  | 55 => ⟨S64, .f32⟩
  | 56 => ⟨S32x32x8x64, .f32⟩
  | 57 => ⟨S_, .f32⟩
  | 58 => ⟨S32x32x8, .f32⟩
  | 59 => ⟨S32x32x8x1, .f32⟩
  | 60 => ⟨S_, .f32⟩
  | 61 => ⟨S32x32x8x1, .f32⟩
  | 62 => ⟨S32x32x8x1, .f32⟩
  | 63 => ⟨S_, .f32⟩
  | 64 => ⟨S32x32x8x1, .f32⟩
  | 65 => ⟨S32x32x8x1, .f32⟩
  | 66 => ⟨S32x32x8x1, .f32⟩
  | 67 => ⟨S32x32x8x64, .f32⟩
  | 68 => ⟨S32x32x8x64, .f32⟩
  | 69 => ⟨S1x1x1x64, .f32⟩
  | 70 => ⟨S32x32x8x64, .f32⟩
  | 71 => ⟨S32x32x8x64, .f32⟩
  | 72 => ⟨S32x32x2x64, .f32⟩
  | 73 => ⟨S64, .f32⟩
  | 74 => ⟨S32x32x2x64, .f32⟩
  | 75 => ⟨S_, .f32⟩
  | 76 => ⟨S32x32x2, .f32⟩
  | 77 => ⟨S32x32x2x1, .f32⟩
  | 78 => ⟨S_, .f32⟩
  | 79 => ⟨S32x32x2x1, .f32⟩
  | 80 => ⟨S32x32x2x1, .f32⟩
  | 81 => ⟨S_, .f32⟩
  | 82 => ⟨S32x32x2x1, .f32⟩
  | 83 => ⟨S32x32x2x1, .f32⟩
  | 84 => ⟨S32x32x2x1, .f32⟩
  | 85 => ⟨S32x32x2x64, .f32⟩
  | 86 => ⟨S32x32x2x64, .f32⟩
  | 87 => ⟨S1x1x1x64, .f32⟩
  | 88 => ⟨S32x32x2x64, .f32⟩
  | 89 => ⟨S32x32x2x64, .f32⟩
  | 90 => ⟨S32x32x2x8, .f32⟩
  | 91 => ⟨S32x32x2x8, .f32⟩
  | 92 => ⟨S32x32x2x8, .f32⟩
  | 93 => ⟨S32x32x2x8, .f32⟩
  | 94 => ⟨S32x32x2x8, .f32⟩
  | 95 => ⟨S32x32x2x8, .f32⟩
  | 96 => ⟨S32x32x2x8, .f32⟩
  | 97 => ⟨S32x32x2x8, .f32⟩
  | 98 => ⟨S32x32x2x8, .f32⟩
  | 99 => ⟨S32x32x2x8, .f32⟩
  | 100 => ⟨S32x32x2x8, .f32⟩
  | 101 => ⟨S32x32x2x8, .f32⟩
  | 102 => ⟨S32x32x2x48, .f32⟩
  | 103 => ⟨S32x32x2x64, .f32⟩
  | 104 => ⟨S32x32x8x64, .f32⟩
  | 105 => ⟨S64, .f32⟩
  | 106 => ⟨S32x32x8x64, .f32⟩
  | 107 => ⟨S_, .f32⟩
  | 108 => ⟨S32x32x8, .f32⟩
  | 109 => ⟨S32x32x8x1, .f32⟩
  | 110 => ⟨S_, .f32⟩
  | 111 => ⟨S32x32x8x1, .f32⟩
  | 112 => ⟨S32x32x8x1, .f32⟩
  | 113 => ⟨S_, .f32⟩
  | 114 => ⟨S32x32x8x1, .f32⟩
  | 115 => ⟨S32x32x8x1, .f32⟩
  | 116 => ⟨S32x32x8x1, .f32⟩
  | 117 => ⟨S32x32x8x64, .f32⟩
  | 118 => ⟨S32x32x8x64, .f32⟩
  | 119 => ⟨S1x1x1x64, .f32⟩
  | 120 => ⟨S32x32x8x64, .f32⟩
  | 121 => ⟨S32x32x8x64, .f32⟩
  | 122 => ⟨S_, .f32⟩
  | 123 => ⟨S32x32x8x64, .f32⟩
  | 124 => ⟨S32x32x8x64, .f32⟩
  | 125 => ⟨S1024x512, .f32⟩
  | 126 => ⟨S1024x512, .bf16⟩
  | 127 => ⟨S1024x512, .f32⟩
  | _ => ⟨S32x32x1024, .f32⟩

abbrev hbmTy0_1 (i : Nat) : BufTy := match i % 128 with
  | 0 => ⟨S1024x512, .bf16⟩
  | 1 => ⟨S1024x128, .f32⟩
  | 2 => ⟨S1024x128, .bf16⟩
  | 3 => ⟨S1024x128, .f32⟩
  | 4 => ⟨S1024x128, .bf16⟩
  | 5 => ⟨S1024x512, .f32⟩
  | 6 => ⟨S1024x512, .bf16⟩
  | 7 => ⟨S1024x128, .f32⟩
  | 8 => ⟨S1024x128, .f32⟩
  | 9 => ⟨S1024x512, .f32⟩
  | 10 => ⟨S1024x512, .f32⟩
  | _ => ⟨S32x32x1024, .f32⟩

abbrev hbmTy (i : Nat) : BufTy := match i / 128 with
  | 0 => hbmTy0_0 i
  | 1 => hbmTy0_1 i
  | _ => ⟨S32x32x1024, .f32⟩

abbrev bufTy : (tb : Table) → Fin (tcTables nBuf tb) → BufTy
  | .hbm, ⟨i, _⟩ => hbmTy i
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_10 : Ref sig .tc := ⟨.hbm, 107, rfl⟩
abbrev main_v88 : Ref sig .tc := ⟨.hbm, 108, rfl⟩
abbrev main_v89 : Ref sig .tc := ⟨.hbm, 109, rfl⟩
abbrev main_cst_11 : Ref sig .tc := ⟨.hbm, 110, rfl⟩
abbrev main_v90 : Ref sig .tc := ⟨.hbm, 111, rfl⟩
abbrev main_v91 : Ref sig .tc := ⟨.hbm, 112, rfl⟩
abbrev main_cst_12 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_13 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩

abbrev nD : Nat := 1
abbrev τ : Topo := Topo.v7x

variable {F : FTy → Type} [FloatOps F]
-- ==== ProjPrompt.lean ====
abbrev S4x8192x1024 : Shape := ⟨3, ![4, 8192, 1024]⟩
abbrev S1x1024 : Shape := ⟨2, ![1, 1024]⟩
abbrev S1x1024x2304 : Shape := ⟨3, ![1, 1024, 2304]⟩
abbrev S1x64 : Shape := ⟨2, ![1, 64]⟩
abbrev S8 : Shape := ⟨1, ![8]⟩
abbrev S256x256 : Shape := ⟨2, ![256, 256]⟩
abbrev S1024x2304 : Shape := ⟨2, ![1024, 2304]⟩
abbrev S1024x512 : Shape := ⟨2, ![1024, 512]⟩
abbrev S1024x8x64 : Shape := ⟨3, ![1024, 8, 64]⟩
abbrev S_ : Shape := ⟨0, ![]⟩
abbrev S8x1 : Shape := ⟨2, ![8, 1]⟩
abbrev S1024x128 : Shape := ⟨2, ![1024, 128]⟩
abbrev S64 : Shape := ⟨1, ![64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S1664 : Shape := ⟨1, ![1664]⟩
abbrev S1x1664 : Shape := ⟨2, ![1, 1664]⟩
abbrev S1024 : Shape := ⟨1, ![1024]⟩
abbrev S32768x1024 : Shape := ⟨2, ![32768, 1024]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S32768x512 : Shape := ⟨2, ![32768, 512]⟩
abbrev S32768x128 : Shape := ⟨2, ![32768, 128]⟩
abbrev S512x128 : Shape := ⟨2, ![512, 128]⟩
abbrev S2048x512 : Shape := ⟨2, ![2048, 512]⟩
abbrev S512x1024 : Shape := ⟨2, ![512, 1024]⟩
abbrev S512x512 : Shape := ⟨2, ![512, 512]⟩
abbrev S128x128 : Shape := ⟨2, ![128, 128]⟩
abbrev S512x1 : Shape := ⟨2, ![512, 1]⟩
abbrev S512x256 : Shape := ⟨2, ![512, 256]⟩
abbrev S1x512 : Shape := ⟨2, ![1, 512]⟩
abbrev S1x128 : Shape := ⟨2, ![1, 128]⟩

abbrev nBuf : Space → Nat
  | .hbm => 104
  | .vmem => 32
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2304, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S8, .i32⟩
  | .hbm, ⟨8, _⟩ => ⟨S256x256, .bf16⟩
  | .hbm, ⟨9, _⟩ => ⟨S1024x2304, .f32⟩
  | .hbm, ⟨10, _⟩ => ⟨S1024x512, .f32⟩
  | .hbm, ⟨11, _⟩ => ⟨S1024x8x64, .f32⟩
  | .hbm, ⟨12, _⟩ => ⟨S_, .i32⟩
  | .hbm, ⟨13, _⟩ => ⟨S8, .i32⟩
  | .hbm, ⟨14, _⟩ => ⟨S8, .i1⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8, .i32⟩
  | .hbm, ⟨19, _⟩ => ⟨S8x1, .i32⟩
  | .hbm, ⟨20, _⟩ => ⟨S1024x8x64, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x128, .f32⟩
  | .hbm, ⟨25, _⟩ => ⟨S1024x128, .f32⟩
  | .hbm, ⟨26, _⟩ => ⟨S1024x512, .f32⟩
  | .hbm, ⟨27, _⟩ => ⟨S1024x2304, .f32⟩
  | .hbm, ⟨28, _⟩ => ⟨S1024x2304, .bf16⟩
  | .hbm, ⟨29, _⟩ => ⟨S64, .f32⟩
  | .hbm, ⟨30, _⟩ => ⟨S1x64, .f32⟩
  | .hbm, ⟨31, _⟩ => ⟨S8x64, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S64, .f32⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S64, .f32⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S64, .f32⟩
  | .hbm, ⟨48, _⟩ => ⟨S1x64, .f32⟩
  | .hbm, ⟨49, _⟩ => ⟨S2x64, .f32⟩
  | .hbm, ⟨50, _⟩ => ⟨S128, .f32⟩
  | .hbm, ⟨51, _⟩ => ⟨S1664, .f32⟩
  | .hbm, ⟨52, _⟩ => ⟨S1x1664, .f32⟩
  | .hbm, ⟨53, _⟩ => ⟨S1024, .f32⟩
  | .hbm, ⟨54, _⟩ => ⟨S1x1024, .f32⟩
  | .hbm, ⟨55, _⟩ => ⟨S32768x1024, .f32⟩
  | .hbm, ⟨56, _⟩ => ⟨S8192, .i32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S_, .f32⟩
  | .hbm, ⟨63, _⟩ => ⟨S8, .f32⟩
  | .hbm, ⟨64, _⟩ => ⟨S8, .f32⟩
  | .hbm, ⟨65, _⟩ => ⟨S8192, .f32⟩
  | .hbm, ⟨66, _⟩ => ⟨S8192x1, .f32⟩
  | .hbm, ⟨67, _⟩ => ⟨S1x8, .f32⟩
  | .hbm, ⟨68, _⟩ => ⟨S8192x8, .f32⟩
  | .hbm, ⟨69, _⟩ => ⟨S8192x8, .f32⟩
  | .hbm, ⟨70, _⟩ => ⟨S8192x8, .f32⟩
  | .hbm, ⟨71, _⟩ => ⟨S8192x8, .f32⟩
  | .hbm, ⟨72, _⟩ => ⟨S8192x8, .f32⟩
  | .hbm, ⟨73, _⟩ => ⟨S_, .f32⟩
  | .hbm, ⟨74, _⟩ => ⟨S8192x48, .f32⟩
  | .hbm, ⟨75, _⟩ => ⟨S8192x64, .f32⟩
  | .hbm, ⟨76, _⟩ => ⟨S_, .f32⟩
  | .hbm, ⟨77, _⟩ => ⟨S8192x8, .f32⟩
  | .hbm, ⟨78, _⟩ => ⟨S_, .f32⟩
  | .hbm, ⟨79, _⟩ => ⟨S8192x48, .f32⟩
  | .hbm, ⟨80, _⟩ => ⟨S8192x64, .f32⟩
  | .hbm, ⟨81, _⟩ => ⟨S8192x8, .f32⟩
  | .hbm, ⟨82, _⟩ => ⟨S_, .f32⟩
  | .hbm, ⟨83, _⟩ => ⟨S8192x56, .f32⟩
  | .hbm, ⟨84, _⟩ => ⟨S8192x64, .f32⟩
  | .hbm, ⟨85, _⟩ => ⟨S1x8192x1x64, .f32⟩
  | .hbm, ⟨86, _⟩ => ⟨S1x8192x2x64, .f32⟩
  | .hbm, ⟨87, _⟩ => ⟨S8192x128, .f32⟩
  | .hbm, ⟨88, _⟩ => ⟨S1x8192x1x64, .f32⟩
  | .hbm, ⟨89, _⟩ => ⟨S1x8192x2x64, .f32⟩
  | .hbm, ⟨90, _⟩ => ⟨S8192x128, .f32⟩
  | .hbm, ⟨91, _⟩ => ⟨S1x8192x1x64, .f32⟩
  | .hbm, ⟨92, _⟩ => ⟨S1x8192x2x64, .f32⟩
  | .hbm, ⟨93, _⟩ => ⟨S8192x128, .f32⟩
  | .hbm, ⟨94, _⟩ => ⟨S32768x512, .bf16⟩
  | .hbm, ⟨95, _⟩ => ⟨S32768x512, .bf16⟩
  | .hbm, ⟨96, _⟩ => ⟨S32768x512, .bf16⟩
  | .hbm, ⟨97, _⟩ => ⟨S32768x128, .bf16⟩
  | .hbm, ⟨98, _⟩ => ⟨S32768x128, .bf16⟩
  | .hbm, ⟨99, _⟩ => ⟨S32768x512, .bf16⟩
  | .hbm, ⟨100, _⟩ => ⟨S512x128, .f32⟩
  | .hbm, ⟨101, _⟩ => ⟨S512x128, .f32⟩
  | .hbm, ⟨102, _⟩ => ⟨S2048x512, .f32⟩
  | .hbm, ⟨103, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S1x1664, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S256x256, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S512x512, .bf16⟩
  | .local _ .vmem, ⟨23, _⟩ => ⟨S512x512, .bf16⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75_0 : Ref sig .tc := ⟨.hbm, 94, rfl⟩
abbrev main_v75_1 : Ref sig .tc := ⟨.hbm, 95, rfl⟩
abbrev main_v75_2 : Ref sig .tc := ⟨.hbm, 96, rfl⟩
abbrev main_v75_3 : Ref sig .tc := ⟨.hbm, 97, rfl⟩
abbrev main_v75_4 : Ref sig .tc := ⟨.hbm, 98, rfl⟩
abbrev main_v75_5 : Ref sig .tc := ⟨.hbm, 99, rfl⟩
abbrev main_v75_6 : Ref sig .tc := ⟨.hbm, 100, rfl⟩
abbrev main_v75_7 : Ref sig .tc := ⟨.hbm, 101, rfl⟩
abbrev main_v75_8 : Ref sig .tc := ⟨.hbm, 102, rfl⟩
abbrev main_v75_9 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c16_i32 : BitVec 32 := 16#32
  let c0_i32 : BitVec 32 := 0#32
  let v165 : BitVec 1 := Scalar.cmpi .eq c16_i32 c0_i32
  let c1_i32 : BitVec 32 := 1#32
  let v166 : BitVec 32 := Scalar.select v165 c1_i32 c16_i32
  let v167 : BitVec 32 := Scalar.remsi arg0 v166
  let c0_i32_76 : BitVec 32 := 0#32
  let v169 : BitVec 1 := Scalar.cmpi .slt v167 c0_i32_76
  let c0_i32_77 : BitVec 32 := 0#32
  let v170 : BitVec 1 := Scalar.cmpi .slt v166 c0_i32_77
  let v171 : BitVec 1 := Scalar.xori v169 v170
  let c0_i32_75 : BitVec 32 := 0#32
  let v168 : BitVec 1 := Scalar.cmpi .ne v167 c0_i32_75
  let v172 : BitVec 1 := Scalar.andi v171 v168
  let v173 : BitVec 32 := Scalar.addi v167 v166
  let v174 : BitVec 32 := Scalar.select v172 v173 v167
  let c15_i32 : BitVec 32 := 15#32
  let v175 : BitVec 1 := Scalar.cmpi .eq v174 c15_i32
  let v176 : BitVec 32 := Scalar.extui v175
  let c0_i32_78 : BitVec 32 := 0#32
  let v177 : BitVec 1 := Scalar.cmpi .ne v176 c0_i32_78
  v177

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_15 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_16 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_17 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjPromptReferenceIdeal.lean ====
abbrev S4x8192x1024 : Shape := ⟨3, ![4, 8192, 1024]⟩
abbrev S1x1024 : Shape := ⟨2, ![1, 1024]⟩
abbrev S1x1024x2304 : Shape := ⟨3, ![1, 1024, 2304]⟩
abbrev S1x64 : Shape := ⟨2, ![1, 64]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S1024x2304 : Shape := ⟨2, ![1024, 2304]⟩
abbrev S4x8192x2304 : Shape := ⟨3, ![4, 8192, 2304]⟩
abbrev S4x8192x512 : Shape := ⟨3, ![4, 8192, 512]⟩
abbrev S4x8192x128 : Shape := ⟨3, ![4, 8192, 128]⟩
abbrev S4x8192x8x64 : Shape := ⟨4, ![4, 8192, 8, 64]⟩
abbrev S64 : Shape := ⟨1, ![64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x2x64 : Shape := ⟨4, ![4, 8192, 2, 64]⟩
abbrev S4x8192x2 : Shape := ⟨3, ![4, 8192, 2]⟩
abbrev S4x8192x2x1 : Shape := ⟨4, ![4, 8192, 2, 1]⟩
abbrev S4x8192x2x8 : Shape := ⟨4, ![4, 8192, 2, 8]⟩
abbrev S4x8192x2x48 : Shape := ⟨4, ![4, 8192, 2, 48]⟩
abbrev S32768x512 : Shape := ⟨2, ![32768, 512]⟩
abbrev S32768x128 : Shape := ⟨2, ![32768, 128]⟩
abbrev S4x128x2x64 : Shape := ⟨4, ![4, 128, 2, 64]⟩
abbrev S512x128 : Shape := ⟨2, ![512, 128]⟩
abbrev S4x128x128 : Shape := ⟨3, ![4, 128, 128]⟩
abbrev S4x512x8x64 : Shape := ⟨4, ![4, 512, 8, 64]⟩
abbrev S2048x512 : Shape := ⟨2, ![2048, 512]⟩
abbrev S4x512x512 : Shape := ⟨3, ![4, 512, 512]⟩

abbrev nBuf : Space → Nat
  | .hbm => 140
  | .vmem => 0
  | .smem => 0
  | _ => 0

abbrev hbmTy0_0 (i : Nat) : BufTy := match i % 128 with
  | 0 => ⟨S4x8192x1024, .f32⟩
  | 1 => ⟨S1x1024, .f32⟩
  | 2 => ⟨S1x1024x2304, .f32⟩
  | 3 => ⟨S1x64, .f32⟩
  | 4 => ⟨S1x64, .f32⟩
  | 5 => ⟨S1x64, .f32⟩
  | 6 => ⟨S1x64, .f32⟩
  | 7 => ⟨S8192, .i32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8192, .f32⟩
  | 17 => ⟨S8192x1, .f32⟩
  | 18 => ⟨S1x8, .f32⟩
  | 19 => ⟨S8192x8, .f32⟩
  | 20 => ⟨S8192x8, .f32⟩
  | 21 => ⟨S8192x8, .f32⟩
  | 22 => ⟨S8192x8, .f32⟩
  | 23 => ⟨S1x8192x1x8, .f32⟩
  | 24 => ⟨S8192x8, .f32⟩
  | 25 => ⟨S1x8192x1x8, .f32⟩
  | 26 => ⟨S1024, .f32⟩
  | 27 => ⟨S4x8192x1024, .f32⟩
  | 28 => ⟨S_, .f32⟩
  | 29 => ⟨S4x8192, .f32⟩
  | 30 => ⟨S4x8192x1, .f32⟩
  | 31 => ⟨S_, .f32⟩
  | 32 => ⟨S4x8192x1, .f32⟩
  | 33 => ⟨S4x8192x1, .f32⟩
  | 34 => ⟨S_, .f32⟩
  | 35 => ⟨S4x8192x1, .f32⟩
  | 36 => ⟨S4x8192x1, .f32⟩
  | 37 => ⟨S4x8192x1, .f32⟩
  | 38 => ⟨S4x8192x1024, .f32⟩
  | 39 => ⟨S4x8192x1024, .f32⟩
  | 40 => ⟨S1x1x1024, .f32⟩
  | 41 => ⟨S4x8192x1024, .f32⟩
  | 42 => ⟨S4x8192x1024, .f32⟩
  | 43 => ⟨S1024x2304, .f32⟩
  | 44 => ⟨S4x8192x2304, .f32⟩
  | 45 => ⟨S4x8192x512, .f32⟩
  | 46 => ⟨S4x8192x128, .f32⟩
  | 47 => ⟨S4x8192x128, .f32⟩
  | 48 => ⟨S4x8192x512, .f32⟩
  | 49 => ⟨S4x8192x512, .f32⟩
  | 50 => ⟨S4x8192x512, .f32⟩
  | 51 => ⟨S4x8192x8x64, .f32⟩
  | 52 => ⟨S64, .f32⟩
  | 53 => ⟨S4x8192x8x64, .f32⟩
  | 54 => ⟨S_, .f32⟩
  | 55 => ⟨S4x8192x8, .f32⟩
  | 56 => ⟨S4x8192x8x1, .f32⟩
  | 57 => ⟨S_, .f32⟩
  | 58 => ⟨S4x8192x8x1, .f32⟩
  | 59 => ⟨S4x8192x8x1, .f32⟩
  | 60 => ⟨S_, .f32⟩
  | 61 => ⟨S4x8192x8x1, .f32⟩
  | 62 => ⟨S4x8192x8x1, .f32⟩
  | 63 => ⟨S4x8192x8x1, .f32⟩
  | 64 => ⟨S4x8192x8x64, .f32⟩
  | 65 => ⟨S4x8192x8x64, .f32⟩
  | 66 => ⟨S1x1x1x64, .f32⟩
  | 67 => ⟨S4x8192x8x64, .f32⟩
  | 68 => ⟨S4x8192x8x64, .f32⟩
  | 69 => ⟨S4x8192x2x64, .f32⟩
  | 70 => ⟨S64, .f32⟩
  | 71 => ⟨S4x8192x2x64, .f32⟩
  | 72 => ⟨S_, .f32⟩
  | 73 => ⟨S4x8192x2, .f32⟩
  | 74 => ⟨S4x8192x2x1, .f32⟩
  | 75 => ⟨S_, .f32⟩
  | 76 => ⟨S4x8192x2x1, .f32⟩
  | 77 => ⟨S4x8192x2x1, .f32⟩
  | 78 => ⟨S_, .f32⟩
  | 79 => ⟨S4x8192x2x1, .f32⟩
  | 80 => ⟨S4x8192x2x1, .f32⟩
  | 81 => ⟨S4x8192x2x1, .f32⟩
  | 82 => ⟨S4x8192x2x64, .f32⟩
  | 83 => ⟨S4x8192x2x64, .f32⟩
  | 84 => ⟨S1x1x1x64, .f32⟩
  | 85 => ⟨S4x8192x2x64, .f32⟩
  | 86 => ⟨S4x8192x2x64, .f32⟩
  | 87 => ⟨S4x8192x2x8, .f32⟩
  | 88 => ⟨S4x8192x2x8, .f32⟩
  | 89 => ⟨S4x8192x2x8, .f32⟩
  | 90 => ⟨S4x8192x2x8, .f32⟩
  | 91 => ⟨S4x8192x2x8, .f32⟩
  | 92 => ⟨S4x8192x2x8, .f32⟩
  | 93 => ⟨S4x8192x2x8, .f32⟩
  | 94 => ⟨S4x8192x2x8, .f32⟩
  | 95 => ⟨S4x8192x2x8, .f32⟩
  | 96 => ⟨S4x8192x2x8, .f32⟩
  | 97 => ⟨S4x8192x2x8, .f32⟩
  | 98 => ⟨S4x8192x2x8, .f32⟩
  | 99 => ⟨S4x8192x2x48, .f32⟩
  | 100 => ⟨S4x8192x2x64, .f32⟩
  | 101 => ⟨S4x8192x8x64, .f32⟩
  | 102 => ⟨S64, .f32⟩
  | 103 => ⟨S4x8192x8x64, .f32⟩
  | 104 => ⟨S_, .f32⟩
  | 105 => ⟨S4x8192x8, .f32⟩
  | 106 => ⟨S4x8192x8x1, .f32⟩
  | 107 => ⟨S_, .f32⟩
  | 108 => ⟨S4x8192x8x1, .f32⟩
  | 109 => ⟨S4x8192x8x1, .f32⟩
  | 110 => ⟨S_, .f32⟩
  | 111 => ⟨S4x8192x8x1, .f32⟩
  | 112 => ⟨S4x8192x8x1, .f32⟩
  | 113 => ⟨S4x8192x8x1, .f32⟩
  | 114 => ⟨S4x8192x8x64, .f32⟩
  | 115 => ⟨S4x8192x8x64, .f32⟩
  | 116 => ⟨S1x1x1x64, .f32⟩
  | 117 => ⟨S4x8192x8x64, .f32⟩
  | 118 => ⟨S4x8192x8x64, .f32⟩
  | 119 => ⟨S_, .f32⟩
  | 120 => ⟨S4x8192x8x64, .f32⟩
  | 121 => ⟨S4x8192x8x64, .f32⟩
  | 122 => ⟨S32768x512, .f32⟩
  | 123 => ⟨S32768x512, .bf16⟩
  | 124 => ⟨S32768x512, .f32⟩
  | 125 => ⟨S32768x512, .bf16⟩
  | 126 => ⟨S32768x128, .f32⟩
  | 127 => ⟨S32768x128, .bf16⟩
  | _ => ⟨S4x8192x1024, .f32⟩

abbrev hbmTy0_1 (i : Nat) : BufTy := match i % 128 with
  | 0 => ⟨S32768x128, .f32⟩
  | 1 => ⟨S32768x128, .bf16⟩
  | 2 => ⟨S32768x512, .f32⟩
  | 3 => ⟨S32768x512, .bf16⟩
  | 4 => ⟨S4x128x2x64, .f32⟩
  | 5 => ⟨S512x128, .f32⟩
  | 6 => ⟨S4x128x128, .f32⟩
  | 7 => ⟨S512x128, .f32⟩
  | 8 => ⟨S4x512x8x64, .f32⟩
  | 9 => ⟨S2048x512, .f32⟩
  | 10 => ⟨S4x512x512, .f32⟩
  | 11 => ⟨S2048x512, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_10 : Ref sig .tc := ⟨.hbm, 104, rfl⟩
abbrev main_v86 : Ref sig .tc := ⟨.hbm, 105, rfl⟩
abbrev main_v87 : Ref sig .tc := ⟨.hbm, 106, rfl⟩
abbrev main_cst_11 : Ref sig .tc := ⟨.hbm, 107, rfl⟩
abbrev main_v88 : Ref sig .tc := ⟨.hbm, 108, rfl⟩
abbrev main_v89 : Ref sig .tc := ⟨.hbm, 109, rfl⟩
abbrev main_cst_12 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_13 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩

abbrev nD : Nat := 1
abbrev τ : Topo := Topo.v7x

variable {F : FTy → Type} [FloatOps F]
-- ==== Proof.MoeSteps.lean ====
/-
  What one grid point of the expert kernel leaves behind, read off the generated run:
  the scratch holds "what it held, plus this expert's contribution", and the last expert's point
  writes the residual input plus the scratch.
-/
module

public import proofs.«01_k».proof.Proof.Gen.MoeIdeal.Value
public import Idealize.ShloMosaic.Lib.Tactic
public import Idealize.ShloMosaic.Lib.Pipeline.Value

@[expose] public section

set_option maxRecDepth 16384

noncomputable section

namespace Cert.MoeIdeal.Steps

open Cert.MoeIdeal Cert.MoeIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- One expert's contribution added to what the scratch held. -/
def step (i : grid0.Coords) (x : Vec F S1024x1024 .bf16) (g : Vec F S1024x128 .f32) (wg wu : Vec F S1x1024x256 .bf16)
    (wd : Vec F S1x256x1024 .bf16) (acc : Vec F S1024x1024 .f32) : Vec F S1024x1024 .f32 :=
  k0_pay1 (k0_pay4 i x wg wu g acc wd)

/-- A middle point leaves the scratch one step further. -/
theorem scratch_B (c : Dev nD) (i : grid0.Coords) (a2 : Memref sig .tc .vmem S1024x1024 .bf16) (h2 : a2.IsWhole)
    (a3 : Memref sig .tc .vmem S1024x128 .f32) (h3 : a3.IsWhole) (a4 : Memref sig .tc .vmem S1024x1024 .f32) (h4 : a4.IsWhole)
    (a5 : Memref sig .tc .vmem S1x1024x256 .bf16) (h5 : a5.IsWhole) (a6 : Memref sig .tc .vmem S1x1024x256 .bf16) (h6 : a6.IsWhole)
    (a7 : Memref sig .tc .vmem S1x256x1024 .bf16) (h7 : a7.IsWhole) (a8 : Memref sig .tc .vmem S1024x1024 .f32) (h8 : a8.IsWhole)
    (a9 : Memref sig .tc .vmem S1024x1024 .f32) (h9 : a9.IsWhole) (hc0 : ¬cond0_0 i) (hc1 : ¬cond0_1 i)
    (x0 : Vec F S1024x1024 .bf16) (x1 : Vec F S1024x128 .f32) (x2 : Vec F S1024x1024 .f32) (x3 x4 : Vec F S1x1024x256 .bf16)
    (x5 : Vec F S1x256x1024 .bf16) (xs : Vec F S1024x1024 .f32) :
    sout0_B_0 c i a2 h2 a3 h3 a4 h4 a5 h5 a6 h6 a7 h7 a8 h8 a9 h9 hc0 hc1 x0 x1 x2 x3 x4 x5 xs = step i x0 x1 x3 x4 x5 xs := by
  unfold sout0_B_0
  rw [View.read_writes_eq_canon _ _ _ (scover0_B_0 c i a2 h2 a3 h3 a4 h4 a5 h5 a6 h6 a7 h7 a8 h8 a9 h9 hc0 hc1 x0 x1 x2 x3 x4 x5 xs)]
  unfold kernelRun0_B
  dsimp only
  sl_unfold_words
  rw [View.canon_unit_zero zero2]
  simp only [View.readAt_eq_ld, h2.read_unread, h3.read_unread, h5.read_unread, h6.read_unread, h7.read_unread, h9.read_unread,
    View.ld_unit_zero (S := S1024x1024) zero2, View.ld_unit_zero (S := S1024x128) zero2,
    View.ld_unit_zero (S := S1x1024x256) zero3, View.ld_unit_zero (S := S1x256x1024) zero3]
  rfl

/-- The last point of a row tile leaves the scratch one step further, too. -/
theorem scratch_C (c : Dev nD) (i : grid0.Coords) (a2 : Memref sig .tc .vmem S1024x1024 .bf16) (h2 : a2.IsWhole)
    (a3 : Memref sig .tc .vmem S1024x128 .f32) (h3 : a3.IsWhole) (a4 : Memref sig .tc .vmem S1024x1024 .f32) (h4 : a4.IsWhole)
    (a5 : Memref sig .tc .vmem S1x1024x256 .bf16) (h5 : a5.IsWhole) (a6 : Memref sig .tc .vmem S1x1024x256 .bf16) (h6 : a6.IsWhole)
    (a7 : Memref sig .tc .vmem S1x256x1024 .bf16) (h7 : a7.IsWhole) (a8 : Memref sig .tc .vmem S1024x1024 .f32) (h8 : a8.IsWhole)
    (a9 : Memref sig .tc .vmem S1024x1024 .f32) (h9 : a9.IsWhole) (hc0 : ¬cond0_0 i) (hc1 : cond0_1 i)
    (x0 : Vec F S1024x1024 .bf16) (x1 : Vec F S1024x128 .f32) (x2 : Vec F S1024x1024 .f32) (x3 x4 : Vec F S1x1024x256 .bf16)
    (x5 : Vec F S1x256x1024 .bf16) (xs : Vec F S1024x1024 .f32) :
    out0_C_6 c i a2 h2 a3 h3 a4 h4 a5 h5 a6 h6 a7 h7 a8 h8 a9 h9 hc0 hc1 x0 x1 x2 x3 x4 x5 xs
      = k0_pay2 x2 (step i x0 x1 x3 x4 x5 xs) := by
  unfold out0_C_6
  rw [View.read_writes_eq_canon _ _ _ (cover0_C_6 c i a2 h2 a3 h3 a4 h4 a5 h5 a6 h6 a7 h7 a8 h8 a9 h9 hc0 hc1 x0 x1 x2 x3 x4 x5 xs)]
  unfold kernelRun0_C
  dsimp only
  sl_unfold_words
  rw [View.canon_unit_zero zero2]
  simp only [View.readAt_eq_ld, h2.read_unread, h3.read_unread, h4.read_unread, h5.read_unread, h6.read_unread, h7.read_unread, h9.read_unread,
    View.ld_unit_zero (S := S1024x1024) zero2, View.ld_unit_zero (S := S1024x128) zero2,
    View.ld_unit_zero (S := S1x1024x256) zero3, View.ld_unit_zero (S := S1x256x1024) zero3,
    View.readCov_unit_zero (S := S1024x1024) _ zero2]
  rfl

/-- The first point of a row tile clears the scratch and takes one step. -/
theorem scratch_A (c : Dev nD) (i : grid0.Coords) (a2 : Memref sig .tc .vmem S1024x1024 .bf16) (h2 : a2.IsWhole)
    (a3 : Memref sig .tc .vmem S1024x128 .f32) (h3 : a3.IsWhole) (a4 : Memref sig .tc .vmem S1024x1024 .f32) (h4 : a4.IsWhole)
    (a5 : Memref sig .tc .vmem S1x1024x256 .bf16) (h5 : a5.IsWhole) (a6 : Memref sig .tc .vmem S1x1024x256 .bf16) (h6 : a6.IsWhole)
    (a7 : Memref sig .tc .vmem S1x256x1024 .bf16) (h7 : a7.IsWhole) (a8 : Memref sig .tc .vmem S1024x1024 .f32) (h8 : a8.IsWhole)
    (a9 : Memref sig .tc .vmem S1024x1024 .f32) (h9 : a9.IsWhole) (hc0 : cond0_0 i) (hc1 : ¬cond0_1 i)
    (x0 : Vec F S1024x1024 .bf16) (x1 : Vec F S1024x128 .f32) (x2 : Vec F S1024x1024 .f32) (x3 x4 : Vec F S1x1024x256 .bf16)
    (x5 : Vec F S1x256x1024 .bf16) :
    sout0_A_0 c i a2 h2 a3 h3 a4 h4 a5 h5 a6 h6 a7 h7 a8 h8 a9 h9 hc0 hc1 x0 x1 x2 x3 x4 x5 = step i x0 x1 x3 x4 x5 k0_pay3 := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x1024) zero2]
  simp only [View.readAt_eq_ld, h2.read_unread, h3.read_unread, h5.read_unread, h6.read_unread, h7.read_unread,
    View.ld_unit_zero (S := S1024x1024) zero2, View.ld_unit_zero (S := S1024x128) zero2,
    View.ld_unit_zero (S := S1x1024x256) zero3, View.ld_unit_zero (S := S1x256x1024) zero3,
    View.readCov_unit_zero (S := S1024x1024) _ zero2]
  rfl

end Cert.MoeIdeal.Steps

end
-- ==== Proof.MoeBlocks.lean ====
/-
  One step of the expert kernel at an entry, and the blocks it reads as entries of the launched arrays.
-/
module

public import proofs.«01_k».proof.Proof.MoeSteps
public import Idealize.ShloMosaic.Lib.Pointwise
public import Idealize.ShloMosaic.PureOps.Ideal

@[expose] public section

set_option maxRecDepth 16384

noncomputable section

namespace Cert.MoeIdeal.Steps

open Cert.MoeIdeal Cert.MoeIdeal.Gen Idealize.ShloMosaic Idealize.ShloMosaic.TcCoe Idealize.SL.Sem

/-- The activated product of the two input projections. -/
def silu (a : EReal) : EReal := a * Ideal.logistic a

/-- A sum over lanes that keeps only the lane with a given number is that lane's entry. -/
theorem sum_select (k : Fin 32) (g : Fin 128 → EReal) :
    (∑ x : Fin 128, Scalar.select (IntOp.cmpi CmpIPredicate.eq (BitVec.ofNat 32 x.val) (Scalar.addi (BitVec.ofNat 32 k.val) 4#32)) (g x) 0)
      = g ⟨k.val + 4, by omega⟩ := by
  have key : ∀ x : Fin 128, (IntOp.cmpi CmpIPredicate.eq (BitVec.ofNat 32 x.val) (Scalar.addi (BitVec.ofNat 32 k.val) 4#32))
      = if x = (⟨k.val + 4, by omega⟩ : Fin 128) then 1#1 else 0#1 := by
    revert k; decide +kernel
  rw [Finset.sum_eq_single (⟨k.val + 4, by omega⟩ : Fin 128)]
  · rw [key, if_pos rfl]; rfl
  · intro x _ hx
    rw [key, if_neg hx]; rfl
  · intro h; exact absurd (Finset.mem_univ _) h

/-- One step at an entry. -/
theorem step_apply (i : grid0.Coords) (k : Fin 32) (hk : (i 1).val = k.val) (x : Vec Ideal S1024x1024 .bf16) (g : Vec Ideal S1024x128 .f32)
    (wg wu : Vec Ideal S1x1024x256 .bf16) (wd : Vec Ideal S1x256x1024 .bf16) (acc : Vec Ideal S1024x1024 .f32) (r l : Fin 1024) :
    step i x g wg wu wd acc (ix2 r l) = acc (ix2 r l)
      + ∑ f : Fin 256, silu (∑ d : Fin 1024, x (ix2 r d) * wg (ix3 0 d f)) * (∑ d : Fin 1024, x (ix2 r d) * wu (ix3 0 d f))
          * g (ix2 r (⟨k.val + 4, by omega⟩ : Fin 128)) * wd (ix3 0 f l) := by
  unfold step
  pointwise [k0_pay1, k0_pay4]
  rw [hk, sum_select k fun y => g (ix2 r y)]
  rfl

theorem pay2_apply (a b : Vec Ideal S1024x1024 .f32) (j : S1024x1024.Idx) : k0_pay2 a b j = a j + b j := by
  unfold k0_pay2; rfl

theorem pay3_apply (r l : Fin 1024) : (k0_pay3 (F := Ideal)) (ix2 r l) = 0 := by
  pointwise [k0_pay3]

variable (m : (ℓ : Loc nD τ sig) → Buf (Elt Ideal) ℓ)

theorem N_eq : cfg0.N = 1024 := N_0

theorem coord1 : ∀ t : Fin grid0.N, (grid0.coords t 1).val = t.val % 32 := by decide +kernel

/-- Row `r` of row tile `t / 32`. -/
abbrev rowAt (t : Fin cfg0.N) (r : Fin 1024) : Fin 32768 := ⟨t.val / 32 * 1024 + r.val, by have := lt_of_lt_of_eq t.isLt N_eq; omega⟩

/-- The expert a grid point computes. -/
abbrev expAt (t : Fin cfg0.N) : Fin 32 := ⟨t.val % 32, Nat.mod_lt _ (by decide)⟩

theorem index0 : ∀ t : Fin grid0.N, win0_0.index t 0 = t.val / 32 ∧ win0_0.index t 1 = 0 := by decide +kernel
theorem index1 : ∀ t : Fin grid0.N, win0_1.index t 0 = t.val / 32 ∧ win0_1.index t 1 = 0 := by decide +kernel
theorem index2 : ∀ t : Fin grid0.N, win0_2.index t 0 = t.val / 32 ∧ win0_2.index t 1 = 0 := by decide +kernel
theorem index3 : ∀ t : Fin grid0.N, win0_3.index t 0 = t.val % 32 ∧ win0_3.index t 1 = 0 ∧ win0_3.index t 2 = 0 := by decide +kernel
theorem index4 : ∀ t : Fin grid0.N, win0_4.index t 0 = t.val % 32 ∧ win0_4.index t 1 = 0 ∧ win0_4.index t 2 = 0 := by decide +kernel
theorem index5 : ∀ t : Fin grid0.N, win0_5.index t 0 = t.val % 32 ∧ win0_5.index t 1 = 0 ∧ win0_5.index t 2 = 0 := by decide +kernel

theorem iblk0_apply (c : Dev nD) (t : Fin cfg0.N) (r d : Fin 1024) :
    (iblk m c 0 t : Vec Ideal S1024x1024 .bf16) (ix2 r d) = (V m c main_arg0 : Vec Ideal S32768x1024 .bf16) (ix2 (rowAt t r) d) := by
  unfold iblk
  rw [View.read_apply]
  show V m c main_arg0 _ = V m c main_arg0 _
  congr 1
  funext a
  apply Fin.ext
  match a with
  | ⟨0, _⟩ => show win0_0.index t 0 * 1024 + 1 * r.val = t.val / 32 * 1024 + r.val; rw [(index0 t).1]; omega
  | ⟨1, _⟩ => show win0_0.index t 1 * 1024 + 1 * d.val = d.val; rw [(index0 t).2]; omega

theorem iblk1_apply (c : Dev nD) (t : Fin cfg0.N) (r : Fin 1024) (d : Fin 128) :
    (iblk m c 1 t : Vec Ideal S1024x128 .f32) (ix2 r d) = (V m c main_arg1 : Vec Ideal S32768x128 .f32) (ix2 (rowAt t r) d) := by
  unfold iblk
  rw [View.read_apply]
  show V m c main_arg1 _ = V m c main_arg1 _
  congr 1
  funext a
  apply Fin.ext
  match a with
  | ⟨0, _⟩ => show win0_1.index t 0 * 1024 + 1 * r.val = t.val / 32 * 1024 + r.val; rw [(index1 t).1]; omega
  | ⟨1, _⟩ => show win0_1.index t 1 * 128 + 1 * d.val = d.val; rw [(index1 t).2]; omega

theorem iblk2_apply (c : Dev nD) (t : Fin cfg0.N) (r d : Fin 1024) :
    (iblk m c 2 t : Vec Ideal S1024x1024 .f32) (ix2 r d) = (V m c main_arg2 : Vec Ideal S32768x1024 .f32) (ix2 (rowAt t r) d) := by
  unfold iblk
  rw [View.read_apply]
  show V m c main_arg2 _ = V m c main_arg2 _
  congr 1
  funext a
  apply Fin.ext
  match a with
  | ⟨0, _⟩ => show win0_2.index t 0 * 1024 + 1 * r.val = t.val / 32 * 1024 + r.val; rw [(index2 t).1]; omega
  | ⟨1, _⟩ => show win0_2.index t 1 * 1024 + 1 * d.val = d.val; rw [(index2 t).2]; omega

theorem iblk3_apply (c : Dev nD) (t : Fin cfg0.N) (d : Fin 1024) (f : Fin 256) :
    (iblk m c 3 t : Vec Ideal S1x1024x256 .bf16) (ix3 0 d f) = (V m c main_v2 : Vec Ideal S32x1024x256 .bf16) (ix3 (expAt t) d f) := by
  unfold iblk
  rw [View.read_apply]
  show V m c main_v2 _ = V m c main_v2 _
  congr 1
  funext a
  apply Fin.ext
  match a with
  | ⟨0, _⟩ => show win0_3.index t 0 * 1 + 1 * 0 = t.val % 32; rw [(index3 t).1]; omega
  | ⟨1, _⟩ => show win0_3.index t 1 * 1024 + 1 * d.val = d.val; rw [(index3 t).2.1]; omega
  | ⟨2, _⟩ => show win0_3.index t 2 * 256 + 1 * f.val = f.val; rw [(index3 t).2.2]; omega

theorem iblk4_apply (c : Dev nD) (t : Fin cfg0.N) (d : Fin 1024) (f : Fin 256) :
    (iblk m c 4 t : Vec Ideal S1x1024x256 .bf16) (ix3 0 d f) = (V m c main_v5 : Vec Ideal S32x1024x256 .bf16) (ix3 (expAt t) d f) := by
  unfold iblk
  rw [View.read_apply]
  show V m c main_v5 _ = V m c main_v5 _
  congr 1
  funext a
  apply Fin.ext
  match a with
  | ⟨0, _⟩ => show win0_4.index t 0 * 1 + 1 * 0 = t.val % 32; rw [(index4 t).1]; omega
  | ⟨1, _⟩ => show win0_4.index t 1 * 1024 + 1 * d.val = d.val; rw [(index4 t).2.1]; omega
  | ⟨2, _⟩ => show win0_4.index t 2 * 256 + 1 * f.val = f.val; rw [(index4 t).2.2]; omega

theorem iblk5_apply (c : Dev nD) (t : Fin cfg0.N) (f : Fin 256) (l : Fin 1024) :
    (iblk m c 5 t : Vec Ideal S1x256x1024 .bf16) (ix3 0 f l) = (V m c main_v8 : Vec Ideal S32x256x1024 .bf16) (ix3 (expAt t) f l) := by
  unfold iblk
  rw [View.read_apply]
  show V m c main_v8 _ = V m c main_v8 _
  congr 1
  funext a
  apply Fin.ext
  match a with
  | ⟨0, _⟩ => show win0_5.index t 0 * 1 + 1 * 0 = t.val % 32; rw [(index5 t).1]; omega
  | ⟨1, _⟩ => show win0_5.index t 1 * 256 + 1 * f.val = f.val; rw [(index5 t).2.1]; omega
  | ⟨2, _⟩ => show win0_5.index t 2 * 1024 + 1 * l.val = l.val; rw [(index5 t).2.2]; omega

end Cert.MoeIdeal.Steps

end
-- ==== Proof.MoeValue.lean ====
/-
  The value of the expert kernel at one entry of its result: the residual input plus, over the 32 experts in order,
  the expert's gated hidden layer times its down projection.
-/
module

public import proofs.«01_k».proof.Proof.MoeBlocks
public import Idealize.ShloMosaic.Lib.Pointwise
public import Idealize.ShloMosaic.PureOps.Ideal

@[expose] public section

set_option maxRecDepth 16384

noncomputable section

namespace Cert.MoeIdeal.Steps

open Cert.MoeIdeal Cert.MoeIdeal.Gen Idealize.ShloMosaic Idealize.ShloMosaic.TcCoe Idealize.SL.Sem

variable (m : (ℓ : Loc nD τ sig) → Buf (Elt Ideal) ℓ)

/-- The residual input as launched. -/
def resid (c : Dev nD) (n : Fin 32768) (l : Fin 1024) : EReal := (V m c main_arg2 : Vec Ideal S32768x1024 .f32) (ix2 n l)

/-- One expert's contribution to entry `(n, l)`, over flat expert tables. -/
def expert (X : Vec Ideal S32768x1024 .bf16) (Gt : Vec Ideal S32768x128 .f32) (Wg Wu : Vec Ideal S32x1024x256 .bf16)
    (Wd : Vec Ideal S32x256x1024 .bf16) (n : Fin 32768) (l : Fin 1024) (k : Fin 32) : EReal :=
  ∑ f : Fin 256, silu (∑ d : Fin 1024, X (ix2 n d) * Wg (ix3 k d f)) * (∑ d : Fin 1024, X (ix2 n d) * Wu (ix3 k d f))
    * Gt (ix2 n (⟨k.val + 4, by omega⟩ : Fin 128)) * Wd (ix3 k f l)

/-- The expert's contribution over the arrays the kernel is launched on. -/
abbrev expertV (c : Dev nD) (n : Fin 32768) (l : Fin 1024) (k : Fin 32) : EReal :=
  expert (V m c main_arg0) (V m c main_arg1) (V m c main_v2) (V m c main_v5) (V m c main_v8) n l k

/-- One grid point adds its expert's contribution. -/
theorem step_block (c : Dev nD) (t : Fin cfg0.N) (acc : Vec Ideal S1024x1024 .f32) (r l : Fin 1024) :
    step (grid0.coords t) (iblk m c 0 t) (iblk m c 1 t) (iblk m c 3 t) (iblk m c 4 t) (iblk m c 5 t) acc (ix2 r l)
      = acc (ix2 r l) + expertV m c (rowAt t r) l (expAt t) := by
  refine (step_apply (grid0.coords t) (expAt t) (coord1 t) _ _ _ _ _ acc r l).trans ?_
  unfold expertV expert
  refine congrArg (fun z : EReal => acc (ix2 r l) + z) ?_
  refine Finset.sum_congr rfl fun f _ => ?_
  rw [iblk1_apply, iblk5_apply]
  simp only [iblk0_apply, iblk3_apply, iblk4_apply]

/-- The experts' contributions so far, the count given as a number. -/
def upTo (c : Dev nD) (n : Fin 32768) (l : Fin 1024) (e : ℕ) : EReal :=
  ∑ k ∈ Finset.range e, if h : k < 32 then expertV m c n l ⟨k, h⟩ else 0

theorem upTo_succ (c : Dev nD) (n : Fin 32768) (l : Fin 1024) (e : ℕ) (he : e < 32) :
    upTo m c n l (e + 1) = upTo m c n l e + expertV m c n l ⟨e, he⟩ := by
  unfold upTo
  rw [Finset.sum_range_succ, dif_pos he]

theorem upTo_all (c : Dev nD) (n : Fin 32768) (l : Fin 1024) : upTo m c n l 32 = ∑ k : Fin 32, expertV m c n l k := by
  unfold upTo
  rw [Finset.sum_range]
  exact Finset.sum_congr rfl fun k _ => dif_pos k.isLt

/-- The scratch after expert `e` of a row tile, the last expert excepted: the contributions of the experts up to `e`. -/
theorem scratch_at (c : Dev nD) (q : ℕ) (hq : q < 32) (r l : Fin 1024) : ∀ (e : ℕ) (he : e < 31) (h : 32 * q + e < cfg0.N),
    (outsAt0 m c (32 * q + e) h).2 (ix2 r l) = upTo m c ⟨q * 1024 + r.val, by omega⟩ l (e + 1) := by
  intro e
  induction e with
  | zero =>
    intro he h
    rw [outsAt0_A m c ⟨32 * q + 0, h⟩ (by show (32 * q + 0) % 32 = 0; omega) (by show ¬(32 * q + 0) % 32 = 31; omega)]
    dsimp only
    rw [scratch_A, step_block, pay3_apply, upTo_succ _ _ _ _ _ (by decide)]
    unfold upTo
    rw [Finset.sum_range_zero]
    have h1 : rowAt ⟨32 * q + 0, h⟩ r = ⟨q * 1024 + r.val, by omega⟩ := Fin.ext (by show (32 * q + 0) / 32 * 1024 + r.val = q * 1024 + r.val; omega)
    have h2 : expAt ⟨32 * q + 0, h⟩ = ⟨0, by decide⟩ := Fin.ext (by show (32 * q + 0) % 32 = 0; omega)
    rw [h1, h2]
  | succ e ih =>
    intro he h
    have hp : 32 * q + e < cfg0.N := by omega
    rw [outsAt0_B m c ⟨32 * q + (e + 1), h⟩ (by show ¬(32 * q + (e + 1)) % 32 = 0; omega) (by show ¬(32 * q + (e + 1)) % 32 = 31; omega)]
    dsimp only
    rw [scratch_B, step_block, upTo_succ _ _ _ _ _ (by omega : e + 1 < 32)]
    have h1 : rowAt ⟨32 * q + (e + 1), h⟩ r = ⟨q * 1024 + r.val, by omega⟩ := Fin.ext (by show (32 * q + (e + 1)) / 32 * 1024 + r.val = q * 1024 + r.val; omega)
    have h2 : expAt ⟨32 * q + (e + 1), h⟩ = ⟨e + 1, by omega⟩ := Fin.ext (by show (32 * q + (e + 1)) % 32 = e + 1; omega)
    rw [h1, h2]
    congr 1
    exact ih (by omega) hp

/-- The output block written by the last point of row tile `q`. -/
theorem out_at (c : Dev nD) (q : ℕ) (hq : q < 32) (r l : Fin 1024) (h : 32 * q + 31 < cfg0.N) :
    (outsAt0 m c (32 * q + 31) h).1 (ix2 r l)
      = resid m c ⟨q * 1024 + r.val, by omega⟩ l
        + ∑ k : Fin 32, expertV m c ⟨q * 1024 + r.val, by omega⟩ l k := by
  have hp : 32 * q + 30 < cfg0.N := by omega
  rw [outsAt0_C m c ⟨32 * q + 31, h⟩ (by show ¬(32 * q + 31) % 32 = 0; omega) (by show (32 * q + 31) % 32 = 31; omega)]
  dsimp only
  rw [scratch_C, pay2_apply, step_block, iblk2_apply]
  show resid m c _ _ + _ = _
  have h1 : rowAt ⟨32 * q + 31, h⟩ r = ⟨q * 1024 + r.val, by omega⟩ := Fin.ext (by show (32 * q + 31) / 32 * 1024 + r.val = q * 1024 + r.val; omega)
  have h2 : expAt ⟨32 * q + 31, h⟩ = ⟨31, by decide⟩ := Fin.ext (by show (32 * q + 31) % 32 = 31; omega)
  rw [h1, h2, ← upTo_all, upTo_succ _ _ _ _ 31 (by decide)]
  congr 2
  exact scratch_at m c q hq r l 30 (by decide) hp

/-- THE RESULT at an entry. -/
theorem result_apply (c : Dev nD) (n : Fin 32768) (l : Fin 1024) :
    Value.G6 m c (ix2 n l) = resid m c n l + ∑ k : Fin 32, expertV m c n l k := by
  have hpt : Value.pt6Of (ix2 n l) = 32 * (n.val / 1024) + 31 := by
    show 32 * (1 * (n.val / 1024 - 0) + 1 * (l.val / 1024 - 0)) + 31 = _
    omega
  have hN : 32 * (n.val / 1024) + 31 < cfg0.N := by rw [N_eq]; omega
  have hloc : Value.loc6Of (ix2 n l) = ix2 (⟨n.val % 1024, Nat.mod_lt _ (by decide)⟩ : Fin 1024) l := by
    funext a
    apply Fin.ext
    match a with
    | ⟨0, _⟩ => rfl
    | ⟨1, _⟩ => show l.val % 1024 = l.val; omega
  unfold Value.G6
  rw [dif_pos (hpt ▸ hN), ← Value.outsAt0_sweep m c _ (hpt ▸ hN), hloc]
  have key : ∀ (p : ℕ) (hp : p < cfg0.N), p = 32 * (n.val / 1024) + 31 →
      (outsAt0 m c p hp).1 (ix2 (⟨n.val % 1024, Nat.mod_lt _ (by decide)⟩ : Fin 1024) l)
        = resid m c n l + ∑ k : Fin 32, expertV m c n l k := by
    intro p hp e
    subst e
    rw [out_at m c (n.val / 1024) (by omega)]
    have hn : (⟨n.val / 1024 * 1024 + n.val % 1024, by omega⟩ : Fin 32768) = n := Fin.ext (by show n.val / 1024 * 1024 + n.val % 1024 = n.val; omega)
    simp only [hn]
  exact key _ _ hpt

end Cert.MoeIdeal.Steps

end
-- ==== Proof.MoeWeights.lean ====
/-
  The flat expert tables the kernel is launched on, as entries of the arguments.
-/
module

public import proofs.«01_k».proof.Proof.Gen.MoeIdeal.Value
public import Idealize.ShloMosaic.Lib.Pointwise
public import Idealize.ShloMosaic.Lib.Tactic
public import Idealize.ShloMosaic.Lib.Pipeline.Value
public import Idealize.ShloMosaic.PureOps.Ideal

@[expose] public section

set_option maxRecDepth 16384

noncomputable section

namespace Cert.MoeIdeal.Steps

open Cert.MoeIdeal Cert.MoeIdeal.Gen Idealize.ShloMosaic Idealize.ShloMosaic.TcCoe Idealize.SL.Sem

variable (m : (ℓ : Loc nD τ sig) → Buf (Elt Ideal) ℓ)

/-! ## The weights as launched -/

theorem V_gate (c : Dev nD) : (V m c main_v2 : Vec Ideal S32x1024x256 .bf16) = truncf (F := Ideal) .bf16 (shapeCast S32x1024x256 (shapeCast S4x8x1024x256 (m ((c : Thread nD τ).loc main_arg3) : Vec Ideal S1x4x8x1024x256 .f32) shapeCasts_S1x4x8x1024x256_S4x8x1024x256) shapeCasts_S4x8x1024x256_S32x1024x256) bitsLt_bf16_f32 := by
  unfold V
  after_results
  rfl

theorem V_up (c : Dev nD) : (V m c main_v5 : Vec Ideal S32x1024x256 .bf16) = truncf (F := Ideal) .bf16 (shapeCast S32x1024x256 (shapeCast S4x8x1024x256 (m ((c : Thread nD τ).loc main_arg4) : Vec Ideal S1x4x8x1024x256 .f32) shapeCasts_S1x4x8x1024x256_S4x8x1024x256) shapeCasts_S4x8x1024x256_S32x1024x256) bitsLt_bf16_f32 := by
  unfold V
  after_results
  rfl

theorem V_down (c : Dev nD) : (V m c main_v8 : Vec Ideal S32x256x1024 .bf16) = truncf (F := Ideal) .bf16 (shapeCast S32x256x1024 (shapeCast S4x8x256x1024 (m ((c : Thread nD τ).loc main_arg5) : Vec Ideal S1x4x8x256x1024 .f32) shapeCasts_S1x4x8x256x1024_S4x8x256x1024) shapeCasts_S4x8x256x1024_S32x256x1024) bitsLt_bf16_f32 := by
  unfold V
  after_results
  rfl

/-- Expert `e` of group `g`, numbered through. -/
abbrev flat (g : Fin 4) (e : Fin 8) : Fin 32 := ⟨8 * g.val + e.val, by omega⟩

theorem V_gate_apply (c : Dev nD) (g : Fin 4) (e : Fin 8) (d : Fin 1024) (f : Fin 256) : (V m c main_v2 : Vec Ideal S32x1024x256 .bf16) (ix3 (flat g e) d f)
    = (m ((c : Thread nD τ).loc main_arg3) : Vec Ideal S1x4x8x1024x256 .f32) (ix5 0 g e d f) := by
  rw [V_gate]
  show shapeCast S32x1024x256 (shapeCast S4x8x1024x256 (m ((c : Thread nD τ).loc main_arg3) : Vec Ideal S1x4x8x1024x256 .f32) _) _ (ix3 (flat g e) d f) = _
  rw [shapeCast_apply _ _ _ (ix4 g e d f), shapeCast_apply _ _ _ (ix5 0 g e d f)]
  · rw [Shape.rowMajor_val_five, Shape.rowMajor_val_four]
    show (((0 * 4 + g.val) * 8 + e.val) * 1024 + d.val) * 256 + f.val = ((g.val * 8 + e.val) * 1024 + d.val) * 256 + f.val
    omega
  · rw [Shape.rowMajor_val_four, Shape.rowMajor_val_three]
    show ((g.val * 8 + e.val) * 1024 + d.val) * 256 + f.val = ((8 * g.val + e.val) * 1024 + d.val) * 256 + f.val
    omega

theorem V_up_apply (c : Dev nD) (g : Fin 4) (e : Fin 8) (d : Fin 1024) (f : Fin 256) : (V m c main_v5 : Vec Ideal S32x1024x256 .bf16) (ix3 (flat g e) d f)
    = (m ((c : Thread nD τ).loc main_arg4) : Vec Ideal S1x4x8x1024x256 .f32) (ix5 0 g e d f) := by
  rw [V_up]
  show shapeCast S32x1024x256 (shapeCast S4x8x1024x256 (m ((c : Thread nD τ).loc main_arg4) : Vec Ideal S1x4x8x1024x256 .f32) _) _ (ix3 (flat g e) d f) = _
  rw [shapeCast_apply _ _ _ (ix4 g e d f), shapeCast_apply _ _ _ (ix5 0 g e d f)]
  · rw [Shape.rowMajor_val_five, Shape.rowMajor_val_four]
    show (((0 * 4 + g.val) * 8 + e.val) * 1024 + d.val) * 256 + f.val = ((g.val * 8 + e.val) * 1024 + d.val) * 256 + f.val
    omega
  · rw [Shape.rowMajor_val_four, Shape.rowMajor_val_three]
    show ((g.val * 8 + e.val) * 1024 + d.val) * 256 + f.val = ((8 * g.val + e.val) * 1024 + d.val) * 256 + f.val
    omega

theorem V_down_apply (c : Dev nD) (g : Fin 4) (e : Fin 8) (f : Fin 256) (d : Fin 1024) : (V m c main_v8 : Vec Ideal S32x256x1024 .bf16) (ix3 (flat g e) f d)
    = (m ((c : Thread nD τ).loc main_arg5) : Vec Ideal S1x4x8x256x1024 .f32) (ix5 0 g e f d) := by
  rw [V_down]
  show shapeCast S32x256x1024 (shapeCast S4x8x256x1024 (m ((c : Thread nD τ).loc main_arg5) : Vec Ideal S1x4x8x256x1024 .f32) _) _ (ix3 (flat g e) f d) = _
  rw [shapeCast_apply _ _ _ (ix4 g e f d), shapeCast_apply _ _ _ (ix5 0 g e f d)]
  · rw [Shape.rowMajor_val_five, Shape.rowMajor_val_four]
    show (((0 * 4 + g.val) * 8 + e.val) * 256 + f.val) * 1024 + d.val = ((g.val * 8 + e.val) * 256 + f.val) * 1024 + d.val
    omega
  · rw [Shape.rowMajor_val_four, Shape.rowMajor_val_three]
    show ((g.val * 8 + e.val) * 256 + f.val) * 1024 + d.val = ((8 * g.val + e.val) * 256 + f.val) * 1024 + d.val
    omega

end Cert.MoeIdeal.Steps

end
-- ==== Proof.MoeRef.lean ====
/-
  The reference of the expert call at one entry.
-/
module

public import proofs.«01_k».proof.Proof.Gen.MoeReferenceIdeal.Run
public import Idealize.ShloMosaic.Lib.Pointwise
public import Idealize.ShloMosaic.PureOps.Ideal

@[expose] public section

set_option maxRecDepth 16384

noncomputable section

namespace Cert.MoeReferenceIdeal.At

open Cert.MoeReferenceIdeal Cert.MoeReferenceIdeal.Gen Idealize.ShloMosaic Idealize.ShloMosaic.TcCoe Idealize.SL.Sem

/-- The reference's result as a term of its arguments. -/
def refTerm (X : FVec Ideal S32768x1024 .bf16) (Gt : FVec Ideal S32768x128 .f32) (R : FVec Ideal S32768x1024 .f32) (Wg : FVec Ideal S1x4x8x1024x256 .f32) (Wu : FVec Ideal S1x4x8x1024x256 .f32) (Wd : FVec Ideal S1x4x8x256x1024 .f32) : FVec Ideal S32768x1024 .f32 :=
  addf (F := Ideal) R (Host.reduceAdd (Host.reduceAdd (transpose S32768x4x8x1024 [3, 0, 1, 2] (Host.dotGeneral dot_S4x8x256x1024_S32768x4x8x256_S4x8x1024x32768_2_3_3_0_01_12 none (shapeCast _ Wd shapeCasts_S1x4x8x256x1024_S4x8x256x1024) (mulf (mulf (mulf (Host.dotGeneral dot_S32768x1024_S4x8x1024x256_S32768x4x8x256_1_2_0_013_n_n none (extf .f32 X bitsLt_bf16_f32) (shapeCast _ Wg shapeCasts_S1x4x8x1024x256_S4x8x1024x256)) (Host.divf (broadcastInDim S32768x4x8x256 ![] bcast_S_S32768x4x8x256 (constant S_ .f32 0x3F800000#32)) (addf (broadcastInDim S32768x4x8x256 ![] bcast_S_S32768x4x8x256 (constant S_ .f32 0x3F800000#32)) (Host.exp (Host.negf (Host.dotGeneral dot_S32768x1024_S4x8x1024x256_S32768x4x8x256_1_2_0_013_n_n none (extf .f32 X bitsLt_bf16_f32) (shapeCast _ Wg shapeCasts_S1x4x8x1024x256_S4x8x1024x256))))))) (Host.dotGeneral dot_S32768x1024_S4x8x1024x256_S32768x4x8x256_1_2_0_013_n_n none (extf .f32 X bitsLt_bf16_f32) (shapeCast _ Wu shapeCasts_S1x4x8x1024x256_S4x8x1024x256))) (broadcastInDim S32768x4x8x256 ![0, 1, 2, 3] bcast_S32768x4x8x1_S32768x4x8x256_0_1_2_3 (broadcastInDim S32768x4x8x1 ![0, 1, 2] bcast_S32768x4x8_S32768x4x8x1_0_1_2 (shapeCast _ (extractStridedSlice S32768x32 ![0, 4] Gt slices_S32768x128_S32768x32_0_4) shapeCasts_S32768x32_S32768x4x8))))) transposes_S4x8x1024x32768_S32768x4x8x1024_3_0_1_2) (constant S_ .f32 0x00000000#32) reducesTo_S32768x4x8x1024_S32768x4x1024_d2 h_S_) (constant S_ .f32 0x00000000#32) reducesTo_S32768x4x1024_S32768x1024_d1 h_S_)

/-- The reference at an entry: the residual input plus, over groups and experts, the gated hidden layer times its
    down projection. -/
theorem refTerm_apply (X : FVec Ideal S32768x1024 .bf16) (Gt : FVec Ideal S32768x128 .f32) (R : FVec Ideal S32768x1024 .f32) (Wg Wu : FVec Ideal S1x4x8x1024x256 .f32) (Wd : FVec Ideal S1x4x8x256x1024 .f32) (n : Fin 32768) (l : Fin 1024) :
    refTerm X Gt R Wg Wu Wd (ix2 n l) = R (ix2 n l) + ∑ g : Fin 4, ∑ e : Fin 8, ∑ f : Fin 256,
      Wd (ix5 0 g e f l) * ((∑ d : Fin 1024, X (ix2 n d) * Wg (ix5 0 g e d f))
          * Ideal.div 1 (1 + Ideal.exp (-∑ d : Fin 1024, X (ix2 n d) * Wg (ix5 0 g e d f)))
        * (∑ d : Fin 1024, X (ix2 n d) * Wu (ix5 0 g e d f)) * Gt (ix2 n (⟨4 + (g.val * 8 + e.val), by omega⟩ : Fin 128))) := by
  pointwise [refTerm]

end Cert.MoeReferenceIdeal.At

end
-- ==== Proof.MoeEq.lean ====
/-
  The expert kernel's result is the reference's: the kernel's 32 experts in order are the reference's 4 groups of 8.
-/
module

public import proofs.«01_k».proof.Proof.MoeValue
public import proofs.«01_k».proof.Proof.MoeWeights
public import proofs.«01_k».proof.Proof.MoeRef

@[expose] public section

set_option maxRecDepth 16384

noncomputable section

namespace Cert.MoeIdeal.Steps

open Cert.MoeIdeal Cert.MoeIdeal.Gen Idealize.ShloMosaic Idealize.ShloMosaic.TcCoe Idealize.SL.Sem

variable (m : (ℓ : Loc nD τ sig) → Buf (Elt Ideal) ℓ)

/-- A sum over the experts numbered through is the sum over groups of the sums over their experts. -/
theorem sum_flat (f : Fin 32 → EReal) : ∑ k : Fin 32, f k = ∑ g : Fin 4, ∑ e : Fin 8, f (flat g e) := by
  rw [← Equiv.sum_comp (finProdFinEquiv : Fin 4 × Fin 8 ≃ Fin 32) f, Fintype.sum_prod_type]
  refine Finset.sum_congr rfl fun g _ => Finset.sum_congr rfl fun e _ => congrArg f (Fin.ext ?_)
  show e.val + 8 * g.val = 8 * g.val + e.val
  omega

/-- One expert of one group, over the arguments. -/
theorem expertV_flat (c : Dev nD) (X : FVec Ideal S32768x1024 .bf16) (Gt : FVec Ideal S32768x128 .f32) (Wg Wu : FVec Ideal S1x4x8x1024x256 .f32)
    (Wd : FVec Ideal S1x4x8x256x1024 .f32) (hX : m ((c : Thread nD τ).loc main_arg0) = X) (hG : m ((c : Thread nD τ).loc main_arg1) = Gt)
    (h3 : m ((c : Thread nD τ).loc main_arg3) = Wg) (h4 : m ((c : Thread nD τ).loc main_arg4) = Wu) (h5 : m ((c : Thread nD τ).loc main_arg5) = Wd)
    (n : Fin 32768) (l : Fin 1024) (g : Fin 4) (e : Fin 8) :
    expertV m c n l (flat g e) = ∑ f : Fin 256,
      silu (∑ d : Fin 1024, X (ix2 n d) * Wg (ix5 0 g e d f)) * (∑ d : Fin 1024, X (ix2 n d) * Wu (ix5 0 g e d f))
        * Gt (ix2 n (⟨8 * g.val + e.val + 4, by omega⟩ : Fin 128)) * Wd (ix5 0 g e f l) := by
  subst hX hG h3 h4 h5
  unfold expertV expert
  refine Finset.sum_congr rfl fun f _ => ?_
  rw [V_main_arg0, V_main_arg1, V_down_apply]
  refine congrArg (fun z : EReal => z * _) (congrArg (fun z : EReal => z * _) (congrArg₂ (fun a b : EReal => silu a * b) ?_ ?_))
  · exact Finset.sum_congr rfl fun d _ => congrArg (fun z : EReal => _ * z) (V_gate_apply m c g e d f)
  · exact Finset.sum_congr rfl fun d _ => congrArg (fun z : EReal => _ * z) (V_up_apply m c g e d f)

/-- THE TWO RESULTS ARE EQUAL. -/
theorem value_eq (c : Dev nD) : Value.G6 m c
    = Cert.MoeReferenceIdeal.At.refTerm (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext j
  obtain ⟨n, l, rfl⟩ : ∃ (n : Fin 32768) (l : Fin 1024), j = ix2 n l := ⟨j 0, j 1, by funext a; match a with | ⟨0, _⟩ => rfl | ⟨1, _⟩ => rfl⟩
  refine (result_apply m c n l).trans ((Cert.MoeReferenceIdeal.At.refTerm_apply _ _ _ _ _ _ n l).trans ?_).symm
  rw [sum_flat]
  refine congrArg₂ (fun a b : EReal => a + b) (by unfold resid; rw [V_main_arg2]) ?_
  refine Finset.sum_congr rfl fun g _ => Finset.sum_congr rfl fun e _ => ?_
  rw [expertV_flat m c _ _ _ _ _ rfl rfl rfl rfl rfl]
  refine Finset.sum_congr rfl fun f _ => ?_
  have hg : (⟨4 + (g.val * 8 + e.val), by omega⟩ : Fin 128) = ⟨8 * g.val + e.val + 4, by omega⟩ := Fin.ext (by show 4 + (g.val * 8 + e.val) = 8 * g.val + e.val + 4; omega)
  rw [hg, mul_comm]
  rfl

end Cert.MoeIdeal.Steps

end
-- ==== Proof.ProjMath.lean ====
/-
  The projection of one row: its normalisation, one column of the product, and the normalisation and the rotation of
  one head of sixty-four lanes. Both projection kernels and both references are read down to these functions.
-/
module

public import Idealize.ShloMosaic.Lib.Pointwise
public import Idealize.ShloMosaic.PureOps.Ideal
public import Idealize.ShloMosaic.Lib.IdealHost

@[expose] public section

noncomputable section

namespace Cert.ProjMath

open Idealize.ShloMosaic

/-- The small number under the root. -/
abbrev eps : EReal := Ideal.ofBits FTy.f32 0x358637BD#32

/-- A row divided by its root mean square, times a gain. -/
def rowNorm (x g : Fin 1024 → EReal) (d : Fin 1024) : EReal :=
  x d * Ideal.rsqrt (Ideal.div (∑ k, x k * x k) (Ideal.ofBits FTy.f32 0x44800000#32) + eps) * g d

/-- One entry of the product of a row with a column. -/
def col (h w : Fin 1024 → EReal) : EReal := ∑ d, h d * w d

/-- One head divided by its root mean square, times a gain. -/
def headNorm (z g : Fin 64 → EReal) (j : Fin 64) : EReal :=
  z j * Ideal.rsqrt (Ideal.div (∑ k, z k * z k) (Ideal.ofBits FTy.f32 0x42800000#32) + eps) * g j

/-- One head with its first sixteen lanes rotated in pairs of lanes eight apart. -/
def rot (z : Fin 64 → EReal) (a : Fin 8 → EReal) (j : Fin 64) : EReal :=
  if h : j.val < 8 then z j * Ideal.cos (a ⟨j.val, h⟩) - z ⟨8 + j.val, by omega⟩ * Ideal.sin (a ⟨j.val, h⟩)
  else if h' : j.val - 8 < 8 then z j * Ideal.cos (a ⟨j.val - 8, h'⟩) + z ⟨j.val - 8, by omega⟩ * Ideal.sin (a ⟨j.val - 8, h'⟩)
  else z j

/-- The angle at a position: the position times a power of the base, one power for each pair of lanes. -/
def angle (p : BitVec 32) (d : Fin 8) : EReal :=
  FloatOps.sitofp (F := Ideal) FTy.f32 p * Ideal.pow (Ideal.ofBits FTy.f32 0x48F42400#32)
    (Ideal.div (-FloatOps.sitofp (F := Ideal) FTy.f32 (BitVec.ofNat 32 d.val)) (Ideal.ofBits FTy.f32 0x41000000#32))

/-- A factor in every gain is a factor of the head. -/
theorem headNorm_scale (z g : Fin 64 → EReal) (s : EReal) (j : Fin 64) : headNorm z (fun k => g k * s) j = headNorm z g j * s := by
  unfold headNorm
  rw [mul_assoc, mul_assoc, mul_assoc]

/-- The factors of a lane, of the lane eight below it and of the lane eight above it, as the tables hold them. -/
def tabC (a : Fin 8 → EReal) (j : Fin 64) : EReal :=
  if h : j.val < 8 then Ideal.cos (a ⟨j.val, h⟩) else if h' : j.val - 8 < 8 then Ideal.cos (a ⟨j.val - 8, h'⟩) else 1

def tabP (a : Fin 8 → EReal) (j : Fin 64) : EReal :=
  if j.val < 8 then 0 else if h' : j.val - 8 < 8 then Ideal.sin (a ⟨j.val - 8, h'⟩) else 0

def tabM (a : Fin 8 → EReal) (j : Fin 64) : EReal :=
  if h : j.val < 8 then -Ideal.sin (a ⟨j.val, h⟩) else 0

/-- The three products with the tables add up to the rotation, whatever stands in the lanes the tables clear. -/
theorem rot_eq (z : Fin 64 → EReal) (a : Fin 8 → EReal) (j : Fin 64) (lo hi : EReal)
    (hlo : ∀ h : 8 ≤ j.val, lo = z ⟨j.val - 8, by omega⟩) (hhi : ∀ h : j.val < 56, hi = z ⟨8 + j.val, by omega⟩) :
    z j * tabC a j + lo * tabP a j + hi * tabM a j = rot z a j := by
  unfold tabC tabP tabM rot
  by_cases h : j.val < 8
  · rw [dif_pos h, if_pos h, dif_pos h, dif_pos h, hhi (by omega), mul_zero, add_zero, mul_neg, ← sub_eq_add_neg]
  · rw [dif_neg h, if_neg h, dif_neg h, dif_neg h, mul_zero, add_zero]
    by_cases h' : j.val - 8 < 8
    · rw [dif_pos h', dif_pos h', dif_pos h', hlo (by omega)]
    · rw [dif_neg h', dif_neg h', dif_neg h', mul_zero, add_zero, mul_one]

/-- Lane `j` of head `e`, of `n` heads laid side by side. -/
theorem lane_lt {n : Nat} (e : Fin n) (j : Fin 64) : 64 * e.val + j.val < 64 * n := by
  have := e.isLt
  have := j.isLt
  omega

/-- A sum over all heads' lanes that keeps one head's only is the sum over that head's lanes. -/
theorem sum_head (n : Nat) (f : Fin (n * 64) → EReal) (e : Fin n) (s : Nat) (hs : s / 64 = e.val) :
    ∑ x : Fin (n * 64), f x * (if x.val / 64 = s / 64 then 1 else 0)
      = ∑ k : Fin 64, f ⟨64 * e.val + k.val, by have := lane_lt e k; omega⟩ := by
  rw [← Equiv.sum_comp (finProdFinEquiv : Fin n × Fin 64 ≃ Fin (n * 64)), Fintype.sum_prod_type, Finset.sum_eq_single e]
  · refine Finset.sum_congr rfl fun k _ => ?_
    have hv : (finProdFinEquiv (e, k) : Fin (n * 64)).val = k.val + 64 * e.val := rfl
    rw [if_pos (by rw [hv, hs]; omega), mul_one]
    exact congrArg f (Fin.ext (by show k.val + 64 * e.val = 64 * e.val + k.val; omega))
  · intro b _ hb
    refine Finset.sum_eq_zero fun k _ => ?_
    have hv : (finProdFinEquiv (b, k) : Fin (n * 64)).val = k.val + 64 * b.val := rfl
    rw [if_neg (by rw [hv, hs]; intro h; exact hb (Fin.ext (by have := k.isLt; omega))), mul_zero]
  · intro h
    exact absurd (Finset.mem_univ _) h

theorem ofBits_64 : Ideal.ofBits FTy.f32 0x42800000#32 = ((64 : ℝ) : EReal) := by
  simp [Ideal.ofBits, Ideal.ieee, -EReal.coe_mul]
  norm_num

theorem ofBits_inv64 : Ideal.ofBits FTy.f32 0x3C800000#32 = ((64⁻¹ : ℝ) : EReal) := by
  simp [Ideal.ofBits, Ideal.ieee, -EReal.coe_mul]
  norm_num

/-- The product with a sixty-fourth is the quotient by sixty-four. -/
theorem mul_inv64 (s : EReal) : s * Ideal.ofBits FTy.f32 0x3C800000#32 = Ideal.div s (Ideal.ofBits FTy.f32 0x42800000#32) := by
  rw [ofBits_64, ofBits_inv64]
  unfold Ideal.div
  rw [if_neg (by norm_num), ← EReal.coe_inv]

end Cert.ProjMath

end
-- ==== Proof.ProjPay.lean ====
/-
  The values the projection kernel computes from its blocks, at an entry.
-/
module

public import proofs.«01_k».proof.Proof.ProjMath
public import proofs.«01_k».proof.Proof.Gen.ProjSampleIdeal.Skeleton

@[expose] public section

set_option maxRecDepth 16384

noncomputable section

namespace Cert.ProjSampleIdeal.Pay

open Cert.ProjMath Cert.ProjSampleIdeal Cert.ProjSampleIdeal.Gen Idealize.ShloMosaic Idealize.ShloMosaic.TcCoe Idealize.SL.Sem

/-- Lane `j` of head `e` among eight heads side by side, and among two. -/
abbrev lane8 (e : Fin 8) (j : Fin 64) : Fin 512 := ⟨64 * e.val + j.val, by omega⟩
abbrev lane2 (e : Fin 2) (j : Fin 64) : Fin 128 := ⟨64 * e.val + j.val, by omega⟩

/-- The block of ones the squares are summed with: one where row and column belong to the same head. -/
def Ones (b : Vec Ideal S256x256 .bf16) : Prop :=
  ∀ x y : Fin 256, b (ix2 x y) = if x.val / 64 = y.val / 64 then (1 : EReal) else 0

/-- A product with a segment of the weights, at an entry. -/
def prod512 (h : FVec Ideal S512x1024 .bf16) (w : Vec Ideal S1024x512 .bf16) (r : Fin 512) (d : Fin 512) : EReal :=
  col (fun k => h (ix2 r k)) (fun k => w (ix2 k d))

def prod128 (h : FVec Ideal S512x1024 .bf16) (w : Vec Ideal S1024x128 .bf16) (r : Fin 512) (d : Fin 128) : EReal :=
  col (fun k => h (ix2 r k)) (fun k => w (ix2 k d))

theorem pay4_apply (x : Vec Ideal S512x1024 .f32) (g : Vec Ideal S1x1024 .f32) (r : Fin 512) (d : Fin 1024) :
    k0_pay4 (F := Ideal) x g (ix2 r d) = rowNorm (fun k => x (ix2 r k)) (fun k => g (ix2 0 k)) d := by
  pointwise [k0_pay4]
  rfl

theorem pay13_apply (h : FVec Ideal S512x1024 .bf16) (w : Vec Ideal S1024x128 .bf16) (r : Fin 512) (d : Fin 128) :
    k0_pay13 (F := Ideal) h w (ix2 r d) = prod128 h w r d := by
  pointwise [k0_pay13]
  rfl

theorem pay2_apply (h : FVec Ideal S512x1024 .bf16) (w : Vec Ideal S1024x512 .bf16) (r : Fin 512) (d : Fin 512) :
    k0_pay2 (F := Ideal) h w (ix2 r d) = prod512 h w r d := by
  pointwise [k0_pay2]
  rfl

/-- The squares summed over a head's lanes: the left and the right half of the columns are summed apart. -/
def sums512 (h : FVec Ideal S512x1024 .bf16) (b : Vec Ideal S256x256 .bf16) (w : Vec Ideal S1024x512 .bf16) (r d : Fin 512) : EReal :=
  if hd : d.val < 256 then ∑ x : Fin 256, prod512 h w r ⟨x.val, by omega⟩ * prod512 h w r ⟨x.val, by omega⟩ * b (ix2 x ⟨d.val, by omega⟩)
  else ∑ x : Fin 256, prod512 h w r ⟨256 + x.val, by omega⟩ * prod512 h w r ⟨256 + x.val, by omega⟩ * b (ix2 x ⟨d.val - 256, by omega⟩)

theorem sums512_eq (h : FVec Ideal S512x1024 .bf16) (b : Vec Ideal S256x256 .bf16) (hb : Ones b) (w : Vec Ideal S1024x512 .bf16) (r : Fin 512)
    (e : Fin 8) (j : Fin 64) :
    sums512 h b w r (lane8 e j) = ∑ k : Fin 64, prod512 h w r (lane8 e k) * prod512 h w r (lane8 e k) := by
  unfold sums512
  by_cases hd : (lane8 e j).val < 256
  · have he : e.val < 4 := by have : (lane8 e j).val = 64 * e.val + j.val := rfl; omega
    rw [dif_pos hd]
    refine (Finset.sum_congr rfl fun x _ => congrArg (fun z : EReal => prod512 h w r ⟨x.val, by omega⟩ * prod512 h w r ⟨x.val, by omega⟩ * z) (hb x _)).trans ?_
    exact sum_head 4 (fun x : Fin 256 => prod512 h w r ⟨x.val, by omega⟩ * prod512 h w r ⟨x.val, by omega⟩) ⟨e.val, he⟩ (64 * e.val + j.val) (by show _ = e.val; omega)
  · have he : ¬ e.val < 4 := by have : (lane8 e j).val = 64 * e.val + j.val := rfl; omega
    rw [dif_neg hd]
    refine (Finset.sum_congr rfl fun x _ => congrArg (fun z : EReal => prod512 h w r ⟨256 + x.val, by omega⟩ * prod512 h w r ⟨256 + x.val, by omega⟩ * z) (hb x _)).trans ?_
    refine (sum_head 4 (fun x : Fin 256 => prod512 h w r ⟨256 + x.val, by omega⟩ * prod512 h w r ⟨256 + x.val, by omega⟩) ⟨e.val - 4, by omega⟩ (64 * e.val + j.val - 256) (by show _ = e.val - 4; omega)).trans ?_
    refine Finset.sum_congr rfl fun k _ => ?_
    have hv : (⟨256 + (64 * (e.val - 4) + k.val), by omega⟩ : Fin 512) = lane8 e k := Fin.ext (by show 256 + (64 * (e.val - 4) + k.val) = 64 * e.val + k.val; omega)
    exact congrArg (fun q : Fin 512 => prod512 h w r q * prod512 h w r q) hv

theorem pay9_apply (h : FVec Ideal S512x1024 .bf16) (b : Vec Ideal S256x256 .bf16) (hb : Ones b) (w : Vec Ideal S1024x512 .bf16) (g : Vec Ideal S1x512 .f32)
    (r : Fin 512) (e : Fin 8) (j : Fin 64) :
    k0_pay9 (F := Ideal) h b w g (ix2 r (lane8 e j)) = headNorm (fun k => prod512 h w r (lane8 e k)) (fun k => g (ix2 0 (lane8 e k))) j := by
  have key : ∀ d : Fin 512, k0_pay9 (F := Ideal) h b w g (ix2 r d)
      = prod512 h w r d * Ideal.rsqrt (sums512 h b w r d * Ideal.ofBits FTy.f32 0x3C800000#32 + eps) * g (ix2 0 d) := by
    intro d
    pointwise [k0_pay9]
    rfl
  rw [key, sums512_eq h b hb, mul_inv64]
  rfl

theorem pay8_apply (h : FVec Ideal S512x1024 .bf16) (b : Vec Ideal S256x256 .bf16) (hb : Ones b) (w : Vec Ideal S1024x512 .bf16) (g : Vec Ideal S1x512 .f32)
    (r : Fin 512) (e : Fin 8) (j : Fin 64) :
    k0_pay8 (F := Ideal) h b (k0_pay7 w) (constant S512x512 .f32 0x00000000#32) g (ix2 r (lane8 e j)) = headNorm (fun k => prod512 h w r (lane8 e k)) (fun k => g (ix2 0 (lane8 e k))) j := by
  have key : ∀ d : Fin 512, k0_pay8 (F := Ideal) h b (k0_pay7 w) (constant S512x512 .f32 0x00000000#32) g (ix2 r d)
      = prod512 h w r d * Ideal.rsqrt (sums512 h b w r d * Ideal.ofBits FTy.f32 0x3C800000#32 + eps) * g (ix2 0 d) := by
    intro d
    pointwise [k0_pay8, k0_pay7]
    rfl
  rw [key, sums512_eq h b hb, mul_inv64]
  rfl

/-- The key heads of the first attention, before their rotation. -/
def norm128 (h : FVec Ideal S512x1024 .bf16) (b : Vec Ideal S256x256 .bf16) (w : Vec Ideal S1024x128 .bf16) (g : Vec Ideal S1x128 .f32) (r : Fin 512) (d : Fin 128) : EReal :=
  prod128 h w r d * Ideal.rsqrt ((∑ x : Fin 128, prod128 h w r x * prod128 h w r x * b (ix2 ⟨x.val, by omega⟩ ⟨d.val, by omega⟩)) * Ideal.ofBits FTy.f32 0x3C800000#32 + eps) * g (ix2 0 d)

theorem norm128_eq (h : FVec Ideal S512x1024 .bf16) (b : Vec Ideal S256x256 .bf16) (hb : Ones b) (w : Vec Ideal S1024x128 .bf16) (g : Vec Ideal S1x128 .f32)
    (r : Fin 512) (e : Fin 2) (j : Fin 64) :
    norm128 h b w g r (lane2 e j) = headNorm (fun k => prod128 h w r (lane2 e k)) (fun k => g (ix2 0 (lane2 e k))) j := by
  have hs : (∑ x : Fin 128, prod128 h w r x * prod128 h w r x * b (ix2 ⟨x.val, by omega⟩ ⟨(lane2 e j).val, by omega⟩) : EReal)
      = ∑ k : Fin 64, prod128 h w r (lane2 e k) * prod128 h w r (lane2 e k) := by
    refine (Finset.sum_congr rfl fun x _ => congrArg (fun z : EReal => prod128 h w r x * prod128 h w r x * z) (hb ⟨x.val, by omega⟩ _)).trans ?_
    exact sum_head 2 (fun x : Fin 128 => prod128 h w r x * prod128 h w r x) e (64 * e.val + j.val) (by omega)
  unfold norm128
  rw [hs, mul_inv64]
  rfl

theorem pay11_apply (h : FVec Ideal S512x1024 .bf16) (b : Vec Ideal S256x256 .bf16) (hb : Ones b) (w : Vec Ideal S1024x128 .bf16) (g : Vec Ideal S1x128 .f32)
    (tc tp tm : Vec Ideal S512x128 .f32) (a : Fin 8 → EReal) (r : Fin 512) (e : Fin 2) (j : Fin 64)
    (hc : tc (ix2 r (lane2 e j)) = tabC a j) (hp : tp (ix2 r (lane2 e j)) = tabP a j) (hm : tm (ix2 r (lane2 e j)) = tabM a j) :
    k0_pay11 (F := Ideal) h b w g tc tp tm (ix2 r (lane2 e j))
      = rot (headNorm (fun k => prod128 h w r (lane2 e k)) (fun k => g (ix2 0 (lane2 e k)))) a j := by
  have key : ∀ d : Fin 128, k0_pay11 (F := Ideal) h b w g tc tp tm (ix2 r d)
      = norm128 h b w g r d * tc (ix2 r d) + norm128 h b w g r ⟨(d.val + 128 - 8) % 128, by omega⟩ * tp (ix2 r d)
        + norm128 h b w g r ⟨(d.val + 128 - 120) % 128, by omega⟩ * tm (ix2 r d) := by
    intro d
    pointwise [k0_pay11]
    rfl
  rw [key, hc, hp, hm, norm128_eq h b hb]
  refine rot_eq _ a j _ _ (fun hj => ?_) (fun hj => ?_)
  · rw [← norm128_eq h b hb]
    exact congrArg (norm128 h b w g r) (Fin.ext (by show (64 * e.val + j.val + 128 - 8) % 128 = 64 * e.val + (j.val - 8); omega))
  · rw [← norm128_eq h b hb]
    exact congrArg (norm128 h b w g r) (Fin.ext (by show (64 * e.val + j.val + 128 - 120) % 128 = 64 * e.val + (8 + j.val); omega))

end Cert.ProjSampleIdeal.Pay

end
-- ==== Proof.ProjBlock.lean ====
/-
  What the projection kernel stores for a block of rows, at an entry, over the blocks it loads: `x0` the rows, `x1` their
  gain, `x2` the weights, `x3` the heads' gains, `x4`, `x5`, `x6` the tables and `x7` the block of ones.
-/
module

public import proofs.«01_k».proof.Proof.ProjPay
public import proofs.«01_k».proof.Proof.Gen.ProjSampleIdeal.Frame

@[expose] public section

set_option maxRecDepth 16384

noncomputable section

namespace Cert.ProjSampleIdeal.Pay

open Cert.ProjMath Cert.ProjSampleIdeal Cert.ProjSampleIdeal.Gen Idealize.ShloMosaic Idealize.ShloMosaic.TcCoe Idealize.SL.Sem

variable (x0 : Vec Ideal S512x1024 .f32) (x1 : Vec Ideal S1x1024 .f32) (x2 : Vec Ideal S1024x2304 .bf16) (x3 : Vec Ideal S1x1664 .f32)
  (x4 x5 x6 : Vec Ideal S512x128 .f32) (x7 : Vec Ideal S256x256 .bf16)

theorem zero2 : (![0, 0] : Fin 2 → ℕ) = fun _ => 0 := by decide

/-- One column of the projection of a row of the block. -/
def zb (r : Fin 512) (q : Fin 2304) : EReal :=
  col (rowNorm (fun k => x0 (ix2 r k)) (fun k => x1 (ix2 0 k))) (fun d => x2 (ix2 d q))

/-- The normalised rows of the block. -/
abbrev hb : FVec Ideal S512x1024 .bf16 := k0_pay4 (F := Ideal) (View.ld x0 r0_0) (View.ld x1 r0_1)

theorem hb_apply (r : Fin 512) (d : Fin 1024) : hb x0 x1 (ix2 r d) = rowNorm (fun k => x0 (ix2 r k)) (fun k => x1 (ix2 0 k)) d := by
  unfold hb
  rw [View.ld_unit_zero (S := S512x1024) zero2, View.ld_unit_zero (S := S1x1024) zero2, pay4_apply]

theorem prod512_eq (w : Vec Ideal S1024x512 .bf16) (o : ℕ) (ho : o + 512 ≤ 2304) (hw : ∀ (d : Fin 1024) (k : Fin 512), w (ix2 d k) = x2 (ix2 d (⟨o + k.val, by omega⟩ : Fin 2304)))
    (r k : Fin 512) : prod512 (hb x0 x1) w r k = zb x0 x1 x2 r ⟨o + k.val, by omega⟩ := by
  unfold prod512 zb
  exact congrArg₂ col (funext fun d => hb_apply x0 x1 r d) (funext fun d => hw d k)

theorem prod128_eq (w : Vec Ideal S1024x128 .bf16) (o : ℕ) (ho : o + 128 ≤ 2304) (hw : ∀ (d : Fin 1024) (k : Fin 128), w (ix2 d k) = x2 (ix2 d (⟨o + k.val, by omega⟩ : Fin 2304)))
    (r : Fin 512) (k : Fin 128) : prod128 (hb x0 x1) w r k = zb x0 x1 x2 r ⟨o + k.val, by omega⟩ := by
  unfold prod128 zb
  exact congrArg₂ col (funext fun d => hb_apply x0 x1 r d) (funext fun d => hw d k)

/-! ## The segments of the weights and of the gains -/

theorem ld_w7 (d : Fin 1024) (k : Fin 512) : View.ld x2 r0_7 (ix2 d k) = x2 (ix2 d (⟨512 + k.val, by omega⟩ : Fin 2304)) := by pointwise
theorem ld_w9 (d : Fin 1024) (k : Fin 512) : View.ld x2 r0_9 (ix2 d k) = x2 (ix2 d (⟨1024 + k.val, by omega⟩ : Fin 2304)) := by pointwise
theorem ld_w11 (d : Fin 1024) (k : Fin 128) : View.ld x2 r0_11 (ix2 d k) = x2 (ix2 d (⟨1536 + k.val, by omega⟩ : Fin 2304)) := by pointwise
theorem ld_w13 (d : Fin 1024) (k : Fin 128) : View.ld x2 r0_13 (ix2 d k) = x2 (ix2 d (⟨1664 + k.val, by omega⟩ : Fin 2304)) := by pointwise
theorem ld_w14 (d : Fin 1024) (k : Fin 512) : View.ld x2 r0_14 (ix2 d k) = x2 (ix2 d (⟨1792 + k.val, by omega⟩ : Fin 2304)) := by pointwise
theorem ld_g8 (k : Fin 512) : View.ld x3 r0_8 (ix2 0 k) = x3 (ix2 0 (⟨512 + k.val, by omega⟩ : Fin 1664)) := by pointwise
theorem ld_g10 (k : Fin 512) : View.ld x3 r0_10 (ix2 0 k) = x3 (ix2 0 (⟨1024 + k.val, by omega⟩ : Fin 1664)) := by pointwise
theorem ld_g12 (k : Fin 128) : View.ld x3 r0_12 (ix2 0 k) = x3 (ix2 0 (⟨1536 + k.val, by omega⟩ : Fin 1664)) := by pointwise

/-! ## The stored values -/

theorem qb_block (hx7 : Ones x7) (r : Fin 512) (e : Fin 8) (j : Fin 64) :
    k0_pay8 (F := Ideal) (hb x0 x1) (View.ld x7 r0_2) (k0_pay7 (View.ld x2 r0_7)) (constant S512x512 .f32 0x00000000#32) (View.ld x3 r0_8) (ix2 r (lane8 e j))
      = headNorm (fun k => zb x0 x1 x2 r ⟨512 + (64 * e.val + k.val), by omega⟩) (fun k => x3 (ix2 0 (⟨512 + (64 * e.val + k.val), by omega⟩ : Fin 1664))) j := by
  rw [View.ld_unit_zero (S := S256x256) zero2, pay8_apply _ _ hx7]
  exact congrArg₂ (fun z g : Fin 64 → EReal => headNorm z g j) (funext fun k => prod512_eq x0 x1 x2 _ 512 (by decide) (ld_w7 x2) r _) (funext fun k => ld_g8 x3 _)

theorem kb_block (hx7 : Ones x7) (r : Fin 512) (e : Fin 8) (j : Fin 64) :
    k0_pay9 (F := Ideal) (hb x0 x1) (View.ld x7 r0_2) (View.ld x2 r0_9) (View.ld x3 r0_10) (ix2 r (lane8 e j))
      = headNorm (fun k => zb x0 x1 x2 r ⟨1024 + (64 * e.val + k.val), by omega⟩) (fun k => x3 (ix2 0 (⟨1024 + (64 * e.val + k.val), by omega⟩ : Fin 1664))) j := by
  rw [View.ld_unit_zero (S := S256x256) zero2, pay9_apply _ _ hx7]
  exact congrArg₂ (fun z g : Fin 64 → EReal => headNorm z g j) (funext fun k => prod512_eq x0 x1 x2 _ 1024 (by decide) (ld_w9 x2) r _) (funext fun k => ld_g10 x3 _)

theorem ka_block (hx7 : Ones x7) (a : Fin 8 → EReal) (r : Fin 512) (e : Fin 2) (j : Fin 64)
    (hc : x4 (ix2 r (lane2 e j)) = tabC a j) (hp : x5 (ix2 r (lane2 e j)) = tabP a j) (hm : x6 (ix2 r (lane2 e j)) = tabM a j) :
    k0_pay11 (F := Ideal) (hb x0 x1) (View.ld x7 r0_2) (View.ld x2 r0_11) (View.ld x3 r0_12) (View.ld x4 r0_5) (View.ld x5 r0_5) (View.ld x6 r0_5) (ix2 r (lane2 e j))
      = rot (headNorm (fun k => zb x0 x1 x2 r ⟨1536 + (64 * e.val + k.val), by omega⟩) (fun k => x3 (ix2 0 (⟨1536 + (64 * e.val + k.val), by omega⟩ : Fin 1664)))) a j := by
  rw [View.ld_unit_zero (S := S256x256) zero2, View.ld_unit_zero (S := S512x128) zero2, View.ld_unit_zero (S := S512x128) zero2, View.ld_unit_zero (S := S512x128) zero2,
    pay11_apply _ _ hx7 _ _ _ _ _ a r e j hc hp hm]
  exact congrArg₂ (fun z g : Fin 64 → EReal => rot (headNorm z g) a j) (funext fun k => prod128_eq x0 x1 x2 _ 1536 (by decide) (ld_w11 x2) r _) (funext fun k => ld_g12 x3 _)

theorem va_block (r : Fin 512) (k : Fin 128) :
    k0_pay13 (F := Ideal) (hb x0 x1) (View.ld x2 r0_13) (ix2 r k) = zb x0 x1 x2 r ⟨1664 + k.val, by omega⟩ := by
  rw [pay13_apply]
  exact prod128_eq x0 x1 x2 _ 1664 (by decide) (ld_w13 x2) r k

theorem vb_block (r : Fin 512) (k : Fin 512) :
    k0_pay2 (F := Ideal) (hb x0 x1) (View.ld x2 r0_14) (ix2 r k) = zb x0 x1 x2 r ⟨1792 + k.val, by omega⟩ := by
  rw [pay2_apply]
  exact prod512_eq x0 x1 x2 _ 1792 (by decide) (ld_w14 x2) r k

end Cert.ProjSampleIdeal.Pay

end
-- ==== Proof.ProjOut.lean ====
/-
  What the projection kernel stores for a block of rows, given what its blocks hold: the row `xr`, its gain `g`, the
  columns `w` of the weights, the gains `gn` of the heads (times a scale `s`), and the angles `a`.
-/
module

public import proofs.«01_k».proof.Proof.ProjBlock

@[expose] public section

set_option maxRecDepth 16384

noncomputable section

namespace Cert.ProjSampleIdeal.Pay

open Cert.ProjMath Cert.ProjSampleIdeal Cert.ProjSampleIdeal.Gen Idealize.ShloMosaic Idealize.ShloMosaic.TcCoe Idealize.SL.Sem

variable (x0 : Vec Ideal S512x1024 .f32) (x1 : Vec Ideal S1x1024 .f32) (x2 : Vec Ideal S1024x2304 .bf16) (x3 : Vec Ideal S1x1664 .f32)
  (x4 x5 x6 : Vec Ideal S512x128 .f32) (x7 : Vec Ideal S256x256 .bf16)
variable (r : Fin 512) (xr g : Fin 1024 → EReal)

theorem zb_of (hx : ∀ d, x0 (ix2 r d) = xr d) (hg : ∀ d, x1 (ix2 0 d) = g d) (q : Fin 2304) (w : Fin 1024 → EReal) (hw : ∀ d, x2 (ix2 d q) = w d) :
    zb x0 x1 x2 r q = col (rowNorm xr g) w := by
  unfold zb
  exact congrArg₂ col (congrArg₂ rowNorm (funext hx) (funext hg)) (funext hw)

/-- The queries of the second kind. -/
theorem out9_of (hx7 : Ones x7) (hx : ∀ d, x0 (ix2 r d) = xr d) (hg : ∀ d, x1 (ix2 0 d) = g d) (w : Fin 512 → Fin 1024 → EReal)
    (hw : ∀ (k : Fin 512) d, x2 (ix2 d (⟨512 + k.val, by omega⟩ : Fin 2304)) = w k d) (e : Fin 8) (gn : Fin 64 → EReal) (s : EReal)
    (hgn : ∀ j : Fin 64, x3 (ix2 0 (⟨512 + (64 * e.val + j.val), by omega⟩ : Fin 1664)) = gn j * s) (j : Fin 64) :
    out0_9 x0 x1 x2 x3 x4 x5 x6 x7 (ix2 r (lane8 e j)) = headNorm (fun k => col (rowNorm xr g) (w ⟨64 * e.val + k.val, by omega⟩)) gn j * s := by
  unfold out0_9
  rw [View.canon_unit_zero zero2]
  refine (qb_block x0 x1 x2 x3 x7 hx7 r e j).trans ?_
  rw [← headNorm_scale]
  exact congrArg₂ (fun z y : Fin 64 → EReal => headNorm z y j)
    (funext fun k => zb_of x0 x1 x2 r xr g hx hg _ _ (hw ⟨64 * e.val + k.val, by omega⟩)) (funext hgn)

/-- The keys of the second kind, as a cache. -/
theorem out16_of (hx7 : Ones x7) (hx : ∀ d, x0 (ix2 r d) = xr d) (hg : ∀ d, x1 (ix2 0 d) = g d) (w : Fin 512 → Fin 1024 → EReal)
    (hw : ∀ (k : Fin 512) d, x2 (ix2 d (⟨1024 + k.val, by omega⟩ : Fin 2304)) = w k d) (e : Fin 8) (gn : Fin 64 → EReal)
    (hgn : ∀ j : Fin 64, x3 (ix2 0 (⟨1024 + (64 * e.val + j.val), by omega⟩ : Fin 1664)) = gn j) (j : Fin 64) :
    out0_16 x0 x1 x2 x3 x4 x5 x6 x7 (ix2 r (lane8 e j)) = headNorm (fun k => col (rowNorm xr g) (w ⟨64 * e.val + k.val, by omega⟩)) gn j := by
  unfold out0_16
  rw [View.canon_unit_zero zero2]
  refine (kb_block x0 x1 x2 x3 x7 hx7 r e j).trans ?_
  exact congrArg₂ (fun z y : Fin 64 → EReal => headNorm z y j)
    (funext fun k => zb_of x0 x1 x2 r xr g hx hg _ _ (hw ⟨64 * e.val + k.val, by omega⟩)) (funext hgn)

/-- The rounding is the identity here, so the two copies agree. -/
theorem out10_eq : out0_10 x0 x1 x2 x3 x4 x5 x6 x7 = out0_16 x0 x1 x2 x3 x4 x5 x6 x7 := by
  unfold out0_10 out0_16
  rw [View.canon_unit_zero zero2, View.canon_unit_zero zero2]
  rfl

/-- The keys of the first kind, as a cache. -/
theorem out14_of (hx7 : Ones x7) (hx : ∀ d, x0 (ix2 r d) = xr d) (hg : ∀ d, x1 (ix2 0 d) = g d) (w : Fin 128 → Fin 1024 → EReal)
    (hw : ∀ (k : Fin 128) d, x2 (ix2 d (⟨1536 + k.val, by omega⟩ : Fin 2304)) = w k d) (e : Fin 2) (gn : Fin 64 → EReal)
    (hgn : ∀ j : Fin 64, x3 (ix2 0 (⟨1536 + (64 * e.val + j.val), by omega⟩ : Fin 1664)) = gn j) (a : Fin 8 → EReal) (j : Fin 64)
    (hc : x4 (ix2 r (lane2 e j)) = tabC a j) (hp : x5 (ix2 r (lane2 e j)) = tabP a j) (hm : x6 (ix2 r (lane2 e j)) = tabM a j) :
    out0_14 x0 x1 x2 x3 x4 x5 x6 x7 (ix2 r (lane2 e j)) = rot (headNorm (fun k => col (rowNorm xr g) (w ⟨64 * e.val + k.val, by omega⟩)) gn) a j := by
  unfold out0_14
  rw [View.canon_unit_zero zero2]
  refine (ka_block x0 x1 x2 x3 x4 x5 x6 x7 hx7 a r e j hc hp hm).trans ?_
  exact congrArg₂ (fun z y : Fin 64 → EReal => rot (headNorm z y) a j)
    (funext fun k => zb_of x0 x1 x2 r xr g hx hg _ _ (hw ⟨64 * e.val + k.val, by omega⟩)) (funext hgn)

theorem out11_eq : out0_11 x0 x1 x2 x3 x4 x5 x6 x7 = out0_14 x0 x1 x2 x3 x4 x5 x6 x7 := by
  unfold out0_11 out0_14
  rw [View.canon_unit_zero zero2, View.canon_unit_zero zero2]
  rfl

/-- The values of the first kind, as a cache. -/
theorem out15_of (hx : ∀ d, x0 (ix2 r d) = xr d) (hg : ∀ d, x1 (ix2 0 d) = g d) (w : Fin 128 → Fin 1024 → EReal)
    (hw : ∀ (k : Fin 128) d, x2 (ix2 d (⟨1664 + k.val, by omega⟩ : Fin 2304)) = w k d) (k : Fin 128) :
    out0_15 x0 x1 x2 x3 x4 x5 x6 x7 (ix2 r k) = col (rowNorm xr g) (w k) := by
  unfold out0_15
  rw [View.canon_unit_zero zero2]
  exact (va_block x0 x1 x2 r k).trans (zb_of x0 x1 x2 r xr g hx hg _ _ (hw k))

theorem out12_eq : out0_12 x0 x1 x2 x3 x4 x5 x6 x7 = out0_15 x0 x1 x2 x3 x4 x5 x6 x7 := by
  unfold out0_12 out0_15
  rw [View.canon_unit_zero zero2, View.canon_unit_zero zero2]
  rfl

/-- The values of the second kind, as a cache. -/
theorem out17_of (hx : ∀ d, x0 (ix2 r d) = xr d) (hg : ∀ d, x1 (ix2 0 d) = g d) (w : Fin 512 → Fin 1024 → EReal)
    (hw : ∀ (k : Fin 512) d, x2 (ix2 d (⟨1792 + k.val, by omega⟩ : Fin 2304)) = w k d) (k : Fin 512) :
    out0_17 x0 x1 x2 x3 x4 x5 x6 x7 (ix2 r k) = col (rowNorm xr g) (w k) := by
  unfold out0_17
  rw [View.canon_unit_zero zero2]
  exact (vb_block x0 x1 x2 r k).trans (zb_of x0 x1 x2 r xr g hx hg _ _ (hw k))

theorem out13_eq : out0_13 x0 x1 x2 x3 x4 x5 x6 x7 = out0_17 x0 x1 x2 x3 x4 x5 x6 x7 := by
  unfold out0_13 out0_17
  rw [View.canon_unit_zero zero2, View.canon_unit_zero zero2]
  rfl

end Cert.ProjSampleIdeal.Pay

end
-- ==== Proof.ProjSampleHost.lean ====
/-
  The arrays the projection kernel of the sample is launched on, at an entry: the joint weights with their columns in the
  kernel's order, the gains one per lane, and the tables of cosines and sines.
-/
module

public import proofs.«01_k».proof.Proof.ProjMath
public import proofs.«01_k».proof.Proof.Gen.ProjSampleIdeal.Frame
public import Idealize.ShloMosaic.Lib.Pointwise
public import Idealize.ShloMosaic.PureOps.Ideal

@[expose] public section

set_option maxRecDepth 16384

noncomputable section

namespace Cert.ProjSampleIdeal.Host

open Cert.ProjMath Cert.ProjSampleIdeal Cert.ProjSampleIdeal.Gen Idealize.ShloMosaic Idealize.ShloMosaic.TcCoe Idealize.SL.Sem

variable (m : (ℓ : Loc nD τ sig) → Buf (Elt Ideal) ℓ)

/-! ## The rows and the gain of the first normalisation -/

theorem V_x (c : Dev nD) : (V m c main_v42 : Vec Ideal S1024x1024 .f32) = shapeCast S1024x1024 (m ((c : Thread nD τ).loc main_arg0) : Vec Ideal S32x32x1024 .f32) shapeCasts_S32x32x1024_S1024x1024 := by
  unfold V
  after_results
  rfl

theorem V_g (c : Dev nD) : (V m c main_v41 : Vec Ideal S1x1024 .f32)
    = broadcastInDim S1x1024 ![1] bcast_S1024_S1x1024_1 (shapeCast S1024 (m ((c : Thread nD τ).loc main_arg1) : Vec Ideal S1x1024 .f32) shapeCasts_S1x1024_S1024) := by
  unfold V
  after_results
  rfl

/-- Position `l` of sequence `n` among all rows. -/
abbrev row (n : Fin 32) (l : Fin 32) : Fin 1024 := ⟨32 * n.val + l.val, by omega⟩

theorem V_x_apply (c : Dev nD) (n : Fin 32) (l : Fin 32) (d : Fin 1024) :
    (V m c main_v42 : Vec Ideal S1024x1024 .f32) (ix2 (row n l) d) = (m ((c : Thread nD τ).loc main_arg0) : Vec Ideal S32x32x1024 .f32) (ix3 n l d) := by
  rw [V_x, shapeCast_apply _ _ _ (ix3 n l d)]
  rw [Shape.rowMajor_val_three, Shape.rowMajor_val_two]
  show (n.val * 32 + l.val) * 1024 + d.val = (32 * n.val + l.val) * 1024 + d.val
  omega

theorem gain_apply (g : Vec Ideal S1x1024 .f32) (d : Fin 1024) :
    broadcastInDim S1x1024 ![1] bcast_S1024_S1x1024_1 (shapeCast S1024 g shapeCasts_S1x1024_S1024) (ix2 0 d) = g (ix2 0 d) := by
  pointwise

theorem V_g_apply (c : Dev nD) (d : Fin 1024) :
    (V m c main_v41 : Vec Ideal S1x1024 .f32) (ix2 0 d) = (m ((c : Thread nD τ).loc main_arg1) : Vec Ideal S1x1024 .f32) (ix2 0 d) := by
  rw [V_g, gain_apply]

/-! ## The weights -/

/-- The weights' columns in the kernel's order, the first group of columns left open. -/
def wTerm (W : Vec Ideal S1x1024x2304 .f32) (Q : Vec Ideal S1024x512 .f32) : Vec Ideal S1024x2304 .bf16 :=
  truncf (F := Ideal) .bf16 (concatenate S1024x2304 1 [⟨S1024x512, Q⟩,
    ⟨S1024x512, extractStridedSlice S1024x512 ![0, 768] (shapeCast S1024x2304 W shapeCasts_S1x1024x2304_S1024x2304) slices_S1024x2304_S1024x512_0_768⟩,
    ⟨S1024x512, extractStridedSlice S1024x512 ![0, 1280] (shapeCast S1024x2304 W shapeCasts_S1x1024x2304_S1024x2304) slices_S1024x2304_S1024x512_0_1280⟩,
    ⟨S1024x128, extractStridedSlice S1024x128 ![0, 512] (shapeCast S1024x2304 W shapeCasts_S1x1024x2304_S1024x2304) slices_S1024x2304_S1024x128_0_512⟩,
    ⟨S1024x128, extractStridedSlice S1024x128 ![0, 640] (shapeCast S1024x2304 W shapeCasts_S1x1024x2304_S1024x2304) slices_S1024x2304_S1024x128_0_640⟩,
    ⟨S1024x512, extractStridedSlice S1024x512 ![0, 1792] (shapeCast S1024x2304 W shapeCasts_S1x1024x2304_S1024x2304) slices_S1024x2304_S1024x512_0_1792⟩]
    concatenates_S1024x512_S1024x512_S1024x512_S1024x128_S1024x128_S1024x512_S1024x2304_d1) bitsLt_bf16_f32

theorem V_w (c : Dev nD) : ∃ Q : Vec Ideal S1024x512 .f32,
    (V m c main_v17 : Vec Ideal S1024x2304 .bf16) = wTerm (m ((c : Thread nD τ).loc main_arg2) : Vec Ideal S1x1024x2304 .f32) Q :=
  ⟨_, by unfold V; after_results; rfl⟩

variable (W : Vec Ideal S1x1024x2304 .f32) (Q : Vec Ideal S1024x512 .f32)

theorem wTerm_qb (d : Fin 1024) (q : Fin 2304) (c : Fin 512) (hq : q.val = 512 + c.val) : wTerm W Q (ix2 d q) = W (ix3 0 d ⟨768 + c.val, by omega⟩) := by
  have hc := c.isLt
  pointwise [wTerm]
  split_ifs <;> first | omega | exact congrArg (fun z : Fin 2304 => W (ix3 0 d z)) (Fin.ext (by dsimp only; omega))

theorem V_w_qb (c : Dev nD) (d : Fin 1024) (k : Fin 512) :
    (V m c main_v17 : Vec Ideal S1024x2304 .bf16) (ix2 d (⟨512 + k.val, by omega⟩ : Fin 2304)) = (m ((c : Thread nD τ).loc main_arg2) : Vec Ideal S1x1024x2304 .f32) (ix3 0 d ⟨768 + k.val, by omega⟩) := by
  obtain ⟨Q, hQ⟩ := V_w m c
  rw [hQ, wTerm_qb _ _ _ _ k rfl]

theorem wTerm_kb (d : Fin 1024) (q : Fin 2304) (c : Fin 512) (hq : q.val = 1024 + c.val) : wTerm W Q (ix2 d q) = W (ix3 0 d ⟨1280 + c.val, by omega⟩) := by
  have hc := c.isLt
  pointwise [wTerm]
  split_ifs <;> first | omega | exact congrArg (fun z : Fin 2304 => W (ix3 0 d z)) (Fin.ext (by dsimp only; omega))

theorem V_w_kb (c : Dev nD) (d : Fin 1024) (k : Fin 512) :
    (V m c main_v17 : Vec Ideal S1024x2304 .bf16) (ix2 d (⟨1024 + k.val, by omega⟩ : Fin 2304)) = (m ((c : Thread nD τ).loc main_arg2) : Vec Ideal S1x1024x2304 .f32) (ix3 0 d ⟨1280 + k.val, by omega⟩) := by
  obtain ⟨Q, hQ⟩ := V_w m c
  rw [hQ, wTerm_kb _ _ _ _ k rfl]

theorem wTerm_ka (d : Fin 1024) (q : Fin 2304) (c : Fin 128) (hq : q.val = 1536 + c.val) : wTerm W Q (ix2 d q) = W (ix3 0 d ⟨512 + c.val, by omega⟩) := by
  have hc := c.isLt
  pointwise [wTerm]
  split_ifs <;> first | omega | exact congrArg (fun z : Fin 2304 => W (ix3 0 d z)) (Fin.ext (by dsimp only; omega))

theorem V_w_ka (c : Dev nD) (d : Fin 1024) (k : Fin 128) :
    (V m c main_v17 : Vec Ideal S1024x2304 .bf16) (ix2 d (⟨1536 + k.val, by omega⟩ : Fin 2304)) = (m ((c : Thread nD τ).loc main_arg2) : Vec Ideal S1x1024x2304 .f32) (ix3 0 d ⟨512 + k.val, by omega⟩) := by
  obtain ⟨Q, hQ⟩ := V_w m c
  rw [hQ, wTerm_ka _ _ _ _ k rfl]

theorem wTerm_va (d : Fin 1024) (q : Fin 2304) (c : Fin 128) (hq : q.val = 1664 + c.val) : wTerm W Q (ix2 d q) = W (ix3 0 d ⟨640 + c.val, by omega⟩) := by
  have hc := c.isLt
  pointwise [wTerm]
  split_ifs <;> first | omega | exact congrArg (fun z : Fin 2304 => W (ix3 0 d z)) (Fin.ext (by dsimp only; omega))

theorem V_w_va (c : Dev nD) (d : Fin 1024) (k : Fin 128) :
    (V m c main_v17 : Vec Ideal S1024x2304 .bf16) (ix2 d (⟨1664 + k.val, by omega⟩ : Fin 2304)) = (m ((c : Thread nD τ).loc main_arg2) : Vec Ideal S1x1024x2304 .f32) (ix3 0 d ⟨640 + k.val, by omega⟩) := by
  obtain ⟨Q, hQ⟩ := V_w m c
  rw [hQ, wTerm_va _ _ _ _ k rfl]

theorem wTerm_vb (d : Fin 1024) (q : Fin 2304) (c : Fin 512) (hq : q.val = 1792 + c.val) : wTerm W Q (ix2 d q) = W (ix3 0 d ⟨1792 + c.val, by omega⟩) := by
  have hc := c.isLt
  pointwise [wTerm]
  split_ifs <;> first | omega | exact congrArg (fun z : Fin 2304 => W (ix3 0 d z)) (Fin.ext (by dsimp only; omega))

theorem V_w_vb (c : Dev nD) (d : Fin 1024) (k : Fin 512) :
    (V m c main_v17 : Vec Ideal S1024x2304 .bf16) (ix2 d (⟨1792 + k.val, by omega⟩ : Fin 2304)) = (m ((c : Thread nD τ).loc main_arg2) : Vec Ideal S1x1024x2304 .f32) (ix3 0 d ⟨1792 + k.val, by omega⟩) := by
  obtain ⟨Q, hQ⟩ := V_w m c
  rw [hQ, wTerm_vb _ _ _ _ k rfl]

/-! ## The gains of the heads -/

/-- One gain repeated for each of eight heads, and for each of two. -/
def tile8 (g : Vec Ideal S1x64 .f32) : Vec Ideal S512 .f32 :=
  shapeCast S512 (broadcastInDim S8x64 ![0, 1] bcast_S1x64_S8x64_0_1 (shapeCast S1x64 (shapeCast S64 g shapeCasts_S1x64_S64) shapeCasts_S64_S1x64)) shapeCasts_S8x64_S512

def tile2 (g : Vec Ideal S1x64 .f32) : Vec Ideal S128 .f32 :=
  shapeCast S128 (broadcastInDim S2x64 ![0, 1] bcast_S1x64_S2x64_0_1 (shapeCast S1x64 (shapeCast S64 g shapeCasts_S1x64_S64) shapeCasts_S64_S1x64)) shapeCasts_S2x64_S128

theorem tile8_apply (g : Vec Ideal S1x64 .f32) (e : Fin 8) (j : Fin 64) : tile8 g (ix1 (⟨64 * e.val + j.val, by omega⟩ : Fin 512)) = g (ix2 0 j) := by
  unfold tile8
  rw [shapeCast_apply _ _ _ (ix2 e j)]
  · pointwise
  · rw [Shape.rowMajor_val_two, Shape.rowMajor_val_one]
    show e.val * 64 + j.val = 64 * e.val + j.val
    omega

theorem tile2_apply (g : Vec Ideal S1x64 .f32) (e : Fin 2) (j : Fin 64) : tile2 g (ix1 (⟨64 * e.val + j.val, by omega⟩ : Fin 128)) = g (ix2 0 j) := by
  unfold tile2
  rw [shapeCast_apply _ _ _ (ix2 e j)]
  · pointwise
  · rw [Shape.rowMajor_val_two, Shape.rowMajor_val_one]
    show e.val * 64 + j.val = 64 * e.val + j.val
    omega

/-- All gains in the kernel's order, the first group left open. -/
def gTerm (qb kb ka : Vec Ideal S1x64 .f32) (Q : Vec Ideal S512 .f32) : Vec Ideal S1x1664 .f32 :=
  broadcastInDim S1x1664 ![1] bcast_S1664_S1x1664_1 (concatenate S1664 0 [⟨S512, Q⟩,
    ⟨S512, mulf (F := Ideal) (tile8 qb) (broadcastInDim S512 ![] bcast_S_S512 (constant S_ .f32 0x3E000000#32))⟩, ⟨S512, tile8 kb⟩, ⟨S128, tile2 ka⟩]
    concatenates_S512_S512_S512_S128_S1664_d0)

theorem V_gn (c : Dev nD) : ∃ Q : Vec Ideal S512 .f32, (V m c main_v39 : Vec Ideal S1x1664 .f32)
    = gTerm (m ((c : Thread nD τ).loc main_arg5) : Vec Ideal S1x64 .f32) (m ((c : Thread nD τ).loc main_arg6) : Vec Ideal S1x64 .f32) (m ((c : Thread nD τ).loc main_arg4) : Vec Ideal S1x64 .f32) Q :=
  ⟨_, by unfold V; after_results; rfl⟩

theorem gTerm_of (qb kb ka : Vec Ideal S1x64 .f32) (Q : Vec Ideal S512 .f32) (q : Fin 1664) :
    gTerm qb kb ka Q (ix2 0 q) = if h : q.val < 512 then Q (ix1 ⟨q.val, h⟩) else
      if h1 : q.val - 512 < 512 then tile8 qb (ix1 ⟨q.val - 512, h1⟩) * Ideal.ofBits FTy.f32 0x3E000000#32 else
      if h2 : q.val - 512 - 512 < 512 then tile8 kb (ix1 ⟨q.val - 512 - 512, h2⟩) else tile2 ka (ix1 ⟨q.val - 512 - 512 - 512, by omega⟩) := by
  pointwise [gTerm]

theorem V_gn_qb (c : Dev nD) (e : Fin 8) (j : Fin 64) (g : Vec Ideal S1x64 .f32) (hg : m ((c : Thread nD τ).loc main_arg5) = g) :
    (V m c main_v39 : Vec Ideal S1x1664 .f32) (ix2 0 (⟨512 + (64 * e.val + j.val), by omega⟩ : Fin 1664)) = g (ix2 0 j) * Ideal.ofBits FTy.f32 0x3E000000#32 := by
  obtain ⟨Q, hQ⟩ := V_gn m c
  subst hg
  rw [hQ, gTerm_of, dif_neg (by dsimp only; omega), dif_pos (by dsimp only; omega)]
  refine Eq.trans ?_ (congrArg (fun z : EReal => z * Ideal.ofBits FTy.f32 0x3E000000#32) (tile8_apply _ e j))
  exact congrArg (fun z : Fin 512 => tile8 _ (ix1 z) * Ideal.ofBits FTy.f32 0x3E000000#32) (Fin.ext (by dsimp only; omega))

theorem V_gn_kb (c : Dev nD) (e : Fin 8) (j : Fin 64) (g : Vec Ideal S1x64 .f32) (hg : m ((c : Thread nD τ).loc main_arg6) = g) :
    (V m c main_v39 : Vec Ideal S1x1664 .f32) (ix2 0 (⟨1024 + (64 * e.val + j.val), by omega⟩ : Fin 1664)) = g (ix2 0 j) := by
  obtain ⟨Q, hQ⟩ := V_gn m c
  subst hg
  rw [hQ, gTerm_of, dif_neg (by dsimp only; omega), dif_neg (by dsimp only; omega), dif_pos (by dsimp only; omega)]
  refine Eq.trans ?_ (congrArg (fun z : EReal => z) (tile8_apply _ e j))
  exact congrArg (fun z : Fin 512 => tile8 _ (ix1 z)) (Fin.ext (by dsimp only; omega))

theorem V_gn_ka (c : Dev nD) (e : Fin 2) (j : Fin 64) (g : Vec Ideal S1x64 .f32) (hg : m ((c : Thread nD τ).loc main_arg4) = g) :
    (V m c main_v39 : Vec Ideal S1x1664 .f32) (ix2 0 (⟨1536 + (64 * e.val + j.val), by omega⟩ : Fin 1664)) = g (ix2 0 j) := by
  obtain ⟨Q, hQ⟩ := V_gn m c
  subst hg
  rw [hQ, gTerm_of, dif_neg (by dsimp only; omega), dif_neg (by dsimp only; omega), dif_neg (by dsimp only; omega)]
  refine Eq.trans ?_ (congrArg (fun z : EReal => z) (tile2_apply _ e j))
  exact congrArg (fun z : Fin 128 => tile2 _ (ix1 z)) (Fin.ext (by dsimp only; omega))

/-! ## The tables -/

/-- The position of each row of a block: the block holds whole sequences. -/
def posT : Vec Ideal S512 .i32 :=
  shapeCast S512 (broadcastInDim S16x32 ![0, 1] bcast_S1x32_S16x32_0_1 (shapeCast S1x32 (addi (broadcastInDim S32 ![] bcast_S_S32 (constantI S_ 32 2048#32)) (iotaInDim S32 32 0)) shapeCasts_S32_S1x32)) shapeCasts_S16x32_S512

theorem posT_apply (r : Fin 512) : posT (ix1 r) = IntOp.addi (2048#32) (BitVec.ofNat 32 (r.val % 32)) := by
  unfold posT
  rw [shapeCast_apply _ _ _ (ix2 (⟨r.val / 32, by omega⟩ : Fin 16) (⟨r.val % 32, by omega⟩ : Fin 32))]
  · pointwise
  · rw [Shape.rowMajor_val_two, Shape.rowMajor_val_one]
    show r.val / 32 * 32 + r.val % 32 = r.val
    omega

/-- The rotation angles, by row of the tables and frequency. -/
def angT : FVec Ideal S512x8 .f32 :=
  mulf (F := Ideal) (broadcastInDim S512x8 ![0, 1] bcast_S512x1_S512x8_0_1 (broadcastInDim S512x1 ![0] bcast_S512_S512x1_0 (sitofp .f32 posT)))
    (broadcastInDim S512x8 ![0, 1] bcast_S1x8_S512x8_0_1 (broadcastInDim S1x8 ![1] bcast_S8_S1x8_1 (Host.powf (broadcastInDim S8 ![] bcast_S_S8 (constant S_ .f32 0x48F42400#32))
      (Host.divf (Host.negf (sitofp .f32 (iotaInDim S8 32 0))) (broadcastInDim S8 ![] bcast_S_S8 (constant S_ .f32 0x41000000#32))))))

theorem angT_apply (r : Fin 512) (d : Fin 8) : angT (ix2 r d) = angle (posT (ix1 r)) d := by
  pointwise [angT]
  rfl

def cosT : FVec Ideal S512x8 .f32 := Host.cos angT
def sinT : FVec Ideal S512x8 .f32 := Host.sin angT
def nsinT : FVec Ideal S512x8 .f32 := Host.negf (Host.sin angT)

theorem cosT_apply (r : Fin 512) (d : Fin 8) : cosT (ix2 r d) = Ideal.cos (angle (posT (ix1 r)) d) := by
  rw [← angT_apply]
  rfl

theorem sinT_apply (r : Fin 512) (d : Fin 8) : sinT (ix2 r d) = Ideal.sin (angle (posT (ix1 r)) d) := by
  rw [← angT_apply]
  rfl

theorem nsinT_apply (r : Fin 512) (d : Fin 8) : nsinT (ix2 r d) = -Ideal.sin (angle (posT (ix1 r)) d) := by
  rw [← angT_apply]
  rfl

/-- A table of one head's lanes, repeated for two heads. -/
def tileT (y : Vec Ideal S512x64 .f32) : Vec Ideal S512x128 .f32 :=
  shapeCast S512x128 (broadcastInDim S1x512x2x64 ![0, 1, 2, 3] bcast_S1x512x1x64_S1x512x2x64_0_1_2_3 (shapeCast S1x512x1x64 y shapeCasts_S512x64_S1x512x1x64)) shapeCasts_S1x512x2x64_S512x128

theorem tileT_apply (y : Vec Ideal S512x64 .f32) (r : Fin 512) (e : Fin 2) (j : Fin 64) : tileT y (ix2 r (⟨64 * e.val + j.val, by omega⟩ : Fin 128)) = y (ix2 r j) := by
  unfold tileT
  rw [shapeCast_apply _ _ _ (ix4 0 r e j)]
  · have hb : broadcastInDim S1x512x2x64 ![0, 1, 2, 3] bcast_S1x512x1x64_S1x512x2x64_0_1_2_3 (shapeCast S1x512x1x64 y shapeCasts_S512x64_S1x512x1x64) (ix4 0 r e j)
        = shapeCast S1x512x1x64 y shapeCasts_S512x64_S1x512x1x64 (ix4 0 r 0 j) := by pointwise
    rw [hb, shapeCast_apply _ _ _ (ix2 r j)]
    rw [Shape.rowMajor_val_four, Shape.rowMajor_val_two]
    show r.val * 64 + j.val = ((0 * 512 + r.val) * 1 + 0) * 64 + j.val
    omega
  · rw [Shape.rowMajor_val_four, Shape.rowMajor_val_two]
    show ((0 * 512 + r.val) * 2 + e.val) * 64 + j.val = r.val * 128 + (64 * e.val + j.val)
    omega

def cT : Vec Ideal S512x64 .f32 :=
  concatenate S512x64 1 [⟨S512x8, cosT⟩, ⟨S512x8, cosT⟩, ⟨S512x48, broadcastInDim S512x48 ![] bcast_S_S512x48 (constant (F := Ideal) S_ .f32 0x3F800000#32)⟩]
    concatenates_S512x8_S512x8_S512x48_S512x64_d1

def pT : Vec Ideal S512x64 .f32 :=
  concatenate S512x64 1 [⟨S512x8, broadcastInDim S512x8 ![] bcast_S_S512x8 (constant (F := Ideal) S_ .f32 0x00000000#32)⟩, ⟨S512x8, sinT⟩, ⟨S512x48, broadcastInDim S512x48 ![] bcast_S_S512x48 (constant (F := Ideal) S_ .f32 0x00000000#32)⟩]
    concatenates_S512x8_S512x8_S512x48_S512x64_d1

def mT : Vec Ideal S512x64 .f32 :=
  concatenate S512x64 1 [⟨S512x8, nsinT⟩, ⟨S512x56, broadcastInDim S512x56 ![] bcast_S_S512x56 (constant (F := Ideal) S_ .f32 0x00000000#32)⟩]
    concatenates_S512x8_S512x56_S512x64_d1

theorem cT_apply (r : Fin 512) (j : Fin 64) : cT (ix2 r j) = tabC (angle (posT (ix1 r))) j := by
  pointwise [cT]
  simp only [cosT_apply, sinT_apply, nsinT_apply]
  unfold tabC
  rfl

theorem pT_apply (r : Fin 512) (j : Fin 64) : pT (ix2 r j) = tabP (angle (posT (ix1 r))) j := by
  pointwise [pT]
  simp only [cosT_apply, sinT_apply, nsinT_apply]
  unfold tabP
  rfl

theorem mT_apply (r : Fin 512) (j : Fin 64) : mT (ix2 r j) = tabM (angle (posT (ix1 r))) j := by
  pointwise [mT]
  simp only [cosT_apply, sinT_apply, nsinT_apply]
  unfold tabM
  rfl

theorem V_c (c : Dev nD) : (V m c main_v73 : Vec Ideal S512x128 .f32) = tileT cT := by
  unfold V
  after_results
  rfl

theorem V_p (c : Dev nD) : (V m c main_v76 : Vec Ideal S512x128 .f32) = tileT pT := by
  unfold V
  after_results
  rfl

theorem V_m (c : Dev nD) : (V m c main_v79 : Vec Ideal S512x128 .f32) = tileT mT := by
  unfold V
  after_results
  rfl

theorem V_c_apply (c : Dev nD) (r : Fin 512) (e : Fin 2) (j : Fin 64) :
    (V m c main_v73 : Vec Ideal S512x128 .f32) (ix2 r (⟨64 * e.val + j.val, by omega⟩ : Fin 128)) = tabC (angle (posT (ix1 r))) j := by
  rw [V_c, tileT_apply, cT_apply]

theorem V_p_apply (c : Dev nD) (r : Fin 512) (e : Fin 2) (j : Fin 64) :
    (V m c main_v76 : Vec Ideal S512x128 .f32) (ix2 r (⟨64 * e.val + j.val, by omega⟩ : Fin 128)) = tabP (angle (posT (ix1 r))) j := by
  rw [V_p, tileT_apply, pT_apply]

theorem V_m_apply (c : Dev nD) (r : Fin 512) (e : Fin 2) (j : Fin 64) :
    (V m c main_v79 : Vec Ideal S512x128 .f32) (ix2 r (⟨64 * e.val + j.val, by omega⟩ : Fin 128)) = tabM (angle (posT (ix1 r))) j := by
  rw [V_m, tileT_apply, mT_apply]

/-! ## The block of ones -/

theorem V_ones (c : Dev nD) : (V m c main_cst : Vec Ideal S256x256 .bf16) = ((fun i => FloatOps.ofBits (F := Ideal) .bf16 (lit1 (S256x256.rowMajor i))) : Vec Ideal S256x256 .bf16) := by
  unfold V
  after_results
  rfl

end Cert.ProjSampleIdeal.Host

end
-- ==== Proof.ProjSampleOnes.lean ====
/-
  The constant block the projection kernel of the sample sums squares with: the listed words are one where row and column
  belong to the same head and zero elsewhere. The words are listed in 512 runs of 128; every run is one of three.
-/
module

public import proofs.«01_k».proof.Proof.ProjSampleHost
public import proofs.«01_k».proof.Proof.ProjPay
public import Mathlib.Tactic.FinCases

@[expose] public section

set_option maxRecDepth 16384

noncomputable section

namespace Cert.ProjSampleIdeal.Host

open Cert.ProjMath Cert.ProjSampleIdeal Cert.ProjSampleIdeal.Gen Idealize.ShloMosaic Idealize.ShloMosaic.TcCoe Idealize.SL.Sem

/-- Run `k` at word `i`: half of a row, with ones in its first half, in its second half or nowhere. -/
def run (k i : ℕ) : BitVec 16 :=
  if k / 2 / 64 = 2 * (k % 2) then lit1t0_0 i else if k / 2 / 64 = 2 * (k % 2) + 1 then lit1t0_128 i else lit1t0_1 i

theorem run_at (i : ℕ) (k : Fin 512) (h : i / 128 = k.val) : lit1t i = run k.val i := by
  have h1 : i / 16384 = k.val / 128 := by omega
  have h2 : i / 128 % 128 = k.val % 128 := by omega
  unfold lit1t lit1t1_0 lit1t1_1 lit1t1_2 lit1t1_3
  rw [h1, h2]
  clear h h1 h2
  revert i
  fin_cases k <;> exact fun i => rfl

theorem first_half : ∀ b : Fin 128, lit1t0_0 b.val = if b.val < 64 then 0x3F80#16 else 0#16 := by decide +kernel
theorem second_half : ∀ b : Fin 128, lit1t0_128 b.val = if b.val < 64 then 0#16 else 0x3F80#16 := by decide +kernel
theorem nowhere : ∀ b : Fin 128, lit1t0_1 b.val = 0#16 := by decide +kernel

theorem first_mod (i : ℕ) : lit1t0_0 i = lit1t0_0 (i % 128) := by unfold lit1t0_0; rw [Nat.mod_mod]
theorem second_mod (i : ℕ) : lit1t0_128 i = lit1t0_128 (i % 128) := by unfold lit1t0_128; rw [Nat.mod_mod]
theorem nowhere_mod (i : ℕ) : lit1t0_1 i = lit1t0_1 (i % 128) := by unfold lit1t0_1; rw [Nat.mod_mod]

theorem word_apply (x y : Fin 256) : lit1t (256 * x.val + y.val) = if x.val / 64 = y.val / 64 then 0x3F80#16 else 0#16 := by
  have hx := x.isLt
  have hy := y.isLt
  rw [run_at _ ⟨2 * x.val + y.val / 128, by omega⟩ (by dsimp only; omega)]
  unfold run
  dsimp only
  rw [first_mod, second_mod, nowhere_mod]
  have h0 := first_half ⟨(256 * x.val + y.val) % 128, Nat.mod_lt _ (by decide)⟩
  have h1 := second_half ⟨(256 * x.val + y.val) % 128, Nat.mod_lt _ (by decide)⟩
  have h2 := nowhere ⟨(256 * x.val + y.val) % 128, Nat.mod_lt _ (by decide)⟩
  dsimp only at h0 h1 h2
  rw [h0, h1, h2]
  have e1 : (256 * x.val + y.val) % 128 = y.val % 128 := by omega
  have e2 : (2 * x.val + y.val / 128) / 2 = x.val := by omega
  have e3 : (2 * x.val + y.val / 128) % 2 = y.val / 128 := by omega
  simp only [e1, e2, e3]
  split_ifs <;> first | rfl | omega

variable (m : (ℓ : Loc nD τ sig) → Buf (Elt Ideal) ℓ)

theorem ones (c : Dev nD) : Cert.ProjSampleIdeal.Pay.Ones (V m c main_cst : Vec Ideal S256x256 .bf16) := by
  intro x y
  rw [V_ones]
  show Ideal.ofBits .bf16 (lit1 (S256x256.rowMajor (ix2 x y))) = _
  have hr : S256x256.rowMajor (ix2 x y) = (⟨256 * x.val + y.val, by omega⟩ : Fin 65536) := Fin.ext (by
    rw [Shape.rowMajor_val_two]
    show x.val * 256 + y.val = 256 * x.val + y.val
    omega)
  rw [hr]
  show Ideal.ofBits .bf16 (lit1t (256 * x.val + y.val)) = _
  rw [word_apply]
  by_cases h : x.val / 64 = y.val / 64
  · rw [if_pos h, if_pos h, Ideal.ofBits_one_bf16]
  · rw [if_neg h, if_neg h, Ideal.ofBits_zero_bf16]

end Cert.ProjSampleIdeal.Host

end
-- ==== Proof.ProjSampleArr.lean ====
/-
  The projection of the sample: the blocks its kernel loads, as entries of the arguments, and the arrays it leaves.
-/
module

public import proofs.«01_k».proof.Proof.ProjOut
public import proofs.«01_k».proof.Proof.ProjSampleHost
public import proofs.«01_k».proof.Proof.ProjSampleOnes
public import proofs.«01_k».proof.Proof.Gen.ProjSampleIdeal.Value

@[expose] public section

set_option maxRecDepth 16384

noncomputable section

namespace Cert.ProjSampleIdeal.Arr

open Cert.ProjMath Cert.ProjSampleIdeal Cert.ProjSampleIdeal.Gen Cert.ProjSampleIdeal.Host Idealize.ShloMosaic Idealize.ShloMosaic.TcCoe Idealize.SL.Sem
open Cert.ProjSampleIdeal.Pay (lane8 lane2 Ones out9_of out10_eq out11_eq out12_eq out13_eq out14_of out15_of out16_of out17_of)

variable (m : (ℓ : Loc nD τ sig) → Buf (Elt Ideal) ℓ)

theorem N_eq : cfg0.N = 2 := N_0

/-! ## The loaded blocks -/

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel

theorem blk0_apply (c : Dev nD) (t : Fin cfg0.N) (r : Fin 512) (n : Fin 32) (l : Fin 32) (h : 32 * n.val + l.val = t.val * 512 + r.val) (d : Fin 1024) :
    (iblk m c 0 t : Vec Ideal S512x1024 .f32) (ix2 r d) = (m ((c : Thread nD τ).loc main_arg0) : Vec Ideal S32x32x1024 .f32) (ix3 n l d) := by
  refine Eq.trans ?_ (V_x_apply m c n l d)
  unfold iblk
  rw [View.read_apply]
  show V m c main_v42 _ = V m c main_v42 _
  congr 1
  funext a
  apply Fin.ext
  match a with
  | ⟨0, _⟩ => show win0_0.index t 0 * 512 + 1 * r.val = 32 * n.val + l.val; rw [(index0 t).1]; omega
  | ⟨1, _⟩ => show win0_0.index t 1 * 1024 + 1 * d.val = d.val; rw [(index0 t).2]; omega

theorem blk1_apply (c : Dev nD) (t : Fin cfg0.N) (x : Fin 1) (y : Fin 1024) :
    (iblk m c 1 t : Vec Ideal S1x1024 .f32) (ix2 x y) = (V m c main_v41 : Vec Ideal S1x1024 .f32) (ix2 x y) := by
  unfold iblk
  rw [View.read_apply]
  show V m c main_v41 _ = V m c main_v41 _
  congr 1
  funext a
  apply Fin.ext
  match a with
  | ⟨0, _⟩ => show win0_1.index t 0 * 1 + 1 * x.val = x.val; rw [(index1 t).1]; omega
  | ⟨1, _⟩ => show win0_1.index t 1 * 1024 + 1 * y.val = y.val; rw [(index1 t).2]; omega

theorem blk2_apply (c : Dev nD) (t : Fin cfg0.N) (x : Fin 1024) (y : Fin 2304) :
    (iblk m c 2 t : Vec Ideal S1024x2304 .bf16) (ix2 x y) = (V m c main_v17 : Vec Ideal S1024x2304 .bf16) (ix2 x y) := by
  unfold iblk
  rw [View.read_apply]
  show V m c main_v17 _ = V m c main_v17 _
  congr 1
  funext a
  apply Fin.ext
  match a with
  | ⟨0, _⟩ => show win0_2.index t 0 * 1024 + 1 * x.val = x.val; rw [(index2 t).1]; omega
  | ⟨1, _⟩ => show win0_2.index t 1 * 2304 + 1 * y.val = y.val; rw [(index2 t).2]; omega

theorem blk3_apply (c : Dev nD) (t : Fin cfg0.N) (x : Fin 1) (y : Fin 1664) :
    (iblk m c 3 t : Vec Ideal S1x1664 .f32) (ix2 x y) = (V m c main_v39 : Vec Ideal S1x1664 .f32) (ix2 x y) := by
  unfold iblk
  rw [View.read_apply]
  show V m c main_v39 _ = V m c main_v39 _
  congr 1
  funext a
  apply Fin.ext
  match a with
  | ⟨0, _⟩ => show win0_3.index t 0 * 1 + 1 * x.val = x.val; rw [(index3 t).1]; omega
  | ⟨1, _⟩ => show win0_3.index t 1 * 1664 + 1 * y.val = y.val; rw [(index3 t).2]; omega

theorem blk7_apply (c : Dev nD) (t : Fin cfg0.N) (x : Fin 256) (y : Fin 256) :
    (iblk m c 7 t : Vec Ideal S256x256 .bf16) (ix2 x y) = (V m c main_cst : Vec Ideal S256x256 .bf16) (ix2 x y) := by
  unfold iblk
  rw [View.read_apply]
  show V m c main_cst _ = V m c main_cst _
  congr 1
  funext a
  apply Fin.ext
  match a with
  | ⟨0, _⟩ => show win0_7.index t 0 * 256 + 1 * x.val = x.val; rw [(index7 t).1]; omega
  | ⟨1, _⟩ => show win0_7.index t 1 * 256 + 1 * y.val = y.val; rw [(index7 t).2]; omega

/-- The position's word. -/
abbrev posAt (l : Fin 32) : BitVec 32 := IntOp.addi (2048#32) (BitVec.ofNat 32 l.val)

theorem blk4_apply (c : Dev nD) (t : Fin cfg0.N) (r : Fin 512) (n : Fin 32) (l : Fin 32) (h : 32 * n.val + l.val = t.val * 512 + r.val) (e : Fin 2) (j : Fin 64) :
    (iblk m c 4 t : Vec Ideal S512x128 .f32) (ix2 r (lane2 e j)) = tabC (angle (posAt l)) j := by
  have hl : l.val = r.val % 32 := by omega
  have hp : posT (ix1 r) = posAt l := by rw [posT_apply, ← hl]
  rw [← hp]
  refine Eq.trans ?_ (V_c_apply m c r e j)
  unfold iblk
  rw [View.read_apply]
  show V m c main_v73 _ = V m c main_v73 _
  congr 1
  funext a
  apply Fin.ext
  match a with
  | ⟨0, _⟩ => show win0_4.index t 0 * 512 + 1 * r.val = r.val; rw [(index4 t).1]; omega
  | ⟨1, _⟩ => show win0_4.index t 1 * 128 + 1 * (64 * e.val + j.val) = 64 * e.val + j.val; rw [(index4 t).2]; omega

theorem blk5_apply (c : Dev nD) (t : Fin cfg0.N) (r : Fin 512) (n : Fin 32) (l : Fin 32) (h : 32 * n.val + l.val = t.val * 512 + r.val) (e : Fin 2) (j : Fin 64) :
    (iblk m c 5 t : Vec Ideal S512x128 .f32) (ix2 r (lane2 e j)) = tabP (angle (posAt l)) j := by
  have hl : l.val = r.val % 32 := by omega
  have hp : posT (ix1 r) = posAt l := by rw [posT_apply, ← hl]
  rw [← hp]
  refine Eq.trans ?_ (V_p_apply m c r e j)
  unfold iblk
  rw [View.read_apply]
  show V m c main_v76 _ = V m c main_v76 _
  congr 1
  funext a
  apply Fin.ext
  match a with
  | ⟨0, _⟩ => show win0_5.index t 0 * 512 + 1 * r.val = r.val; rw [(index5 t).1]; omega
  | ⟨1, _⟩ => show win0_5.index t 1 * 128 + 1 * (64 * e.val + j.val) = 64 * e.val + j.val; rw [(index5 t).2]; omega

theorem blk6_apply (c : Dev nD) (t : Fin cfg0.N) (r : Fin 512) (n : Fin 32) (l : Fin 32) (h : 32 * n.val + l.val = t.val * 512 + r.val) (e : Fin 2) (j : Fin 64) :
    (iblk m c 6 t : Vec Ideal S512x128 .f32) (ix2 r (lane2 e j)) = tabM (angle (posAt l)) j := by
  have hl : l.val = r.val % 32 := by omega
  have hp : posT (ix1 r) = posAt l := by rw [posT_apply, ← hl]
  rw [← hp]
  refine Eq.trans ?_ (V_m_apply m c r e j)
  unfold iblk
  rw [View.read_apply]
  show V m c main_v79 _ = V m c main_v79 _
  congr 1
  funext a
  apply Fin.ext
  match a with
  | ⟨0, _⟩ => show win0_6.index t 0 * 512 + 1 * r.val = r.val; rw [(index6 t).1]; omega
  | ⟨1, _⟩ => show win0_6.index t 1 * 128 + 1 * (64 * e.val + j.val) = 64 * e.val + j.val; rw [(index6 t).2]; omega

theorem ones7 (c : Dev nD) (t : Fin cfg0.N) : Ones (iblk m c 7 t : Vec Ideal S256x256 .bf16) :=
  fun x y => (blk7_apply m c t x y).trans (ones m c x y)

/-! ## What one point stores, over the arguments -/

/-- One column of the projection of position `l` of sequence `n`. -/
abbrev zc (c : Dev nD) (n : Fin 32) (l : Fin 32) (q : Fin 2304) : EReal :=
  col (rowNorm (fun d => (m ((c : Thread nD τ).loc main_arg0) : Vec Ideal S32x32x1024 .f32) (ix3 n l d)) (fun d => (m ((c : Thread nD τ).loc main_arg1) : Vec Ideal S1x1024 .f32) (ix2 0 d)))
    (fun d => (m ((c : Thread nD τ).loc main_arg2) : Vec Ideal S1x1024x2304 .f32) (ix3 0 d q))

section
variable (c : Dev nD) (t : Fin cfg0.N) (r : Fin 512) (n : Fin 32) (l : Fin 32) (h : 32 * n.val + l.val = t.val * 512 + r.val)
include h

theorem at9 (e : Fin 8) (j : Fin 64) (g : Vec Ideal S1x64 .f32) (hg : m ((c : Thread nD τ).loc main_arg5) = g) :
    Cert.ProjSampleIdeal.Gen.out0_9 (iblk m c 0 t) (iblk m c 1 t) (iblk m c 2 t) (iblk m c 3 t) (iblk m c 4 t) (iblk m c 5 t) (iblk m c 6 t) (iblk m c 7 t) (ix2 r (lane8 e j))
      = headNorm (fun k => zc m c n l ⟨768 + (64 * e.val + k.val), by omega⟩) (fun k => g (ix2 0 k)) j * Ideal.ofBits FTy.f32 0x3E000000#32 :=
  out9_of _ _ _ _ _ _ _ _ r _ _ (ones7 m c t) (blk0_apply m c t r n l h) (fun d => (blk1_apply m c t 0 d).trans (V_g_apply m c d))
    (fun k d => (m ((c : Thread nD τ).loc main_arg2) : Vec Ideal S1x1024x2304 .f32) (ix3 0 d ⟨768 + k.val, by omega⟩))
    (fun k d => (blk2_apply m c t d _).trans (V_w_qb m c d k)) e (fun k => g (ix2 0 k)) _ (fun j => (blk3_apply m c t 0 _).trans (V_gn_qb m c e j g hg)) j

theorem at16 (e : Fin 8) (j : Fin 64) (g : Vec Ideal S1x64 .f32) (hg : m ((c : Thread nD τ).loc main_arg6) = g) :
    Cert.ProjSampleIdeal.Gen.out0_16 (iblk m c 0 t) (iblk m c 1 t) (iblk m c 2 t) (iblk m c 3 t) (iblk m c 4 t) (iblk m c 5 t) (iblk m c 6 t) (iblk m c 7 t) (ix2 r (lane8 e j))
      = headNorm (fun k => zc m c n l ⟨1280 + (64 * e.val + k.val), by omega⟩) (fun k => g (ix2 0 k)) j :=
  out16_of _ _ _ _ _ _ _ _ r _ _ (ones7 m c t) (blk0_apply m c t r n l h) (fun d => (blk1_apply m c t 0 d).trans (V_g_apply m c d))
    (fun k d => (m ((c : Thread nD τ).loc main_arg2) : Vec Ideal S1x1024x2304 .f32) (ix3 0 d ⟨1280 + k.val, by omega⟩))
    (fun k d => (blk2_apply m c t d _).trans (V_w_kb m c d k)) e (fun k => g (ix2 0 k)) (fun j => (blk3_apply m c t 0 _).trans (V_gn_kb m c e j g hg)) j

theorem at14 (e : Fin 2) (j : Fin 64) (g : Vec Ideal S1x64 .f32) (hg : m ((c : Thread nD τ).loc main_arg4) = g) :
    Cert.ProjSampleIdeal.Gen.out0_14 (iblk m c 0 t) (iblk m c 1 t) (iblk m c 2 t) (iblk m c 3 t) (iblk m c 4 t) (iblk m c 5 t) (iblk m c 6 t) (iblk m c 7 t) (ix2 r (lane2 e j))
      = rot (headNorm (fun k => zc m c n l ⟨512 + (64 * e.val + k.val), by omega⟩) (fun k => g (ix2 0 k))) (angle (posAt l)) j :=
  out14_of _ _ _ _ _ _ _ _ r _ _ (ones7 m c t) (blk0_apply m c t r n l h) (fun d => (blk1_apply m c t 0 d).trans (V_g_apply m c d))
    (fun k d => (m ((c : Thread nD τ).loc main_arg2) : Vec Ideal S1x1024x2304 .f32) (ix3 0 d ⟨512 + k.val, by omega⟩))
    (fun k d => (blk2_apply m c t d _).trans (V_w_ka m c d k)) e (fun k => g (ix2 0 k)) (fun j => (blk3_apply m c t 0 _).trans (V_gn_ka m c e j g hg)) _ j
    (blk4_apply m c t r n l h e j) (blk5_apply m c t r n l h e j) (blk6_apply m c t r n l h e j)

theorem at15 (k : Fin 128) :
    Cert.ProjSampleIdeal.Gen.out0_15 (iblk m c 0 t) (iblk m c 1 t) (iblk m c 2 t) (iblk m c 3 t) (iblk m c 4 t) (iblk m c 5 t) (iblk m c 6 t) (iblk m c 7 t) (ix2 r k) = zc m c n l ⟨640 + k.val, by omega⟩ :=
  out15_of _ _ _ _ _ _ _ _ r _ _ (blk0_apply m c t r n l h) (fun d => (blk1_apply m c t 0 d).trans (V_g_apply m c d))
    (fun k d => (m ((c : Thread nD τ).loc main_arg2) : Vec Ideal S1x1024x2304 .f32) (ix3 0 d ⟨640 + k.val, by omega⟩))
    (fun k d => (blk2_apply m c t d _).trans (V_w_va m c d k)) k

theorem at17 (k : Fin 512) :
    Cert.ProjSampleIdeal.Gen.out0_17 (iblk m c 0 t) (iblk m c 1 t) (iblk m c 2 t) (iblk m c 3 t) (iblk m c 4 t) (iblk m c 5 t) (iblk m c 6 t) (iblk m c 7 t) (ix2 r k) = zc m c n l ⟨1792 + k.val, by omega⟩ :=
  out17_of _ _ _ _ _ _ _ _ r _ _ (blk0_apply m c t r n l h) (fun d => (blk1_apply m c t 0 d).trans (V_g_apply m c d))
    (fun k d => (m ((c : Thread nD τ).loc main_arg2) : Vec Ideal S1x1024x2304 .f32) (ix3 0 d ⟨1792 + k.val, by omega⟩))
    (fun k d => (blk2_apply m c t d _).trans (V_w_vb m c d k)) k

end

/-! ## The arrays -/

theorem flush9 : ∀ t : Fin grid0.N, (cfg0.win 9).flush t = true := by decide +kernel
theorem index9 : ∀ t : Fin grid0.N, win0_9.index t 0 = t.val ∧ win0_9.index t 1 = 0 := by decide +kernel

theorem arr9_at (c : Dev nD) (t : Fin cfg0.N) (r : Fin 512) (q : Fin 512) (i : Fin 1024) (hi : i.val = t.val * 512 + r.val) :
    ((dats m 0 c).arrAt 9 cfg0.N : Vec Ideal S1024x512 .bf16) (ix2 i q) = Cert.ProjSampleIdeal.Gen.out0_9 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 9 Value.disjoint9 t (flush9 t) (ix2 r q)
  have he : ((cfg0.win 9).blk t).view.emb (ix2 r q) = (ix2 i q : S1024x512.Idx) := by
    funext a
    apply Fin.ext
    match a with
    | ⟨0, _⟩ => show win0_9.index t 0 * 512 + 1 * r.val = i.val; rw [(index9 t).1]; omega
    | ⟨1, _⟩ => show win0_9.index t 1 * 512 + 1 * q.val = q.val; rw [(index9 t).2]; omega
  refine (congrArg (fun i => (dats m 0 c).arrAt 9 cfg0.N i) he.symm).trans (h.trans ?_)
  rw [Value.flushed9]
  generalize Cert.ProjSampleIdeal.Gen.out0_9 (iblk m c 0 t) (iblk m c 1 t) (iblk m c 2 t) (iblk m c 3 t) (iblk m c 4 t) (iblk m c 5 t) (iblk m c 6 t) (iblk m c 7 t) = X
  rfl

theorem flush10 : ∀ t : Fin grid0.N, (cfg0.win 10).flush t = true := by decide +kernel
theorem index10 : ∀ t : Fin grid0.N, win0_10.index t 0 = t.val ∧ win0_10.index t 1 = 0 := by decide +kernel

theorem arr10_at (c : Dev nD) (t : Fin cfg0.N) (r : Fin 512) (q : Fin 512) (i : Fin 1024) (hi : i.val = t.val * 512 + r.val) :
    ((dats m 0 c).arrAt 10 cfg0.N : Vec Ideal S1024x512 .bf16) (ix2 i q) = Cert.ProjSampleIdeal.Gen.out0_10 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 10 Value.disjoint10 t (flush10 t) (ix2 r q)
  have he : ((cfg0.win 10).blk t).view.emb (ix2 r q) = (ix2 i q : S1024x512.Idx) := by
    funext a
    apply Fin.ext
    match a with
    | ⟨0, _⟩ => show win0_10.index t 0 * 512 + 1 * r.val = i.val; rw [(index10 t).1]; omega
    | ⟨1, _⟩ => show win0_10.index t 1 * 512 + 1 * q.val = q.val; rw [(index10 t).2]; omega
  refine (congrArg (fun i => (dats m 0 c).arrAt 10 cfg0.N i) he.symm).trans (h.trans ?_)
  rw [Value.flushed10]
  generalize Cert.ProjSampleIdeal.Gen.out0_10 (iblk m c 0 t) (iblk m c 1 t) (iblk m c 2 t) (iblk m c 3 t) (iblk m c 4 t) (iblk m c 5 t) (iblk m c 6 t) (iblk m c 7 t) = X
  rfl

theorem flush11 : ∀ t : Fin grid0.N, (cfg0.win 11).flush t = true := by decide +kernel
theorem index11 : ∀ t : Fin grid0.N, win0_11.index t 0 = t.val ∧ win0_11.index t 1 = 0 := by decide +kernel

theorem arr11_at (c : Dev nD) (t : Fin cfg0.N) (r : Fin 512) (q : Fin 128) (i : Fin 1024) (hi : i.val = t.val * 512 + r.val) :
    ((dats m 0 c).arrAt 11 cfg0.N : Vec Ideal S1024x128 .bf16) (ix2 i q) = Cert.ProjSampleIdeal.Gen.out0_11 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 11 Value.disjoint11 t (flush11 t) (ix2 r q)
  have he : ((cfg0.win 11).blk t).view.emb (ix2 r q) = (ix2 i q : S1024x128.Idx) := by
    funext a
    apply Fin.ext
    match a with
    | ⟨0, _⟩ => show win0_11.index t 0 * 512 + 1 * r.val = i.val; rw [(index11 t).1]; omega
    | ⟨1, _⟩ => show win0_11.index t 1 * 128 + 1 * q.val = q.val; rw [(index11 t).2]; omega
  refine (congrArg (fun i => (dats m 0 c).arrAt 11 cfg0.N i) he.symm).trans (h.trans ?_)
  rw [Value.flushed11]
  generalize Cert.ProjSampleIdeal.Gen.out0_11 (iblk m c 0 t) (iblk m c 1 t) (iblk m c 2 t) (iblk m c 3 t) (iblk m c 4 t) (iblk m c 5 t) (iblk m c 6 t) (iblk m c 7 t) = X
  rfl

theorem flush12 : ∀ t : Fin grid0.N, (cfg0.win 12).flush t = true := by decide +kernel
theorem index12 : ∀ t : Fin grid0.N, win0_12.index t 0 = t.val ∧ win0_12.index t 1 = 0 := by decide +kernel

theorem arr12_at (c : Dev nD) (t : Fin cfg0.N) (r : Fin 512) (q : Fin 128) (i : Fin 1024) (hi : i.val = t.val * 512 + r.val) :
    ((dats m 0 c).arrAt 12 cfg0.N : Vec Ideal S1024x128 .bf16) (ix2 i q) = Cert.ProjSampleIdeal.Gen.out0_12 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 12 Value.disjoint12 t (flush12 t) (ix2 r q)
  have he : ((cfg0.win 12).blk t).view.emb (ix2 r q) = (ix2 i q : S1024x128.Idx) := by
    funext a
    apply Fin.ext
    match a with
    | ⟨0, _⟩ => show win0_12.index t 0 * 512 + 1 * r.val = i.val; rw [(index12 t).1]; omega
    | ⟨1, _⟩ => show win0_12.index t 1 * 128 + 1 * q.val = q.val; rw [(index12 t).2]; omega
  refine (congrArg (fun i => (dats m 0 c).arrAt 12 cfg0.N i) he.symm).trans (h.trans ?_)
  rw [Value.flushed12]
  generalize Cert.ProjSampleIdeal.Gen.out0_12 (iblk m c 0 t) (iblk m c 1 t) (iblk m c 2 t) (iblk m c 3 t) (iblk m c 4 t) (iblk m c 5 t) (iblk m c 6 t) (iblk m c 7 t) = X
  rfl

theorem flush13 : ∀ t : Fin grid0.N, (cfg0.win 13).flush t = true := by decide +kernel
theorem index13 : ∀ t : Fin grid0.N, win0_13.index t 0 = t.val ∧ win0_13.index t 1 = 0 := by decide +kernel

theorem arr13_at (c : Dev nD) (t : Fin cfg0.N) (r : Fin 512) (q : Fin 512) (i : Fin 1024) (hi : i.val = t.val * 512 + r.val) :
    ((dats m 0 c).arrAt 13 cfg0.N : Vec Ideal S1024x512 .bf16) (ix2 i q) = Cert.ProjSampleIdeal.Gen.out0_13 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 13 Value.disjoint13 t (flush13 t) (ix2 r q)
  have he : ((cfg0.win 13).blk t).view.emb (ix2 r q) = (ix2 i q : S1024x512.Idx) := by
    funext a
    apply Fin.ext
    match a with
    | ⟨0, _⟩ => show win0_13.index t 0 * 512 + 1 * r.val = i.val; rw [(index13 t).1]; omega
    | ⟨1, _⟩ => show win0_13.index t 1 * 512 + 1 * q.val = q.val; rw [(index13 t).2]; omega
  refine (congrArg (fun i => (dats m 0 c).arrAt 13 cfg0.N i) he.symm).trans (h.trans ?_)
  rw [Value.flushed13]
  generalize Cert.ProjSampleIdeal.Gen.out0_13 (iblk m c 0 t) (iblk m c 1 t) (iblk m c 2 t) (iblk m c 3 t) (iblk m c 4 t) (iblk m c 5 t) (iblk m c 6 t) (iblk m c 7 t) = X
  rfl

theorem flush14 : ∀ t : Fin grid0.N, (cfg0.win 14).flush t = true := by decide +kernel
theorem index14 : ∀ t : Fin grid0.N, win0_14.index t 0 = t.val ∧ win0_14.index t 1 = 0 := by decide +kernel

theorem arr14_at (c : Dev nD) (t : Fin cfg0.N) (r : Fin 512) (q : Fin 128) (i : Fin 1024) (hi : i.val = t.val * 512 + r.val) :
    ((dats m 0 c).arrAt 14 cfg0.N : Vec Ideal S1024x128 .f32) (ix2 i q) = Cert.ProjSampleIdeal.Gen.out0_14 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 14 Value.disjoint14 t (flush14 t) (ix2 r q)
  have he : ((cfg0.win 14).blk t).view.emb (ix2 r q) = (ix2 i q : S1024x128.Idx) := by
    funext a
    apply Fin.ext
    match a with
    | ⟨0, _⟩ => show win0_14.index t 0 * 512 + 1 * r.val = i.val; rw [(index14 t).1]; omega
    | ⟨1, _⟩ => show win0_14.index t 1 * 128 + 1 * q.val = q.val; rw [(index14 t).2]; omega
  refine (congrArg (fun i => (dats m 0 c).arrAt 14 cfg0.N i) he.symm).trans (h.trans ?_)
  rw [Value.flushed14]
  generalize Cert.ProjSampleIdeal.Gen.out0_14 (iblk m c 0 t) (iblk m c 1 t) (iblk m c 2 t) (iblk m c 3 t) (iblk m c 4 t) (iblk m c 5 t) (iblk m c 6 t) (iblk m c 7 t) = X
  rfl

theorem flush15 : ∀ t : Fin grid0.N, (cfg0.win 15).flush t = true := by decide +kernel
theorem index15 : ∀ t : Fin grid0.N, win0_15.index t 0 = t.val ∧ win0_15.index t 1 = 0 := by decide +kernel

theorem arr15_at (c : Dev nD) (t : Fin cfg0.N) (r : Fin 512) (q : Fin 128) (i : Fin 1024) (hi : i.val = t.val * 512 + r.val) :
    ((dats m 0 c).arrAt 15 cfg0.N : Vec Ideal S1024x128 .f32) (ix2 i q) = Cert.ProjSampleIdeal.Gen.out0_15 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 15 Value.disjoint15 t (flush15 t) (ix2 r q)
  have he : ((cfg0.win 15).blk t).view.emb (ix2 r q) = (ix2 i q : S1024x128.Idx) := by
    funext a
    apply Fin.ext
    match a with
    | ⟨0, _⟩ => show win0_15.index t 0 * 512 + 1 * r.val = i.val; rw [(index15 t).1]; omega
    | ⟨1, _⟩ => show win0_15.index t 1 * 128 + 1 * q.val = q.val; rw [(index15 t).2]; omega
  refine (congrArg (fun i => (dats m 0 c).arrAt 15 cfg0.N i) he.symm).trans (h.trans ?_)
  rw [Value.flushed15]
  generalize Cert.ProjSampleIdeal.Gen.out0_15 (iblk m c 0 t) (iblk m c 1 t) (iblk m c 2 t) (iblk m c 3 t) (iblk m c 4 t) (iblk m c 5 t) (iblk m c 6 t) (iblk m c 7 t) = X
  rfl

theorem flush16 : ∀ t : Fin grid0.N, (cfg0.win 16).flush t = true := by decide +kernel
theorem index16 : ∀ t : Fin grid0.N, win0_16.index t 0 = t.val ∧ win0_16.index t 1 = 0 := by decide +kernel

theorem arr16_at (c : Dev nD) (t : Fin cfg0.N) (r : Fin 512) (q : Fin 512) (i : Fin 1024) (hi : i.val = t.val * 512 + r.val) :
    ((dats m 0 c).arrAt 16 cfg0.N : Vec Ideal S1024x512 .f32) (ix2 i q) = Cert.ProjSampleIdeal.Gen.out0_16 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 16 Value.disjoint16 t (flush16 t) (ix2 r q)
  have he : ((cfg0.win 16).blk t).view.emb (ix2 r q) = (ix2 i q : S1024x512.Idx) := by
    funext a
    apply Fin.ext
    match a with
    | ⟨0, _⟩ => show win0_16.index t 0 * 512 + 1 * r.val = i.val; rw [(index16 t).1]; omega
    | ⟨1, _⟩ => show win0_16.index t 1 * 512 + 1 * q.val = q.val; rw [(index16 t).2]; omega
  refine (congrArg (fun i => (dats m 0 c).arrAt 16 cfg0.N i) he.symm).trans (h.trans ?_)
  rw [Value.flushed16]
  generalize Cert.ProjSampleIdeal.Gen.out0_16 (iblk m c 0 t) (iblk m c 1 t) (iblk m c 2 t) (iblk m c 3 t) (iblk m c 4 t) (iblk m c 5 t) (iblk m c 6 t) (iblk m c 7 t) = X
  rfl

theorem flush17 : ∀ t : Fin grid0.N, (cfg0.win 17).flush t = true := by decide +kernel
theorem index17 : ∀ t : Fin grid0.N, win0_17.index t 0 = t.val ∧ win0_17.index t 1 = 0 := by decide +kernel

theorem arr17_at (c : Dev nD) (t : Fin cfg0.N) (r : Fin 512) (q : Fin 512) (i : Fin 1024) (hi : i.val = t.val * 512 + r.val) :
    ((dats m 0 c).arrAt 17 cfg0.N : Vec Ideal S1024x512 .f32) (ix2 i q) = Cert.ProjSampleIdeal.Gen.out0_17 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 17 Value.disjoint17 t (flush17 t) (ix2 r q)
  have he : ((cfg0.win 17).blk t).view.emb (ix2 r q) = (ix2 i q : S1024x512.Idx) := by
    funext a
    apply Fin.ext
    match a with
    | ⟨0, _⟩ => show win0_17.index t 0 * 512 + 1 * r.val = i.val; rw [(index17 t).1]; omega
    | ⟨1, _⟩ => show win0_17.index t 1 * 512 + 1 * q.val = q.val; rw [(index17 t).2]; omega
  refine (congrArg (fun i => (dats m 0 c).arrAt 17 cfg0.N i) he.symm).trans (h.trans ?_)
  rw [Value.flushed17]
  generalize Cert.ProjSampleIdeal.Gen.out0_17 (iblk m c 0 t) (iblk m c 1 t) (iblk m c 2 t) (iblk m c 3 t) (iblk m c 4 t) (iblk m c 5 t) (iblk m c 6 t) (iblk m c 7 t) = X
  rfl

theorem arr9 (c : Dev nD) (n : Fin 32) (l : Fin 32) (e : Fin 8) (j : Fin 64) (g : Vec Ideal S1x64 .f32) (hg : m ((c : Thread nD τ).loc main_arg5) = g) :
    ((dats m 0 c).arrAt 9 cfg0.N : Vec Ideal S1024x512 .bf16) (ix2 (row n l) (lane8 e j)) = headNorm (fun k => zc m c n l ⟨768 + (64 * e.val + k.val), by omega⟩) (fun k => g (ix2 0 k)) j * Ideal.ofBits FTy.f32 0x3E000000#32 :=
  (arr9_at m c (⟨(32 * n.val + l.val) / 512, by rw [N_eq]; omega⟩ : Fin cfg0.N) (⟨(32 * n.val + l.val) % 512, by omega⟩ : Fin 512) (lane8 e j) (row n l) (by show 32 * n.val + l.val = (32 * n.val + l.val) / 512 * 512 + (32 * n.val + l.val) % 512; omega)).trans
    ((at9 m c _ _ n l (by show 32 * n.val + l.val = (32 * n.val + l.val) / 512 * 512 + (32 * n.val + l.val) % 512; omega) e j g hg))

theorem arr10 (c : Dev nD) (n : Fin 32) (l : Fin 32) (e : Fin 8) (j : Fin 64) (g : Vec Ideal S1x64 .f32) (hg : m ((c : Thread nD τ).loc main_arg6) = g) :
    ((dats m 0 c).arrAt 10 cfg0.N : Vec Ideal S1024x512 .bf16) (ix2 (row n l) (lane8 e j)) = headNorm (fun k => zc m c n l ⟨1280 + (64 * e.val + k.val), by omega⟩) (fun k => g (ix2 0 k)) j :=
  (arr10_at m c (⟨(32 * n.val + l.val) / 512, by rw [N_eq]; omega⟩ : Fin cfg0.N) (⟨(32 * n.val + l.val) % 512, by omega⟩ : Fin 512) (lane8 e j) (row n l) (by show 32 * n.val + l.val = (32 * n.val + l.val) / 512 * 512 + (32 * n.val + l.val) % 512; omega)).trans
    ((congrFun (out10_eq _ _ _ _ _ _ _ _) _).trans (at16 m c _ _ n l (by show 32 * n.val + l.val = (32 * n.val + l.val) / 512 * 512 + (32 * n.val + l.val) % 512; omega) e j g hg))

theorem arr11 (c : Dev nD) (n : Fin 32) (l : Fin 32) (e : Fin 2) (j : Fin 64) (g : Vec Ideal S1x64 .f32) (hg : m ((c : Thread nD τ).loc main_arg4) = g) :
    ((dats m 0 c).arrAt 11 cfg0.N : Vec Ideal S1024x128 .bf16) (ix2 (row n l) (lane2 e j)) = rot (headNorm (fun k => zc m c n l ⟨512 + (64 * e.val + k.val), by omega⟩) (fun k => g (ix2 0 k))) (angle (posAt l)) j :=
  (arr11_at m c (⟨(32 * n.val + l.val) / 512, by rw [N_eq]; omega⟩ : Fin cfg0.N) (⟨(32 * n.val + l.val) % 512, by omega⟩ : Fin 512) (lane2 e j) (row n l) (by show 32 * n.val + l.val = (32 * n.val + l.val) / 512 * 512 + (32 * n.val + l.val) % 512; omega)).trans
    ((congrFun (out11_eq _ _ _ _ _ _ _ _) _).trans (at14 m c _ _ n l (by show 32 * n.val + l.val = (32 * n.val + l.val) / 512 * 512 + (32 * n.val + l.val) % 512; omega) e j g hg))

theorem arr12 (c : Dev nD) (n : Fin 32) (l : Fin 32) (k : Fin 128) :
    ((dats m 0 c).arrAt 12 cfg0.N : Vec Ideal S1024x128 .bf16) (ix2 (row n l) k) = zc m c n l ⟨640 + k.val, by omega⟩ :=
  (arr12_at m c (⟨(32 * n.val + l.val) / 512, by rw [N_eq]; omega⟩ : Fin cfg0.N) (⟨(32 * n.val + l.val) % 512, by omega⟩ : Fin 512) k (row n l) (by show 32 * n.val + l.val = (32 * n.val + l.val) / 512 * 512 + (32 * n.val + l.val) % 512; omega)).trans
    ((congrFun (out12_eq _ _ _ _ _ _ _ _) _).trans (at15 m c _ _ n l (by show 32 * n.val + l.val = (32 * n.val + l.val) / 512 * 512 + (32 * n.val + l.val) % 512; omega) k))

theorem arr13 (c : Dev nD) (n : Fin 32) (l : Fin 32) (k : Fin 512) :
    ((dats m 0 c).arrAt 13 cfg0.N : Vec Ideal S1024x512 .bf16) (ix2 (row n l) k) = zc m c n l ⟨1792 + k.val, by omega⟩ :=
  (arr13_at m c (⟨(32 * n.val + l.val) / 512, by rw [N_eq]; omega⟩ : Fin cfg0.N) (⟨(32 * n.val + l.val) % 512, by omega⟩ : Fin 512) k (row n l) (by show 32 * n.val + l.val = (32 * n.val + l.val) / 512 * 512 + (32 * n.val + l.val) % 512; omega)).trans
    ((congrFun (out13_eq _ _ _ _ _ _ _ _) _).trans (at17 m c _ _ n l (by show 32 * n.val + l.val = (32 * n.val + l.val) / 512 * 512 + (32 * n.val + l.val) % 512; omega) k))

theorem arr14 (c : Dev nD) (n : Fin 32) (l : Fin 32) (e : Fin 2) (j : Fin 64) (g : Vec Ideal S1x64 .f32) (hg : m ((c : Thread nD τ).loc main_arg4) = g) :
    ((dats m 0 c).arrAt 14 cfg0.N : Vec Ideal S1024x128 .f32) (ix2 (row n l) (lane2 e j)) = rot (headNorm (fun k => zc m c n l ⟨512 + (64 * e.val + k.val), by omega⟩) (fun k => g (ix2 0 k))) (angle (posAt l)) j :=
  (arr14_at m c (⟨(32 * n.val + l.val) / 512, by rw [N_eq]; omega⟩ : Fin cfg0.N) (⟨(32 * n.val + l.val) % 512, by omega⟩ : Fin 512) (lane2 e j) (row n l) (by show 32 * n.val + l.val = (32 * n.val + l.val) / 512 * 512 + (32 * n.val + l.val) % 512; omega)).trans
    ((at14 m c _ _ n l (by show 32 * n.val + l.val = (32 * n.val + l.val) / 512 * 512 + (32 * n.val + l.val) % 512; omega) e j g hg))

theorem arr15 (c : Dev nD) (n : Fin 32) (l : Fin 32) (k : Fin 128) :
    ((dats m 0 c).arrAt 15 cfg0.N : Vec Ideal S1024x128 .f32) (ix2 (row n l) k) = zc m c n l ⟨640 + k.val, by omega⟩ :=
  (arr15_at m c (⟨(32 * n.val + l.val) / 512, by rw [N_eq]; omega⟩ : Fin cfg0.N) (⟨(32 * n.val + l.val) % 512, by omega⟩ : Fin 512) k (row n l) (by show 32 * n.val + l.val = (32 * n.val + l.val) / 512 * 512 + (32 * n.val + l.val) % 512; omega)).trans
    ((at15 m c _ _ n l (by show 32 * n.val + l.val = (32 * n.val + l.val) / 512 * 512 + (32 * n.val + l.val) % 512; omega) k))

theorem arr16 (c : Dev nD) (n : Fin 32) (l : Fin 32) (e : Fin 8) (j : Fin 64) (g : Vec Ideal S1x64 .f32) (hg : m ((c : Thread nD τ).loc main_arg6) = g) :
    ((dats m 0 c).arrAt 16 cfg0.N : Vec Ideal S1024x512 .f32) (ix2 (row n l) (lane8 e j)) = headNorm (fun k => zc m c n l ⟨1280 + (64 * e.val + k.val), by omega⟩) (fun k => g (ix2 0 k)) j :=
  (arr16_at m c (⟨(32 * n.val + l.val) / 512, by rw [N_eq]; omega⟩ : Fin cfg0.N) (⟨(32 * n.val + l.val) % 512, by omega⟩ : Fin 512) (lane8 e j) (row n l) (by show 32 * n.val + l.val = (32 * n.val + l.val) / 512 * 512 + (32 * n.val + l.val) % 512; omega)).trans
    ((at16 m c _ _ n l (by show 32 * n.val + l.val = (32 * n.val + l.val) / 512 * 512 + (32 * n.val + l.val) % 512; omega) e j g hg))

theorem arr17 (c : Dev nD) (n : Fin 32) (l : Fin 32) (k : Fin 512) :
    ((dats m 0 c).arrAt 17 cfg0.N : Vec Ideal S1024x512 .f32) (ix2 (row n l) k) = zc m c n l ⟨1792 + k.val, by omega⟩ :=
  (arr17_at m c (⟨(32 * n.val + l.val) / 512, by rw [N_eq]; omega⟩ : Fin cfg0.N) (⟨(32 * n.val + l.val) % 512, by omega⟩ : Fin 512) k (row n l) (by show 32 * n.val + l.val = (32 * n.val + l.val) / 512 * 512 + (32 * n.val + l.val) % 512; omega)).trans
    ((at17 m c _ _ n l (by show 32 * n.val + l.val = (32 * n.val + l.val) / 512 * 512 + (32 * n.val + l.val) % 512; omega) k))

end Cert.ProjSampleIdeal.Arr

end
-- ==== Proof.ProjSampleRef.lean ====
/-
  The reference of the projection call on the sample, as terms of its arguments, read at an entry.
-/
module

public import proofs.«01_k».proof.Proof.ProjMath
public import proofs.«01_k».proof.Proof.Gen.ProjSampleReferenceIdeal.Run
public import Idealize.ShloMosaic.Lib.Pointwise
public import Idealize.ShloMosaic.PureOps.Ideal

@[expose] public section

set_option maxRecDepth 16384

noncomputable section

namespace Cert.ProjSampleReferenceIdeal.At

open Cert.ProjMath Cert.ProjSampleReferenceIdeal Cert.ProjSampleReferenceIdeal.Gen Idealize.ShloMosaic Idealize.ShloMosaic.TcCoe Idealize.SL.Sem

/-- The normalised rows. -/
def refH (X : FVec Ideal S32x32x1024 .f32) (G : FVec Ideal S1x1024 .f32) : FVec Ideal S32x32x1024 .f32 :=
  mulf (F := Ideal) (mulf X (broadcastInDim S32x32x1024 ![0, 1, 2] bcast_S32x32x1_S32x32x1024_0_1_2 (Host.rsqrt (addf (Host.divf (broadcastInDim S32x32x1 ![0, 1] bcast_S32x32_S32x32x1_0_1 (Host.reduceAdd (mulf X X) (constant S_ .f32 0x00000000#32) reducesTo_S32x32x1024_S32x32_d2 h_S_)) (broadcastInDim S32x32x1 ![] bcast_S_S32x32x1 (constant S_ .f32 0x44800000#32))) (broadcastInDim S32x32x1 ![] bcast_S_S32x32x1 (constant S_ .f32 0x358637BD#32)))))) (broadcastInDim S32x32x1024 ![0, 1, 2] bcast_S1x1x1024_S32x32x1024_0_1_2 (broadcastInDim S1x1x1024 ![2] bcast_S1024_S1x1x1024_2 (shapeCast _ G shapeCasts_S1x1024_S1024)))

/-- The joint projection. -/
def refZ (X : FVec Ideal S32x32x1024 .f32) (G : FVec Ideal S1x1024 .f32) (W : FVec Ideal S1x1024x2304 .f32) : FVec Ideal S32x32x2304 .f32 :=
  Host.dotGeneral (F := Ideal) dot_S32x32x1024_S1024x2304_S32x32x2304_2_0_01_1_n_n none (refH X G) (shapeCast _ W shapeCasts_S1x1024x2304_S1024x2304)

/-- Eight heads normalised, each along its own lanes. -/
def refHN8 (z : FVec Ideal S32x32x8x64 .f32) (g : FVec Ideal S1x64 .f32) : FVec Ideal S32x32x8x64 .f32 :=
  mulf (F := Ideal) (mulf z (broadcastInDim S32x32x8x64 ![0, 1, 2, 3] bcast_S32x32x8x1_S32x32x8x64_0_1_2_3 (Host.rsqrt (addf (Host.divf (broadcastInDim S32x32x8x1 ![0, 1, 2] bcast_S32x32x8_S32x32x8x1_0_1_2 (Host.reduceAdd (mulf z z) (constant S_ .f32 0x00000000#32) reducesTo_S32x32x8x64_S32x32x8_d3 h_S_)) (broadcastInDim S32x32x8x1 ![] bcast_S_S32x32x8x1 (constant S_ .f32 0x42800000#32))) (broadcastInDim S32x32x8x1 ![] bcast_S_S32x32x8x1 (constant S_ .f32 0x358637BD#32)))))) (broadcastInDim S32x32x8x64 ![0, 1, 2, 3] bcast_S1x1x1x64_S32x32x8x64_0_1_2_3 (broadcastInDim S1x1x1x64 ![3] bcast_S64_S1x1x1x64_3 (shapeCast _ g shapeCasts_S1x64_S64)))

/-- Two heads normalised. -/
def refHN2 (z : FVec Ideal S32x32x2x64 .f32) (g : FVec Ideal S1x64 .f32) : FVec Ideal S32x32x2x64 .f32 :=
  mulf (F := Ideal) (mulf z (broadcastInDim S32x32x2x64 ![0, 1, 2, 3] bcast_S32x32x2x1_S32x32x2x64_0_1_2_3 (Host.rsqrt (addf (Host.divf (broadcastInDim S32x32x2x1 ![0, 1, 2] bcast_S32x32x2_S32x32x2x1_0_1_2 (Host.reduceAdd (mulf z z) (constant S_ .f32 0x00000000#32) reducesTo_S32x32x2x64_S32x32x2_d3 h_S_)) (broadcastInDim S32x32x2x1 ![] bcast_S_S32x32x2x1 (constant S_ .f32 0x42800000#32))) (broadcastInDim S32x32x2x1 ![] bcast_S_S32x32x2x1 (constant S_ .f32 0x358637BD#32)))))) (broadcastInDim S32x32x2x64 ![0, 1, 2, 3] bcast_S1x1x1x64_S32x32x2x64_0_1_2_3 (broadcastInDim S1x1x1x64 ![3] bcast_S64_S1x1x1x64_3 (shapeCast _ g shapeCasts_S1x64_S64)))

/-- The rotation angles, by position and frequency. -/
def refAng : FVec Ideal S32x8 .f32 :=
  mulf (F := Ideal) (broadcastInDim S32x8 ![0, 1] bcast_S32x1_S32x8_0_1 (broadcastInDim S32x1 ![0] bcast_S32_S32x1_0 (sitofp .f32 (addi (broadcastInDim S32 ![] bcast_S_S32 (constantI S_ 32 2048#32)) (iotaInDim S32 32 0))))) (broadcastInDim S32x8 ![0, 1] bcast_S1x8_S32x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- The cosines, ready to multiply the heads. -/
def refCos : FVec Ideal S1x32x1x8 .f32 := broadcastInDim S1x32x1x8 ![1, 3] bcast_S32x8_S1x32x1x8_1_3 (Host.cos refAng)

/-- The sines, ready to multiply the heads. -/
def refSin : FVec Ideal S1x32x1x8 .f32 := broadcastInDim S1x32x1x8 ![1, 3] bcast_S32x8_S1x32x1x8_1_3 (Host.sin refAng)

/-- Two heads rotated on their first sixteen lanes. -/
def refRope (t : FVec Ideal S32x32x2x64 .f32) : FVec Ideal S32x32x2x64 .f32 :=
  concatenate S32x32x2x64 3 [⟨S32x32x2x8, subf (F := Ideal) (mulf (extractStridedSlice S32x32x2x8 ![0, 0, 0, 0] t slices_S32x32x2x64_S32x32x2x8_0_0_0_0) (broadcastInDim S32x32x2x8 ![0, 1, 2, 3] bcast_S1x32x1x8_S32x32x2x8_0_1_2_3 refCos)) (mulf (extractStridedSlice S32x32x2x8 ![0, 0, 0, 8] t slices_S32x32x2x64_S32x32x2x8_0_0_0_8) (broadcastInDim S32x32x2x8 ![0, 1, 2, 3] bcast_S1x32x1x8_S32x32x2x8_0_1_2_3 refSin))⟩,
    ⟨S32x32x2x8, addf (F := Ideal) (mulf (extractStridedSlice S32x32x2x8 ![0, 0, 0, 8] t slices_S32x32x2x64_S32x32x2x8_0_0_0_8) (broadcastInDim S32x32x2x8 ![0, 1, 2, 3] bcast_S1x32x1x8_S32x32x2x8_0_1_2_3 refCos)) (mulf (extractStridedSlice S32x32x2x8 ![0, 0, 0, 0] t slices_S32x32x2x64_S32x32x2x8_0_0_0_0) (broadcastInDim S32x32x2x8 ![0, 1, 2, 3] bcast_S1x32x1x8_S32x32x2x8_0_1_2_3 refSin))⟩,
    ⟨S32x32x2x48, extractStridedSlice S32x32x2x48 ![0, 0, 0, 16] t slices_S32x32x2x64_S32x32x2x48_0_0_0_16⟩] concatenates_S32x32x2x8_S32x32x2x8_S32x32x2x48_S32x32x2x64_d3

def refKA (X : FVec Ideal S32x32x1024 .f32) (G : FVec Ideal S1x1024 .f32) (W : FVec Ideal S1x1024x2304 .f32) (g : FVec Ideal S1x64 .f32) : FVec Ideal S32x32x2x64 .f32 :=
  refRope (refHN2 (shapeCast _ (extractStridedSlice S32x32x128 ![0, 0, 512] (refZ X G W) slices_S32x32x2304_S32x32x128_0_0_512) shapeCasts_S32x32x128_S32x32x2x64) g)

def refKB (X : FVec Ideal S32x32x1024 .f32) (G : FVec Ideal S1x1024 .f32) (W : FVec Ideal S1x1024x2304 .f32) (g : FVec Ideal S1x64 .f32) : FVec Ideal S32x32x8x64 .f32 :=
  refHN8 (shapeCast _ (extractStridedSlice S32x32x512 ![0, 0, 1280] (refZ X G W) slices_S32x32x2304_S32x32x512_0_0_1280) shapeCasts_S32x32x512_S32x32x8x64) g

def refQB (X : FVec Ideal S32x32x1024 .f32) (G : FVec Ideal S1x1024 .f32) (W : FVec Ideal S1x1024x2304 .f32) (g : FVec Ideal S1x64 .f32) : FVec Ideal S32x32x8x64 .f32 :=
  mulf (F := Ideal) (refHN8 (shapeCast _ (extractStridedSlice S32x32x512 ![0, 0, 768] (refZ X G W) slices_S32x32x2304_S32x32x512_0_0_768) shapeCasts_S32x32x512_S32x32x8x64) g) (broadcastInDim S32x32x8x64 ![] bcast_S_S32x32x8x64 (constant S_ .f32 0x3E000000#32))

def refVA (X : FVec Ideal S32x32x1024 .f32) (G : FVec Ideal S1x1024 .f32) (W : FVec Ideal S1x1024x2304 .f32) : FVec Ideal S32x32x128 .f32 :=
  extractStridedSlice S32x32x128 ![0, 0, 640] (refZ X G W) slices_S32x32x2304_S32x32x128_0_0_640

def refVB (X : FVec Ideal S32x32x1024 .f32) (G : FVec Ideal S1x1024 .f32) (W : FVec Ideal S1x1024x2304 .f32) : FVec Ideal S32x32x512 .f32 :=
  extractStridedSlice S32x32x512 ![0, 0, 1792] (refZ X G W) slices_S32x32x2304_S32x32x512_0_0_1792

/-! ## At an entry -/

/-- One column of the projection of position `l` of sequence `n`. -/
def zAt (X : FVec Ideal S32x32x1024 .f32) (G : FVec Ideal S1x1024 .f32) (W : FVec Ideal S1x1024x2304 .f32) (n : Fin 32) (l : Fin 32) (c : Fin 2304) : EReal :=
  col (rowNorm (fun k => X (ix3 n l k)) (fun k => G (ix2 0 k))) (fun d => W (ix3 0 d c))

theorem refH_apply (X : FVec Ideal S32x32x1024 .f32) (G : FVec Ideal S1x1024 .f32) (n : Fin 32) (l : Fin 32) (d : Fin 1024) :
    refH X G (ix3 n l d) = rowNorm (fun k => X (ix3 n l k)) (fun k => G (ix2 0 k)) d := by
  pointwise [refH]
  rfl

theorem refZ_apply (X : FVec Ideal S32x32x1024 .f32) (G : FVec Ideal S1x1024 .f32) (W : FVec Ideal S1x1024x2304 .f32) (n : Fin 32) (l : Fin 32) (c : Fin 2304) :
    refZ X G W (ix3 n l c) = zAt X G W n l c := by
  have key : refZ X G W (ix3 n l c) = ∑ k : Fin 1024, refH X G (ix3 n l k) * W (ix3 0 k c) := by
    pointwise [refZ]
  rw [key]
  exact Finset.sum_congr rfl fun d _ => congrArg (fun z : EReal => z * _) (refH_apply X G n l d)

theorem refHN8_apply (z : FVec Ideal S32x32x8x64 .f32) (g : FVec Ideal S1x64 .f32) (n : Fin 32) (l : Fin 32) (e : Fin 8) (j : Fin 64) :
    refHN8 z g (ix4 n l e j) = headNorm (fun k => z (ix4 n l e k)) (fun k => g (ix2 0 k)) j := by
  pointwise [refHN8]
  rfl

theorem refHN2_apply (z : FVec Ideal S32x32x2x64 .f32) (g : FVec Ideal S1x64 .f32) (n : Fin 32) (l : Fin 32) (e : Fin 2) (j : Fin 64) :
    refHN2 z g (ix4 n l e j) = headNorm (fun k => z (ix4 n l e k)) (fun k => g (ix2 0 k)) j := by
  pointwise [refHN2]
  rfl

/-- The position's word. -/
abbrev posAt (l : Fin 32) : BitVec 32 := IntOp.addi (2048#32) (BitVec.ofNat 32 l.val)

theorem refCos_apply (l : Fin 32) (d : Fin 8) : refCos (ix4 0 l 0 d) = Ideal.cos (angle (posAt l) d) := by
  pointwise [refCos, refAng]
  rfl

theorem refSin_apply (l : Fin 32) (d : Fin 8) : refSin (ix4 0 l 0 d) = Ideal.sin (angle (posAt l) d) := by
  pointwise [refSin, refAng]
  rfl

theorem refRope_apply (t : FVec Ideal S32x32x2x64 .f32) (n : Fin 32) (l : Fin 32) (e : Fin 2) (j : Fin 64) :
    refRope t (ix4 n l e j) = rot (fun k => t (ix4 n l e k)) (angle (posAt l)) j := by
  pointwise [refRope]
  unfold rot
  simp only [refCos_apply, refSin_apply]
  split
  · rfl
  · split
    · refine congrArg₂ (fun a b : EReal => a * _ + b) ?_ rfl
      exact congrArg (fun q : Fin 64 => t (ix4 n l e q)) (Fin.ext (by show 8 + (j.val - 8) = j.val; omega))
    · exact congrArg (fun q : Fin 64 => t (ix4 n l e q)) (Fin.ext (by show 16 + (j.val - 8 - 8) = j.val; omega))

theorem seg8_apply (y : FVec Ideal S32x32x512 .f32) (n : Fin 32) (l : Fin 32) (e : Fin 8) (j : Fin 64) :
    shapeCast S32x32x8x64 y shapeCasts_S32x32x512_S32x32x8x64 (ix4 n l e j) = y (ix3 n l ⟨64 * e.val + j.val, by omega⟩) := by
  rw [shapeCast_apply _ _ _ (ix3 n l ⟨64 * e.val + j.val, by omega⟩)]
  rw [Shape.rowMajor_val_four, Shape.rowMajor_val_three]
  show (n.val * 32 + l.val) * 512 + (64 * e.val + j.val) = ((n.val * 32 + l.val) * 8 + e.val) * 64 + j.val
  omega

theorem seg2_apply (y : FVec Ideal S32x32x128 .f32) (n : Fin 32) (l : Fin 32) (e : Fin 2) (j : Fin 64) :
    shapeCast S32x32x2x64 y shapeCasts_S32x32x128_S32x32x2x64 (ix4 n l e j) = y (ix3 n l ⟨64 * e.val + j.val, by omega⟩) := by
  rw [shapeCast_apply _ _ _ (ix3 n l ⟨64 * e.val + j.val, by omega⟩)]
  rw [Shape.rowMajor_val_four, Shape.rowMajor_val_three]
  show (n.val * 32 + l.val) * 128 + (64 * e.val + j.val) = ((n.val * 32 + l.val) * 2 + e.val) * 64 + j.val
  omega

variable (X : FVec Ideal S32x32x1024 .f32) (G : FVec Ideal S1x1024 .f32) (W : FVec Ideal S1x1024x2304 .f32) (g : FVec Ideal S1x64 .f32)

theorem refVA_apply (n : Fin 32) (l : Fin 32) (c : Fin 128) : refVA X G W (ix3 n l c) = zAt X G W n l ⟨640 + c.val, by omega⟩ := by
  rw [← refZ_apply]
  pointwise [refVA]

theorem refVB_apply (n : Fin 32) (l : Fin 32) (c : Fin 512) : refVB X G W (ix3 n l c) = zAt X G W n l ⟨1792 + c.val, by omega⟩ := by
  rw [← refZ_apply]
  pointwise [refVB]

theorem refKB_apply (n : Fin 32) (l : Fin 32) (e : Fin 8) (j : Fin 64) :
    refKB X G W g (ix4 n l e j) = headNorm (fun k => zAt X G W n l ⟨1280 + (64 * e.val + k.val), by omega⟩) (fun k => g (ix2 0 k)) j := by
  unfold refKB
  rw [refHN8_apply]
  refine congrArg (fun z : Fin 64 → EReal => headNorm z _ j) (funext fun k => ?_)
  rw [seg8_apply, ← refZ_apply]
  pointwise

theorem refQB_apply (n : Fin 32) (l : Fin 32) (e : Fin 8) (j : Fin 64) :
    refQB X G W g (ix4 n l e j) = headNorm (fun k => zAt X G W n l ⟨768 + (64 * e.val + k.val), by omega⟩) (fun k => g (ix2 0 k)) j * Ideal.ofBits FTy.f32 0x3E000000#32 := by
  unfold refQB
  show refHN8 _ g (ix4 n l e j) * _ = _
  rw [refHN8_apply]
  refine congrArg₂ (fun (z : Fin 64 → EReal) (s : EReal) => headNorm z _ j * s) (funext fun k => ?_) rfl
  rw [seg8_apply, ← refZ_apply]
  pointwise

theorem refKA_apply (n : Fin 32) (l : Fin 32) (e : Fin 2) (j : Fin 64) :
    refKA X G W g (ix4 n l e j) = rot (headNorm (fun k => zAt X G W n l ⟨512 + (64 * e.val + k.val), by omega⟩) (fun k => g (ix2 0 k))) (angle (posAt l)) j := by
  unfold refKA
  rw [refRope_apply]
  refine congrArg (fun z : Fin 64 → EReal => rot z _ j) (funext fun i => ?_)
  rw [refHN2_apply]
  refine congrArg (fun z : Fin 64 → EReal => headNorm z _ i) (funext fun k => ?_)
  rw [seg2_apply, ← refZ_apply]
  pointwise

/-! ## Flattened -/

/-- Position `l` of sequence `n` among all rows. -/
abbrev row (n : Fin 32) (l : Fin 32) : Fin 1024 := ⟨32 * n.val + l.val, by omega⟩

theorem flat8_apply (y : FVec Ideal S32x32x8x64 .f32) (n : Fin 32) (l : Fin 32) (e : Fin 8) (j : Fin 64) :
    shapeCast S1024x512 y shapeCasts_S32x32x8x64_S1024x512 (ix2 (row n l) (⟨64 * e.val + j.val, by omega⟩ : Fin 512)) = y (ix4 n l e j) := by
  rw [shapeCast_apply _ _ _ (ix4 n l e j)]
  rw [Shape.rowMajor_val_four, Shape.rowMajor_val_two]
  show ((n.val * 32 + l.val) * 8 + e.val) * 64 + j.val = (32 * n.val + l.val) * 512 + (64 * e.val + j.val)
  omega

theorem flat2_apply (y : FVec Ideal S32x32x2x64 .f32) (n : Fin 32) (l : Fin 32) (e : Fin 2) (j : Fin 64) :
    shapeCast S1024x128 y shapeCasts_S32x32x2x64_S1024x128 (ix2 (row n l) (⟨64 * e.val + j.val, by omega⟩ : Fin 128)) = y (ix4 n l e j) := by
  rw [shapeCast_apply _ _ _ (ix4 n l e j)]
  rw [Shape.rowMajor_val_four, Shape.rowMajor_val_two]
  show ((n.val * 32 + l.val) * 2 + e.val) * 64 + j.val = (32 * n.val + l.val) * 128 + (64 * e.val + j.val)
  omega

theorem flat512_apply (y : FVec Ideal S32x32x512 .f32) (n : Fin 32) (l : Fin 32) (c : Fin 512) :
    shapeCast S1024x512 y shapeCasts_S32x32x512_S1024x512 (ix2 (row n l) c) = y (ix3 n l c) := by
  rw [shapeCast_apply _ _ _ (ix3 n l c)]
  rw [Shape.rowMajor_val_three, Shape.rowMajor_val_two]
  show (n.val * 32 + l.val) * 512 + c.val = (32 * n.val + l.val) * 512 + c.val
  omega

theorem flat128_apply (y : FVec Ideal S32x32x128 .f32) (n : Fin 32) (l : Fin 32) (c : Fin 128) :
    shapeCast S1024x128 y shapeCasts_S32x32x128_S1024x128 (ix2 (row n l) c) = y (ix3 n l c) := by
  rw [shapeCast_apply _ _ _ (ix3 n l c)]
  rw [Shape.rowMajor_val_three, Shape.rowMajor_val_two]
  show (n.val * 32 + l.val) * 128 + c.val = (32 * n.val + l.val) * 128 + c.val
  omega

end Cert.ProjSampleReferenceIdeal.At

end
-- ==== Proof.ProjSampleEq.lean ====
/-
  The projection of the sample: the arrays its kernel leaves are the reference's.
-/
module

public import proofs.«01_k».proof.Proof.ProjSampleArr
public import proofs.«01_k».proof.Proof.ProjSampleRef

@[expose] public section

set_option maxRecDepth 16384

noncomputable section

namespace Cert.ProjSampleIdeal.Arr

open Cert.ProjMath Cert.ProjSampleIdeal Cert.ProjSampleIdeal.Gen Cert.ProjSampleIdeal.Host Idealize.ShloMosaic Idealize.ShloMosaic.TcCoe Idealize.SL.Sem
open Cert.ProjSampleIdeal.Pay (lane8 lane2)
open Cert.ProjSampleReferenceIdeal.At (refKA refKB refQB refVA refVB refKA_apply refKB_apply refQB_apply refVA_apply refVB_apply flat8_apply flat2_apply flat512_apply flat128_apply)

/-! ## Every index is a row and a lane -/

theorem at8 (i : S1024x512.Idx) : ∃ (n : Fin 32) (l : Fin 32) (e : Fin 8) (j : Fin 64), i = ix2 (row n l) (lane8 e j) := by
  have h0 : (i 0).val < 1024 := (i 0).isLt
  have h1 : (i 1).val < 512 := (i 1).isLt
  refine ⟨⟨(i 0).val / 32, by omega⟩, ⟨(i 0).val % 32, by omega⟩, ⟨(i 1).val / 64, by omega⟩, ⟨(i 1).val % 64, by omega⟩, funext fun a => Fin.ext ?_⟩
  match a with
  | ⟨0, _⟩ => show (i 0).val = 32 * ((i 0).val / 32) + (i 0).val % 32; omega
  | ⟨1, _⟩ => show (i 1).val = 64 * ((i 1).val / 64) + (i 1).val % 64; omega

theorem at2 (i : S1024x128.Idx) : ∃ (n : Fin 32) (l : Fin 32) (e : Fin 2) (j : Fin 64), i = ix2 (row n l) (lane2 e j) := by
  have h0 : (i 0).val < 1024 := (i 0).isLt
  have h1 : (i 1).val < 128 := (i 1).isLt
  refine ⟨⟨(i 0).val / 32, by omega⟩, ⟨(i 0).val % 32, by omega⟩, ⟨(i 1).val / 64, by omega⟩, ⟨(i 1).val % 64, by omega⟩, funext fun a => Fin.ext ?_⟩
  match a with
  | ⟨0, _⟩ => show (i 0).val = 32 * ((i 0).val / 32) + (i 0).val % 32; omega
  | ⟨1, _⟩ => show (i 1).val = 64 * ((i 1).val / 64) + (i 1).val % 64; omega

/-! ## The results -/

variable (m : (ℓ : Loc nD τ sig) → Buf (Elt Ideal) ℓ) (c : Dev nD)

theorem eq9 : ((dats m 0 c).arrAt 9 cfg0.N : Vec Ideal S1024x512 .bf16) = (truncf (F := Ideal) .bf16 (shapeCast Cert.ProjSampleReferenceIdeal.S1024x512 (refQB (m ((c : Thread nD τ).loc main_arg0)) (m ((c : Thread nD τ).loc main_arg1)) (m ((c : Thread nD τ).loc main_arg2)) (m ((c : Thread nD τ).loc main_arg5))) Cert.ProjSampleReferenceIdeal.Facts₀.shapeCasts_S32x32x8x64_S1024x512) : FVec Ideal S1024x512 .bf16) := by
  funext i
  obtain ⟨n, l, e, j, rfl⟩ := at8 i
  refine (arr9 m c n l e j _ rfl).trans ?_
  refine Eq.trans ?_ (flat8_apply (refQB (m ((c : Thread nD τ).loc main_arg0)) (m ((c : Thread nD τ).loc main_arg1)) (m ((c : Thread nD τ).loc main_arg2)) (m ((c : Thread nD τ).loc main_arg5))) n l e j).symm
  rw [refQB_apply]
  rfl

theorem eq10 : ((dats m 0 c).arrAt 10 cfg0.N : Vec Ideal S1024x512 .bf16) = (truncf (F := Ideal) .bf16 (shapeCast Cert.ProjSampleReferenceIdeal.S1024x512 (refKB (m ((c : Thread nD τ).loc main_arg0)) (m ((c : Thread nD τ).loc main_arg1)) (m ((c : Thread nD τ).loc main_arg2)) (m ((c : Thread nD τ).loc main_arg6))) Cert.ProjSampleReferenceIdeal.Facts₀.shapeCasts_S32x32x8x64_S1024x512) : FVec Ideal S1024x512 .bf16) := by
  funext i
  obtain ⟨n, l, e, j, rfl⟩ := at8 i
  refine (arr10 m c n l e j _ rfl).trans ?_
  refine Eq.trans ?_ (flat8_apply (refKB (m ((c : Thread nD τ).loc main_arg0)) (m ((c : Thread nD τ).loc main_arg1)) (m ((c : Thread nD τ).loc main_arg2)) (m ((c : Thread nD τ).loc main_arg6))) n l e j).symm
  rw [refKB_apply]
  rfl

theorem eq11 : ((dats m 0 c).arrAt 11 cfg0.N : Vec Ideal S1024x128 .bf16) = (truncf (F := Ideal) .bf16 (shapeCast Cert.ProjSampleReferenceIdeal.S1024x128 (refKA (m ((c : Thread nD τ).loc main_arg0)) (m ((c : Thread nD τ).loc main_arg1)) (m ((c : Thread nD τ).loc main_arg2)) (m ((c : Thread nD τ).loc main_arg4))) Cert.ProjSampleReferenceIdeal.Facts₀.shapeCasts_S32x32x2x64_S1024x128) : FVec Ideal S1024x128 .bf16) := by
  funext i
  obtain ⟨n, l, e, j, rfl⟩ := at2 i
  refine (arr11 m c n l e j _ rfl).trans ?_
  refine Eq.trans ?_ (flat2_apply (refKA (m ((c : Thread nD τ).loc main_arg0)) (m ((c : Thread nD τ).loc main_arg1)) (m ((c : Thread nD τ).loc main_arg2)) (m ((c : Thread nD τ).loc main_arg4))) n l e j).symm
  rw [refKA_apply]
  rfl

theorem eq12 : ((dats m 0 c).arrAt 12 cfg0.N : Vec Ideal S1024x128 .bf16) = (truncf (F := Ideal) .bf16 (shapeCast Cert.ProjSampleReferenceIdeal.S1024x128 (refVA (m ((c : Thread nD τ).loc main_arg0)) (m ((c : Thread nD τ).loc main_arg1)) (m ((c : Thread nD τ).loc main_arg2))) Cert.ProjSampleReferenceIdeal.Facts₀.shapeCasts_S32x32x128_S1024x128) : FVec Ideal S1024x128 .bf16) := by
  funext i
  obtain ⟨n, l, e, j, rfl⟩ := at2 i
  refine (arr12 m c n l (lane2 e j)).trans ?_
  refine Eq.trans ?_ (flat128_apply (refVA (m ((c : Thread nD τ).loc main_arg0)) (m ((c : Thread nD τ).loc main_arg1)) (m ((c : Thread nD τ).loc main_arg2))) n l (lane2 e j)).symm
  rw [refVA_apply]
  rfl

theorem eq13 : ((dats m 0 c).arrAt 13 cfg0.N : Vec Ideal S1024x512 .bf16) = (truncf (F := Ideal) .bf16 (shapeCast Cert.ProjSampleReferenceIdeal.S1024x512 (refVB (m ((c : Thread nD τ).loc main_arg0)) (m ((c : Thread nD τ).loc main_arg1)) (m ((c : Thread nD τ).loc main_arg2))) Cert.ProjSampleReferenceIdeal.Facts₀.shapeCasts_S32x32x512_S1024x512) : FVec Ideal S1024x512 .bf16) := by
  funext i
  obtain ⟨n, l, e, j, rfl⟩ := at8 i
  refine (arr13 m c n l (lane8 e j)).trans ?_
  refine Eq.trans ?_ (flat512_apply (refVB (m ((c : Thread nD τ).loc main_arg0)) (m ((c : Thread nD τ).loc main_arg1)) (m ((c : Thread nD τ).loc main_arg2))) n l (lane8 e j)).symm
  rw [refVB_apply]
  rfl

theorem eq14 : ((dats m 0 c).arrAt 14 cfg0.N : Vec Ideal S1024x128 .f32) = (shapeCast Cert.ProjSampleReferenceIdeal.S1024x128 (refKA (m ((c : Thread nD τ).loc main_arg0)) (m ((c : Thread nD τ).loc main_arg1)) (m ((c : Thread nD τ).loc main_arg2)) (m ((c : Thread nD τ).loc main_arg4))) Cert.ProjSampleReferenceIdeal.Facts₀.shapeCasts_S32x32x2x64_S1024x128 : FVec Ideal S1024x128 .f32) := by
  funext i
  obtain ⟨n, l, e, j, rfl⟩ := at2 i
  refine (arr14 m c n l e j _ rfl).trans ?_
  refine Eq.trans ?_ (flat2_apply (refKA (m ((c : Thread nD τ).loc main_arg0)) (m ((c : Thread nD τ).loc main_arg1)) (m ((c : Thread nD τ).loc main_arg2)) (m ((c : Thread nD τ).loc main_arg4))) n l e j).symm
  rw [refKA_apply]
  rfl

theorem eq15 : ((dats m 0 c).arrAt 15 cfg0.N : Vec Ideal S1024x128 .f32) = (shapeCast Cert.ProjSampleReferenceIdeal.S1024x128 (refVA (m ((c : Thread nD τ).loc main_arg0)) (m ((c : Thread nD τ).loc main_arg1)) (m ((c : Thread nD τ).loc main_arg2))) Cert.ProjSampleReferenceIdeal.Facts₀.shapeCasts_S32x32x128_S1024x128 : FVec Ideal S1024x128 .f32) := by
  funext i
  obtain ⟨n, l, e, j, rfl⟩ := at2 i
  refine (arr15 m c n l (lane2 e j)).trans ?_
  refine Eq.trans ?_ (flat128_apply (refVA (m ((c : Thread nD τ).loc main_arg0)) (m ((c : Thread nD τ).loc main_arg1)) (m ((c : Thread nD τ).loc main_arg2))) n l (lane2 e j)).symm
  rw [refVA_apply]
  rfl

theorem eq16 : ((dats m 0 c).arrAt 16 cfg0.N : Vec Ideal S1024x512 .f32) = (shapeCast Cert.ProjSampleReferenceIdeal.S1024x512 (refKB (m ((c : Thread nD τ).loc main_arg0)) (m ((c : Thread nD τ).loc main_arg1)) (m ((c : Thread nD τ).loc main_arg2)) (m ((c : Thread nD τ).loc main_arg6))) Cert.ProjSampleReferenceIdeal.Facts₀.shapeCasts_S32x32x8x64_S1024x512 : FVec Ideal S1024x512 .f32) := by
  funext i
  obtain ⟨n, l, e, j, rfl⟩ := at8 i
  refine (arr16 m c n l e j _ rfl).trans ?_
  refine Eq.trans ?_ (flat8_apply (refKB (m ((c : Thread nD τ).loc main_arg0)) (m ((c : Thread nD τ).loc main_arg1)) (m ((c : Thread nD τ).loc main_arg2)) (m ((c : Thread nD τ).loc main_arg6))) n l e j).symm
  rw [refKB_apply]
  rfl

theorem eq17 : ((dats m 0 c).arrAt 17 cfg0.N : Vec Ideal S1024x512 .f32) = (shapeCast Cert.ProjSampleReferenceIdeal.S1024x512 (refVB (m ((c : Thread nD τ).loc main_arg0)) (m ((c : Thread nD τ).loc main_arg1)) (m ((c : Thread nD τ).loc main_arg2))) Cert.ProjSampleReferenceIdeal.Facts₀.shapeCasts_S32x32x512_S1024x512 : FVec Ideal S1024x512 .f32) := by
  funext i
  obtain ⟨n, l, e, j, rfl⟩ := at8 i
  refine (arr17 m c n l (lane8 e j)).trans ?_
  refine Eq.trans ?_ (flat512_apply (refVB (m ((c : Thread nD τ).loc main_arg0)) (m ((c : Thread nD τ).loc main_arg1)) (m ((c : Thread nD τ).loc main_arg2))) n l (lane8 e j)).symm
  rw [refVB_apply]
  rfl

end Cert.ProjSampleIdeal.Arr

end
-- ==== Proof.ProjSampleRes.lean ====
/-
  The results of the sample reference's run that carry names, as the terms of ProjSampleRef.lean.
-/
module

public import proofs.«01_k».proof.Proof.ProjSampleRef

@[expose] public section

set_option maxRecDepth 16384

noncomputable section

namespace Cert.ProjSampleReferenceIdeal.At

open Cert.ProjSampleReferenceIdeal Cert.ProjSampleReferenceIdeal.Gen Cert.ProjSampleReferenceIdeal.Value Idealize.ShloMosaic Idealize.ShloMosaic.TcCoe Idealize.SL.Sem

theorem res_v103 (m : (ℓ : Loc nD τ sig) → Buf (Elt Ideal) ℓ) (c : Dev nD) :
    (Value.res_main_v103 m c : Vec Ideal S1024x512 .bf16) =
      (truncf (F := Ideal) .bf16 (shapeCast S1024x512 (refQB (m ((c : Thread nD τ).loc main_arg0)) (m ((c : Thread nD τ).loc main_arg1)) (m ((c : Thread nD τ).loc main_arg2)) (m ((c : Thread nD τ).loc main_arg5))) Cert.ProjSampleReferenceIdeal.Facts₀.shapeCasts_S32x32x8x64_S1024x512) : FVec Ideal S1024x512 .bf16) := rfl

theorem res_v107 (m : (ℓ : Loc nD τ sig) → Buf (Elt Ideal) ℓ) (c : Dev nD) :
    (Value.res_main_v107 m c : Vec Ideal S1024x128 .bf16) =
      (truncf (F := Ideal) .bf16 (shapeCast S1024x128 (refKA (m ((c : Thread nD τ).loc main_arg0)) (m ((c : Thread nD τ).loc main_arg1)) (m ((c : Thread nD τ).loc main_arg2)) (m ((c : Thread nD τ).loc main_arg4))) Cert.ProjSampleReferenceIdeal.Facts₀.shapeCasts_S32x32x2x64_S1024x128) : FVec Ideal S1024x128 .bf16) := rfl

theorem res_v112 (m : (ℓ : Loc nD τ sig) → Buf (Elt Ideal) ℓ) (c : Dev nD) :
    (Value.res_main_v112 m c : Vec Ideal S1024x128 .f32) =
      (shapeCast S1024x128 (refKA (m ((c : Thread nD τ).loc main_arg0)) (m ((c : Thread nD τ).loc main_arg1)) (m ((c : Thread nD τ).loc main_arg2)) (m ((c : Thread nD τ).loc main_arg4))) Cert.ProjSampleReferenceIdeal.Facts₀.shapeCasts_S32x32x2x64_S1024x128 : FVec Ideal S1024x128 .f32) := rfl

end Cert.ProjSampleReferenceIdeal.At

end
-- ==== Proof.ProjPromptHost.lean ====
/-
  The arrays the projection kernel of the prompt is launched on, at an entry: the joint weights with their columns in the
  kernel's order, the gains one per lane, and the tables of cosines and sines.
-/
module

public import proofs.«01_k».proof.Proof.ProjMath
public import proofs.«01_k».proof.Proof.Gen.ProjPromptIdeal.Frame
public import Idealize.ShloMosaic.Lib.Pointwise
public import Idealize.ShloMosaic.PureOps.Ideal

@[expose] public section

set_option maxRecDepth 16384

noncomputable section

namespace Cert.ProjPromptIdeal.Host

open Cert.ProjMath Cert.ProjPromptIdeal Cert.ProjPromptIdeal.Gen Idealize.ShloMosaic Idealize.ShloMosaic.TcCoe Idealize.SL.Sem

variable (m : (ℓ : Loc nD τ sig) → Buf (Elt Ideal) ℓ)

/-! ## The rows and the gain of the first normalisation -/

theorem V_x (c : Dev nD) : (V m c main_v42 : Vec Ideal S32768x1024 .f32) = shapeCast S32768x1024 (m ((c : Thread nD τ).loc main_arg0) : Vec Ideal S4x8192x1024 .f32) shapeCasts_S4x8192x1024_S32768x1024 := by
  unfold V
  after_results
  rfl

theorem V_g (c : Dev nD) : (V m c main_v41 : Vec Ideal S1x1024 .f32)
    = broadcastInDim S1x1024 ![1] bcast_S1024_S1x1024_1 (shapeCast S1024 (m ((c : Thread nD τ).loc main_arg1) : Vec Ideal S1x1024 .f32) shapeCasts_S1x1024_S1024) := by
  unfold V
  after_results
  rfl

/-- Position `l` of sequence `n` among all rows. -/
abbrev row (n : Fin 4) (l : Fin 8192) : Fin 32768 := ⟨8192 * n.val + l.val, by omega⟩

theorem V_x_apply (c : Dev nD) (n : Fin 4) (l : Fin 8192) (d : Fin 1024) :
    (V m c main_v42 : Vec Ideal S32768x1024 .f32) (ix2 (row n l) d) = (m ((c : Thread nD τ).loc main_arg0) : Vec Ideal S4x8192x1024 .f32) (ix3 n l d) := by
  rw [V_x, shapeCast_apply _ _ _ (ix3 n l d)]
  rw [Shape.rowMajor_val_three, Shape.rowMajor_val_two]
  show (n.val * 8192 + l.val) * 1024 + d.val = (8192 * n.val + l.val) * 1024 + d.val
  omega

theorem gain_apply (g : Vec Ideal S1x1024 .f32) (d : Fin 1024) :
    broadcastInDim S1x1024 ![1] bcast_S1024_S1x1024_1 (shapeCast S1024 g shapeCasts_S1x1024_S1024) (ix2 0 d) = g (ix2 0 d) := by
  pointwise

theorem V_g_apply (c : Dev nD) (d : Fin 1024) :
    (V m c main_v41 : Vec Ideal S1x1024 .f32) (ix2 0 d) = (m ((c : Thread nD τ).loc main_arg1) : Vec Ideal S1x1024 .f32) (ix2 0 d) := by
  rw [V_g, gain_apply]

/-! ## The weights -/

/-- The weights' columns in the kernel's order, the first group of columns left open. -/
def wTerm (W : Vec Ideal S1x1024x2304 .f32) (Q : Vec Ideal S1024x512 .f32) : Vec Ideal S1024x2304 .bf16 :=
  truncf (F := Ideal) .bf16 (concatenate S1024x2304 1 [⟨S1024x512, Q⟩,
    ⟨S1024x512, extractStridedSlice S1024x512 ![0, 768] (shapeCast S1024x2304 W shapeCasts_S1x1024x2304_S1024x2304) slices_S1024x2304_S1024x512_0_768⟩,
    ⟨S1024x512, extractStridedSlice S1024x512 ![0, 1280] (shapeCast S1024x2304 W shapeCasts_S1x1024x2304_S1024x2304) slices_S1024x2304_S1024x512_0_1280⟩,
    ⟨S1024x128, extractStridedSlice S1024x128 ![0, 512] (shapeCast S1024x2304 W shapeCasts_S1x1024x2304_S1024x2304) slices_S1024x2304_S1024x128_0_512⟩,
    ⟨S1024x128, extractStridedSlice S1024x128 ![0, 640] (shapeCast S1024x2304 W shapeCasts_S1x1024x2304_S1024x2304) slices_S1024x2304_S1024x128_0_640⟩,
    ⟨S1024x512, extractStridedSlice S1024x512 ![0, 1792] (shapeCast S1024x2304 W shapeCasts_S1x1024x2304_S1024x2304) slices_S1024x2304_S1024x512_0_1792⟩]
    concatenates_S1024x512_S1024x512_S1024x512_S1024x128_S1024x128_S1024x512_S1024x2304_d1) bitsLt_bf16_f32

theorem V_w (c : Dev nD) : ∃ Q : Vec Ideal S1024x512 .f32,
    (V m c main_v17 : Vec Ideal S1024x2304 .bf16) = wTerm (m ((c : Thread nD τ).loc main_arg2) : Vec Ideal S1x1024x2304 .f32) Q :=
  ⟨_, by unfold V; after_results; rfl⟩

variable (W : Vec Ideal S1x1024x2304 .f32) (Q : Vec Ideal S1024x512 .f32)

theorem wTerm_qb (d : Fin 1024) (q : Fin 2304) (c : Fin 512) (hq : q.val = 512 + c.val) : wTerm W Q (ix2 d q) = W (ix3 0 d ⟨768 + c.val, by omega⟩) := by
  have hc := c.isLt
  pointwise [wTerm]
  split_ifs <;> first | omega | exact congrArg (fun z : Fin 2304 => W (ix3 0 d z)) (Fin.ext (by dsimp only; omega))

theorem V_w_qb (c : Dev nD) (d : Fin 1024) (k : Fin 512) :
    (V m c main_v17 : Vec Ideal S1024x2304 .bf16) (ix2 d (⟨512 + k.val, by omega⟩ : Fin 2304)) = (m ((c : Thread nD τ).loc main_arg2) : Vec Ideal S1x1024x2304 .f32) (ix3 0 d ⟨768 + k.val, by omega⟩) := by
  obtain ⟨Q, hQ⟩ := V_w m c
  rw [hQ, wTerm_qb _ _ _ _ k rfl]

theorem wTerm_kb (d : Fin 1024) (q : Fin 2304) (c : Fin 512) (hq : q.val = 1024 + c.val) : wTerm W Q (ix2 d q) = W (ix3 0 d ⟨1280 + c.val, by omega⟩) := by
  have hc := c.isLt
  pointwise [wTerm]
  split_ifs <;> first | omega | exact congrArg (fun z : Fin 2304 => W (ix3 0 d z)) (Fin.ext (by dsimp only; omega))

theorem V_w_kb (c : Dev nD) (d : Fin 1024) (k : Fin 512) :
    (V m c main_v17 : Vec Ideal S1024x2304 .bf16) (ix2 d (⟨1024 + k.val, by omega⟩ : Fin 2304)) = (m ((c : Thread nD τ).loc main_arg2) : Vec Ideal S1x1024x2304 .f32) (ix3 0 d ⟨1280 + k.val, by omega⟩) := by
  obtain ⟨Q, hQ⟩ := V_w m c
  rw [hQ, wTerm_kb _ _ _ _ k rfl]

theorem wTerm_ka (d : Fin 1024) (q : Fin 2304) (c : Fin 128) (hq : q.val = 1536 + c.val) : wTerm W Q (ix2 d q) = W (ix3 0 d ⟨512 + c.val, by omega⟩) := by
  have hc := c.isLt
  pointwise [wTerm]
  split_ifs <;> first | omega | exact congrArg (fun z : Fin 2304 => W (ix3 0 d z)) (Fin.ext (by dsimp only; omega))

theorem V_w_ka (c : Dev nD) (d : Fin 1024) (k : Fin 128) :
    (V m c main_v17 : Vec Ideal S1024x2304 .bf16) (ix2 d (⟨1536 + k.val, by omega⟩ : Fin 2304)) = (m ((c : Thread nD τ).loc main_arg2) : Vec Ideal S1x1024x2304 .f32) (ix3 0 d ⟨512 + k.val, by omega⟩) := by
  obtain ⟨Q, hQ⟩ := V_w m c
  rw [hQ, wTerm_ka _ _ _ _ k rfl]

theorem wTerm_va (d : Fin 1024) (q : Fin 2304) (c : Fin 128) (hq : q.val = 1664 + c.val) : wTerm W Q (ix2 d q) = W (ix3 0 d ⟨640 + c.val, by omega⟩) := by
  have hc := c.isLt
  pointwise [wTerm]
  split_ifs <;> first | omega | exact congrArg (fun z : Fin 2304 => W (ix3 0 d z)) (Fin.ext (by dsimp only; omega))

theorem V_w_va (c : Dev nD) (d : Fin 1024) (k : Fin 128) :
    (V m c main_v17 : Vec Ideal S1024x2304 .bf16) (ix2 d (⟨1664 + k.val, by omega⟩ : Fin 2304)) = (m ((c : Thread nD τ).loc main_arg2) : Vec Ideal S1x1024x2304 .f32) (ix3 0 d ⟨640 + k.val, by omega⟩) := by
  obtain ⟨Q, hQ⟩ := V_w m c
  rw [hQ, wTerm_va _ _ _ _ k rfl]

theorem wTerm_vb (d : Fin 1024) (q : Fin 2304) (c : Fin 512) (hq : q.val = 1792 + c.val) : wTerm W Q (ix2 d q) = W (ix3 0 d ⟨1792 + c.val, by omega⟩) := by
  have hc := c.isLt
  pointwise [wTerm]
  split_ifs <;> first | omega | exact congrArg (fun z : Fin 2304 => W (ix3 0 d z)) (Fin.ext (by dsimp only; omega))

theorem V_w_vb (c : Dev nD) (d : Fin 1024) (k : Fin 512) :
    (V m c main_v17 : Vec Ideal S1024x2304 .bf16) (ix2 d (⟨1792 + k.val, by omega⟩ : Fin 2304)) = (m ((c : Thread nD τ).loc main_arg2) : Vec Ideal S1x1024x2304 .f32) (ix3 0 d ⟨1792 + k.val, by omega⟩) := by
  obtain ⟨Q, hQ⟩ := V_w m c
  rw [hQ, wTerm_vb _ _ _ _ k rfl]

/-! ## The gains of the heads -/

/-- One gain repeated for each of eight heads, and for each of two. -/
def tile8 (g : Vec Ideal S1x64 .f32) : Vec Ideal S512 .f32 :=
  shapeCast S512 (broadcastInDim S8x64 ![0, 1] bcast_S1x64_S8x64_0_1 (shapeCast S1x64 (shapeCast S64 g shapeCasts_S1x64_S64) shapeCasts_S64_S1x64)) shapeCasts_S8x64_S512

def tile2 (g : Vec Ideal S1x64 .f32) : Vec Ideal S128 .f32 :=
  shapeCast S128 (broadcastInDim S2x64 ![0, 1] bcast_S1x64_S2x64_0_1 (shapeCast S1x64 (shapeCast S64 g shapeCasts_S1x64_S64) shapeCasts_S64_S1x64)) shapeCasts_S2x64_S128

theorem tile8_apply (g : Vec Ideal S1x64 .f32) (e : Fin 8) (j : Fin 64) : tile8 g (ix1 (⟨64 * e.val + j.val, by omega⟩ : Fin 512)) = g (ix2 0 j) := by
  unfold tile8
  rw [shapeCast_apply _ _ _ (ix2 e j)]
  · pointwise
  · rw [Shape.rowMajor_val_two, Shape.rowMajor_val_one]
    show e.val * 64 + j.val = 64 * e.val + j.val
    omega

theorem tile2_apply (g : Vec Ideal S1x64 .f32) (e : Fin 2) (j : Fin 64) : tile2 g (ix1 (⟨64 * e.val + j.val, by omega⟩ : Fin 128)) = g (ix2 0 j) := by
  unfold tile2
  rw [shapeCast_apply _ _ _ (ix2 e j)]
  · pointwise
  · rw [Shape.rowMajor_val_two, Shape.rowMajor_val_one]
    show e.val * 64 + j.val = 64 * e.val + j.val
    omega

/-- All gains in the kernel's order, the first group left open. -/
def gTerm (qb kb ka : Vec Ideal S1x64 .f32) (Q : Vec Ideal S512 .f32) : Vec Ideal S1x1664 .f32 :=
  broadcastInDim S1x1664 ![1] bcast_S1664_S1x1664_1 (concatenate S1664 0 [⟨S512, Q⟩,
    ⟨S512, mulf (F := Ideal) (tile8 qb) (broadcastInDim S512 ![] bcast_S_S512 (constant S_ .f32 0x3E000000#32))⟩, ⟨S512, tile8 kb⟩, ⟨S128, tile2 ka⟩]
    concatenates_S512_S512_S512_S128_S1664_d0)

theorem V_gn (c : Dev nD) : ∃ Q : Vec Ideal S512 .f32, (V m c main_v39 : Vec Ideal S1x1664 .f32)
    = gTerm (m ((c : Thread nD τ).loc main_arg5) : Vec Ideal S1x64 .f32) (m ((c : Thread nD τ).loc main_arg6) : Vec Ideal S1x64 .f32) (m ((c : Thread nD τ).loc main_arg4) : Vec Ideal S1x64 .f32) Q :=
  ⟨_, by unfold V; after_results; rfl⟩

theorem gTerm_of (qb kb ka : Vec Ideal S1x64 .f32) (Q : Vec Ideal S512 .f32) (q : Fin 1664) :
    gTerm qb kb ka Q (ix2 0 q) = if h : q.val < 512 then Q (ix1 ⟨q.val, h⟩) else
      if h1 : q.val - 512 < 512 then tile8 qb (ix1 ⟨q.val - 512, h1⟩) * Ideal.ofBits FTy.f32 0x3E000000#32 else
      if h2 : q.val - 512 - 512 < 512 then tile8 kb (ix1 ⟨q.val - 512 - 512, h2⟩) else tile2 ka (ix1 ⟨q.val - 512 - 512 - 512, by omega⟩) := by
  pointwise [gTerm]

theorem V_gn_qb (c : Dev nD) (e : Fin 8) (j : Fin 64) (g : Vec Ideal S1x64 .f32) (hg : m ((c : Thread nD τ).loc main_arg5) = g) :
    (V m c main_v39 : Vec Ideal S1x1664 .f32) (ix2 0 (⟨512 + (64 * e.val + j.val), by omega⟩ : Fin 1664)) = g (ix2 0 j) * Ideal.ofBits FTy.f32 0x3E000000#32 := by
  obtain ⟨Q, hQ⟩ := V_gn m c
  subst hg
  rw [hQ, gTerm_of, dif_neg (by dsimp only; omega), dif_pos (by dsimp only; omega)]
  refine Eq.trans ?_ (congrArg (fun z : EReal => z * Ideal.ofBits FTy.f32 0x3E000000#32) (tile8_apply _ e j))
  exact congrArg (fun z : Fin 512 => tile8 _ (ix1 z) * Ideal.ofBits FTy.f32 0x3E000000#32) (Fin.ext (by dsimp only; omega))

theorem V_gn_kb (c : Dev nD) (e : Fin 8) (j : Fin 64) (g : Vec Ideal S1x64 .f32) (hg : m ((c : Thread nD τ).loc main_arg6) = g) :
    (V m c main_v39 : Vec Ideal S1x1664 .f32) (ix2 0 (⟨1024 + (64 * e.val + j.val), by omega⟩ : Fin 1664)) = g (ix2 0 j) := by
  obtain ⟨Q, hQ⟩ := V_gn m c
  subst hg
  rw [hQ, gTerm_of, dif_neg (by dsimp only; omega), dif_neg (by dsimp only; omega), dif_pos (by dsimp only; omega)]
  refine Eq.trans ?_ (congrArg (fun z : EReal => z) (tile8_apply _ e j))
  exact congrArg (fun z : Fin 512 => tile8 _ (ix1 z)) (Fin.ext (by dsimp only; omega))

theorem V_gn_ka (c : Dev nD) (e : Fin 2) (j : Fin 64) (g : Vec Ideal S1x64 .f32) (hg : m ((c : Thread nD τ).loc main_arg4) = g) :
    (V m c main_v39 : Vec Ideal S1x1664 .f32) (ix2 0 (⟨1536 + (64 * e.val + j.val), by omega⟩ : Fin 1664)) = g (ix2 0 j) := by
  obtain ⟨Q, hQ⟩ := V_gn m c
  subst hg
  rw [hQ, gTerm_of, dif_neg (by dsimp only; omega), dif_neg (by dsimp only; omega), dif_neg (by dsimp only; omega)]
  refine Eq.trans ?_ (congrArg (fun z : EReal => z) (tile2_apply _ e j))
  exact congrArg (fun z : Fin 128 => tile2 _ (ix1 z)) (Fin.ext (by dsimp only; omega))

/-! ## The tables -/

/-- The position of each row. -/
abbrev posT : Vec Ideal S8192 .i32 := iotaInDim S8192 32 0

/-- The rotation angles, by row of the tables and frequency. -/
def angT : FVec Ideal S8192x8 .f32 :=
  mulf (F := Ideal) (broadcastInDim S8192x8 ![0, 1] bcast_S8192x1_S8192x8_0_1 (broadcastInDim S8192x1 ![0] bcast_S8192_S8192x1_0 (sitofp .f32 posT)))
    (broadcastInDim S8192x8 ![0, 1] bcast_S1x8_S8192x8_0_1 (broadcastInDim S1x8 ![1] bcast_S8_S1x8_1 (Host.powf (broadcastInDim S8 ![] bcast_S_S8 (constant S_ .f32 0x48F42400#32))
      (Host.divf (Host.negf (sitofp .f32 (iotaInDim S8 32 0))) (broadcastInDim S8 ![] bcast_S_S8 (constant S_ .f32 0x41000000#32))))))

theorem angT_apply (r : Fin 8192) (d : Fin 8) : angT (ix2 r d) = angle (posT (ix1 r)) d := by
  pointwise [angT]
  rfl

def cosT : FVec Ideal S8192x8 .f32 := Host.cos angT
def sinT : FVec Ideal S8192x8 .f32 := Host.sin angT
def nsinT : FVec Ideal S8192x8 .f32 := Host.negf (Host.sin angT)

theorem cosT_apply (r : Fin 8192) (d : Fin 8) : cosT (ix2 r d) = Ideal.cos (angle (posT (ix1 r)) d) := by
  rw [← angT_apply]
  rfl

theorem sinT_apply (r : Fin 8192) (d : Fin 8) : sinT (ix2 r d) = Ideal.sin (angle (posT (ix1 r)) d) := by
  rw [← angT_apply]
  rfl

theorem nsinT_apply (r : Fin 8192) (d : Fin 8) : nsinT (ix2 r d) = -Ideal.sin (angle (posT (ix1 r)) d) := by
  rw [← angT_apply]
  rfl

/-- A table of one head's lanes, repeated for two heads. -/
def tileT (y : Vec Ideal S8192x64 .f32) : Vec Ideal S8192x128 .f32 :=
  shapeCast S8192x128 (broadcastInDim S1x8192x2x64 ![0, 1, 2, 3] bcast_S1x8192x1x64_S1x8192x2x64_0_1_2_3 (shapeCast S1x8192x1x64 y shapeCasts_S8192x64_S1x8192x1x64)) shapeCasts_S1x8192x2x64_S8192x128

theorem tileT_apply (y : Vec Ideal S8192x64 .f32) (r : Fin 8192) (e : Fin 2) (j : Fin 64) : tileT y (ix2 r (⟨64 * e.val + j.val, by omega⟩ : Fin 128)) = y (ix2 r j) := by
  unfold tileT
  rw [shapeCast_apply _ _ _ (ix4 0 r e j)]
  · have hb : broadcastInDim S1x8192x2x64 ![0, 1, 2, 3] bcast_S1x8192x1x64_S1x8192x2x64_0_1_2_3 (shapeCast S1x8192x1x64 y shapeCasts_S8192x64_S1x8192x1x64) (ix4 0 r e j)
        = shapeCast S1x8192x1x64 y shapeCasts_S8192x64_S1x8192x1x64 (ix4 0 r 0 j) := by pointwise
    rw [hb, shapeCast_apply _ _ _ (ix2 r j)]
    rw [Shape.rowMajor_val_four, Shape.rowMajor_val_two]
    show r.val * 64 + j.val = ((0 * 8192 + r.val) * 1 + 0) * 64 + j.val
    omega
  · rw [Shape.rowMajor_val_four, Shape.rowMajor_val_two]
    show ((0 * 8192 + r.val) * 2 + e.val) * 64 + j.val = r.val * 128 + (64 * e.val + j.val)
    omega

def cT : Vec Ideal S8192x64 .f32 :=
  concatenate S8192x64 1 [⟨S8192x8, cosT⟩, ⟨S8192x8, cosT⟩, ⟨S8192x48, broadcastInDim S8192x48 ![] bcast_S_S8192x48 (constant (F := Ideal) S_ .f32 0x3F800000#32)⟩]
    concatenates_S8192x8_S8192x8_S8192x48_S8192x64_d1

def pT : Vec Ideal S8192x64 .f32 :=
  concatenate S8192x64 1 [⟨S8192x8, broadcastInDim S8192x8 ![] bcast_S_S8192x8 (constant (F := Ideal) S_ .f32 0x00000000#32)⟩, ⟨S8192x8, sinT⟩, ⟨S8192x48, broadcastInDim S8192x48 ![] bcast_S_S8192x48 (constant (F := Ideal) S_ .f32 0x00000000#32)⟩]
    concatenates_S8192x8_S8192x8_S8192x48_S8192x64_d1

def mT : Vec Ideal S8192x64 .f32 :=
  concatenate S8192x64 1 [⟨S8192x8, nsinT⟩, ⟨S8192x56, broadcastInDim S8192x56 ![] bcast_S_S8192x56 (constant (F := Ideal) S_ .f32 0x00000000#32)⟩]
    concatenates_S8192x8_S8192x56_S8192x64_d1

theorem cT_apply (r : Fin 8192) (j : Fin 64) : cT (ix2 r j) = tabC (angle (posT (ix1 r))) j := by
  pointwise [cT]
  simp only [cosT_apply, sinT_apply, nsinT_apply]
  unfold tabC
  rfl

theorem pT_apply (r : Fin 8192) (j : Fin 64) : pT (ix2 r j) = tabP (angle (posT (ix1 r))) j := by
  pointwise [pT]
  simp only [cosT_apply, sinT_apply, nsinT_apply]
  unfold tabP
  rfl

theorem mT_apply (r : Fin 8192) (j : Fin 64) : mT (ix2 r j) = tabM (angle (posT (ix1 r))) j := by
  pointwise [mT]
  simp only [cosT_apply, sinT_apply, nsinT_apply]
  unfold tabM
  rfl

theorem V_c (c : Dev nD) : (V m c main_v68 : Vec Ideal S8192x128 .f32) = tileT cT := by
  unfold V
  after_results
  rfl

theorem V_p (c : Dev nD) : (V m c main_v71 : Vec Ideal S8192x128 .f32) = tileT pT := by
  unfold V
  after_results
  rfl

theorem V_m (c : Dev nD) : (V m c main_v74 : Vec Ideal S8192x128 .f32) = tileT mT := by
  unfold V
  after_results
  rfl

theorem V_c_apply (c : Dev nD) (r : Fin 8192) (e : Fin 2) (j : Fin 64) :
    (V m c main_v68 : Vec Ideal S8192x128 .f32) (ix2 r (⟨64 * e.val + j.val, by omega⟩ : Fin 128)) = tabC (angle (posT (ix1 r))) j := by
  rw [V_c, tileT_apply, cT_apply]

theorem V_p_apply (c : Dev nD) (r : Fin 8192) (e : Fin 2) (j : Fin 64) :
    (V m c main_v71 : Vec Ideal S8192x128 .f32) (ix2 r (⟨64 * e.val + j.val, by omega⟩ : Fin 128)) = tabP (angle (posT (ix1 r))) j := by
  rw [V_p, tileT_apply, pT_apply]

theorem V_m_apply (c : Dev nD) (r : Fin 8192) (e : Fin 2) (j : Fin 64) :
    (V m c main_v74 : Vec Ideal S8192x128 .f32) (ix2 r (⟨64 * e.val + j.val, by omega⟩ : Fin 128)) = tabM (angle (posT (ix1 r))) j := by
  rw [V_m, tileT_apply, mT_apply]

/-! ## The block of ones -/

theorem V_ones (c : Dev nD) : (V m c main_cst : Vec Ideal S256x256 .bf16) = ((fun i => FloatOps.ofBits (F := Ideal) .bf16 (lit1 (S256x256.rowMajor i))) : Vec Ideal S256x256 .bf16) := by
  unfold V
  after_results
  rfl

end Cert.ProjPromptIdeal.Host

end
-- ==== Proof.ProjPromptOnes.lean ====
/-
  The constant block the projection kernel of the prompt sums squares with: the listed words are one where row and column
  belong to the same head and zero elsewhere. The words are listed in 512 runs of 128; every run is one of three.
-/
module

public import proofs.«01_k».proof.Proof.ProjPromptHost
public import proofs.«01_k».proof.Proof.ProjPay
public import Mathlib.Tactic.FinCases

@[expose] public section

set_option maxRecDepth 16384

noncomputable section

namespace Cert.ProjPromptIdeal.Host

open Cert.ProjMath Cert.ProjPromptIdeal Cert.ProjPromptIdeal.Gen Idealize.ShloMosaic Idealize.ShloMosaic.TcCoe Idealize.SL.Sem

/-- Run `k` at word `i`: half of a row, with ones in its first half, in its second half or nowhere. -/
def run (k i : ℕ) : BitVec 16 :=
  if k / 2 / 64 = 2 * (k % 2) then lit1t0_0 i else if k / 2 / 64 = 2 * (k % 2) + 1 then lit1t0_128 i else lit1t0_1 i

theorem run_at (i : ℕ) (k : Fin 512) (h : i / 128 = k.val) : lit1t i = run k.val i := by
  have h1 : i / 16384 = k.val / 128 := by omega
  have h2 : i / 128 % 128 = k.val % 128 := by omega
  unfold lit1t lit1t1_0 lit1t1_1 lit1t1_2 lit1t1_3
  rw [h1, h2]
  clear h h1 h2
  revert i
  fin_cases k <;> exact fun i => rfl

theorem first_half : ∀ b : Fin 128, lit1t0_0 b.val = if b.val < 64 then 0x3F80#16 else 0#16 := by decide +kernel
theorem second_half : ∀ b : Fin 128, lit1t0_128 b.val = if b.val < 64 then 0#16 else 0x3F80#16 := by decide +kernel
theorem nowhere : ∀ b : Fin 128, lit1t0_1 b.val = 0#16 := by decide +kernel

theorem first_mod (i : ℕ) : lit1t0_0 i = lit1t0_0 (i % 128) := by unfold lit1t0_0; rw [Nat.mod_mod]
theorem second_mod (i : ℕ) : lit1t0_128 i = lit1t0_128 (i % 128) := by unfold lit1t0_128; rw [Nat.mod_mod]
theorem nowhere_mod (i : ℕ) : lit1t0_1 i = lit1t0_1 (i % 128) := by unfold lit1t0_1; rw [Nat.mod_mod]

theorem word_apply (x y : Fin 256) : lit1t (256 * x.val + y.val) = if x.val / 64 = y.val / 64 then 0x3F80#16 else 0#16 := by
  have hx := x.isLt
  have hy := y.isLt
  rw [run_at _ ⟨2 * x.val + y.val / 128, by omega⟩ (by dsimp only; omega)]
  unfold run
  dsimp only
  rw [first_mod, second_mod, nowhere_mod]
  have h0 := first_half ⟨(256 * x.val + y.val) % 128, Nat.mod_lt _ (by decide)⟩
  have h1 := second_half ⟨(256 * x.val + y.val) % 128, Nat.mod_lt _ (by decide)⟩
  have h2 := nowhere ⟨(256 * x.val + y.val) % 128, Nat.mod_lt _ (by decide)⟩
  dsimp only at h0 h1 h2
  rw [h0, h1, h2]
  have e1 : (256 * x.val + y.val) % 128 = y.val % 128 := by omega
  have e2 : (2 * x.val + y.val / 128) / 2 = x.val := by omega
  have e3 : (2 * x.val + y.val / 128) % 2 = y.val / 128 := by omega
  simp only [e1, e2, e3]
  split_ifs <;> first | rfl | omega

variable (m : (ℓ : Loc nD τ sig) → Buf (Elt Ideal) ℓ)

theorem ones (c : Dev nD) : Cert.ProjSampleIdeal.Pay.Ones (V m c main_cst : Vec Ideal S256x256 .bf16) := by
  intro x y
  rw [V_ones]
  show Ideal.ofBits .bf16 (lit1 (S256x256.rowMajor (ix2 x y))) = _
  have hr : S256x256.rowMajor (ix2 x y) = (⟨256 * x.val + y.val, by omega⟩ : Fin 65536) := Fin.ext (by
    rw [Shape.rowMajor_val_two]
    show x.val * 256 + y.val = 256 * x.val + y.val
    omega)
  rw [hr]
  show Ideal.ofBits .bf16 (lit1t (256 * x.val + y.val)) = _
  rw [word_apply]
  by_cases h : x.val / 64 = y.val / 64
  · rw [if_pos h, if_pos h, Ideal.ofBits_one_bf16]
  · rw [if_neg h, if_neg h, Ideal.ofBits_zero_bf16]

end Cert.ProjPromptIdeal.Host

end
-- ==== Proof.ProjPromptOut.lean ====
/-
  What a point of the prompt's projection kernel leaves in each output block: the same values of the loaded blocks as in
  the sample's kernel. The last point of a sequence also writes the caches, from its last rows.
-/
module

public import proofs.«01_k».proof.Proof.ProjOut
public import proofs.«01_k».proof.Proof.Gen.ProjPromptIdeal.Frame
public import Idealize.ShloMosaic.Lib.Pointwise
public import Idealize.ShloMosaic.PureOps.Ideal

@[expose] public section

set_option maxRecDepth 16384

noncomputable section

namespace Cert.ProjPromptIdeal.Out

open Cert.ProjPromptIdeal Cert.ProjPromptIdeal.Gen Idealize.ShloMosaic Idealize.ShloMosaic.TcCoe Idealize.SL.Sem

variable {F : FTy → Type} [FloatOps F]

theorem zero2 : (![0, 0] : Fin 2 → ℕ) = fun _ => 0 := by decide

/-! ## The stored values are those of the sample's kernel -/

theorem pay6_eq : @k0_pay6 F _ = @Cert.ProjSampleIdeal.Gen.k0_pay4 F _ := rfl

theorem pay9_eq : @k0_pay9 F = @Cert.ProjSampleIdeal.Gen.k0_pay7 F := rfl

theorem pay10_eq : @k0_pay10 F _ = @Cert.ProjSampleIdeal.Gen.k0_pay8 F _ := rfl

theorem pay11_eq : @k0_pay11 F _ = @Cert.ProjSampleIdeal.Gen.k0_pay9 F _ := rfl

theorem pay12_eq : @k0_pay12 F _ = @Cert.ProjSampleIdeal.Gen.k0_pay10 F _ := rfl

theorem pay13_eq : @k0_pay13 F _ = @Cert.ProjSampleIdeal.Gen.k0_pay11 F _ := rfl

theorem pay14_eq : @k0_pay14 F _ = @Cert.ProjSampleIdeal.Gen.k0_pay12 F _ := rfl

theorem pay15_eq : @k0_pay15 F _ = @Cert.ProjSampleIdeal.Gen.k0_pay13 F _ := rfl

theorem pay1_eq : @k0_pay1 F _ = @Cert.ProjSampleIdeal.Gen.k0_pay1 F _ := rfl

theorem pay2_eq : @k0_pay2 F _ = @Cert.ProjSampleIdeal.Gen.k0_pay2 F _ := rfl

theorem pay3_eq : @k0_pay3 F _ = @Cert.ProjSampleIdeal.Gen.k0_pay3 F _ := rfl

/-- The last rows of a block. -/
theorem cut_apply_14 (v : FVec F S512x128 .f32) (y q : Fin 128) : k0_pay4 v (ix2 y q) = v (ix2 (⟨384 + y.val, by omega⟩ : Fin 512) q) := by
  pointwise [k0_pay4]

theorem cut_apply_15 (v : FVec F S512x128 .f32) (y q : Fin 128) : k0_pay5 v (ix2 y q) = v (ix2 (⟨384 + y.val, by omega⟩ : Fin 512) q) := by
  pointwise [k0_pay5]

theorem outA_9 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : ¬cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) :
    out0_A_9 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 = Cert.ProjSampleIdeal.Gen.out0_9 x0 x1 x2 x3 x4 x5 x6 x7 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_A
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_9
  rw [View.canon_unit_zero Cert.ProjSampleIdeal.Pay.zero2]
  rw [pay10_eq, pay9_eq, pay6_eq]
  rfl

theorem outA_10 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : ¬cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) :
    out0_A_10 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 = Cert.ProjSampleIdeal.Gen.out0_10 x0 x1 x2 x3 x4 x5 x6 x7 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_A
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_10
  rw [View.canon_unit_zero Cert.ProjSampleIdeal.Pay.zero2]
  rw [pay12_eq, pay6_eq]
  rfl

theorem outA_11 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : ¬cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) :
    out0_A_11 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 = Cert.ProjSampleIdeal.Gen.out0_11 x0 x1 x2 x3 x4 x5 x6 x7 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_A
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_11
  rw [View.canon_unit_zero Cert.ProjSampleIdeal.Pay.zero2]
  rw [pay14_eq, pay6_eq]
  rfl

theorem outA_12 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : ¬cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) :
    out0_A_12 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 = Cert.ProjSampleIdeal.Gen.out0_12 x0 x1 x2 x3 x4 x5 x6 x7 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_A
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_12
  rw [View.canon_unit_zero Cert.ProjSampleIdeal.Pay.zero2]
  rw [pay1_eq, pay15_eq, pay6_eq]
  rfl

theorem outA_13 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : ¬cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) :
    out0_A_13 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 = Cert.ProjSampleIdeal.Gen.out0_13 x0 x1 x2 x3 x4 x5 x6 x7 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_A
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_13
  rw [View.canon_unit_zero Cert.ProjSampleIdeal.Pay.zero2]
  rw [pay3_eq, pay6_eq]
  rfl

theorem outB_9 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) :
    out0_B_9 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 = Cert.ProjSampleIdeal.Gen.out0_9 x0 x1 x2 x3 x4 x5 x6 x7 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_B
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_9
  rw [View.canon_unit_zero Cert.ProjSampleIdeal.Pay.zero2]
  rw [pay10_eq, pay9_eq, pay6_eq]
  rfl

theorem outB_10 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) :
    out0_B_10 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 = Cert.ProjSampleIdeal.Gen.out0_10 x0 x1 x2 x3 x4 x5 x6 x7 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_B
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_10
  rw [View.canon_unit_zero Cert.ProjSampleIdeal.Pay.zero2]
  rw [pay12_eq, pay6_eq]
  rfl

theorem outB_11 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) :
    out0_B_11 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 = Cert.ProjSampleIdeal.Gen.out0_11 x0 x1 x2 x3 x4 x5 x6 x7 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_B
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_11
  rw [View.canon_unit_zero Cert.ProjSampleIdeal.Pay.zero2]
  rw [pay14_eq, pay6_eq]
  rfl

theorem outB_12 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) :
    out0_B_12 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 = Cert.ProjSampleIdeal.Gen.out0_12 x0 x1 x2 x3 x4 x5 x6 x7 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_B
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_12
  rw [View.canon_unit_zero Cert.ProjSampleIdeal.Pay.zero2]
  rw [pay1_eq, pay15_eq, pay6_eq]
  rfl

theorem outB_13 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) :
    out0_B_13 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 = Cert.ProjSampleIdeal.Gen.out0_13 x0 x1 x2 x3 x4 x5 x6 x7 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_B
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_13
  rw [View.canon_unit_zero Cert.ProjSampleIdeal.Pay.zero2]
  rw [pay3_eq, pay6_eq]
  rfl

theorem outB_14 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) (y q : Fin 128) :
    out0_B_14 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 (ix2 y q) = Cert.ProjSampleIdeal.Gen.out0_14 x0 x1 x2 x3 x4 x5 x6 x7 (ix2 (⟨384 + y.val, by omega⟩ : Fin 512) q) := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_B
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_14
  rw [View.canon_unit_zero Cert.ProjSampleIdeal.Pay.zero2]
  rw [pay13_eq, pay6_eq]
  exact cut_apply_14 _ y q

theorem outB_15 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) (y q : Fin 128) :
    out0_B_15 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 (ix2 y q) = Cert.ProjSampleIdeal.Gen.out0_15 x0 x1 x2 x3 x4 x5 x6 x7 (ix2 (⟨384 + y.val, by omega⟩ : Fin 512) q) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_B
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_15
  rw [View.canon_unit_zero Cert.ProjSampleIdeal.Pay.zero2]
  rw [pay15_eq, pay6_eq]
  exact cut_apply_15 _ y q

theorem outB_16 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) :
    out0_B_16 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 = Cert.ProjSampleIdeal.Gen.out0_16 x0 x1 x2 x3 x4 x5 x6 x7 := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_B
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_16
  rw [View.canon_unit_zero Cert.ProjSampleIdeal.Pay.zero2]
  rw [pay11_eq, pay6_eq]
  rfl

theorem outB_17 (c : Dev nD) (i : grid0.Coords) (a1 : Memref sig .tc .vmem S512x1024 .f32) (h1 : a1.IsWhole)
    (a2 : Memref sig .tc .vmem S1x1024 .f32) (h2 : a2.IsWhole)
    (a3 : Memref sig .tc .vmem S1024x2304 .bf16) (h3 : a3.IsWhole)
    (a4 : Memref sig .tc .vmem S1x1664 .f32) (h4 : a4.IsWhole)
    (a5 : Memref sig .tc .vmem S512x128 .f32) (h5 : a5.IsWhole)
    (a6 : Memref sig .tc .vmem S512x128 .f32) (h6 : a6.IsWhole)
    (a7 : Memref sig .tc .vmem S512x128 .f32) (h7 : a7.IsWhole)
    (a8 : Memref sig .tc .vmem S256x256 .bf16) (h8 : a8.IsWhole)
    (a9 : Memref sig .tc .vmem S512x512 .bf16) (h9 : a9.IsWhole)
    (a10 : Memref sig .tc .vmem S512x512 .bf16) (h10 : a10.IsWhole)
    (a11 : Memref sig .tc .vmem S512x512 .bf16) (h11 : a11.IsWhole)
    (a12 : Memref sig .tc .vmem S512x128 .bf16) (h12 : a12.IsWhole)
    (a13 : Memref sig .tc .vmem S512x128 .bf16) (h13 : a13.IsWhole)
    (a14 : Memref sig .tc .vmem S512x512 .bf16) (h14 : a14.IsWhole)
    (a15 : Memref sig .tc .vmem S128x128 .f32) (h15 : a15.IsWhole)
    (a16 : Memref sig .tc .vmem S128x128 .f32) (h16 : a16.IsWhole)
    (a17 : Memref sig .tc .vmem S512x512 .f32) (h17 : a17.IsWhole)
    (a18 : Memref sig .tc .vmem S512x512 .f32) (h18 : a18.IsWhole) (hc0 : cond0_0 i)
    (x0 : Vec F S512x1024 .f32) (x1 : Vec F S1x1024 .f32) (x2 : Vec F S1024x2304 .bf16) (x3 : Vec F S1x1664 .f32) (x4 x5 x6 : Vec F S512x128 .f32) (x7 : Vec F S256x256 .bf16) :
    out0_B_17 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 = Cert.ProjSampleIdeal.Gen.out0_17 x0 x1 x2 x3 x4 x5 x6 x7 := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7)]
  unfold kernelRun0_B
  dsimp only
  sl_unfold_words
  rw [View.canon_unit_zero zero2]
  simp only [View.readAt_eq_ld, h1.read_unread, h2.read_unread, h3.read_unread, h4.read_unread, h5.read_unread, h6.read_unread, h7.read_unread, h8.read_unread]
  unfold Cert.ProjSampleIdeal.Gen.out0_17
  rw [View.canon_unit_zero Cert.ProjSampleIdeal.Pay.zero2]
  rw [pay2_eq, pay6_eq]
  rfl

end Cert.ProjPromptIdeal.Out

end
-- ==== Proof.ProjPromptArr.lean ====
/-
  The projection of the prompt: the blocks its kernel loads, as entries of the arguments, and the arrays it leaves.
-/
module

public import proofs.«01_k».proof.Proof.ProjOut
public import proofs.«01_k».proof.Proof.ProjPromptHost
public import proofs.«01_k».proof.Proof.ProjPromptOnes
public import proofs.«01_k».proof.Proof.ProjPromptOut
public import proofs.«01_k».proof.Proof.Gen.ProjPromptIdeal.Value

@[expose] public section

set_option maxRecDepth 16384

noncomputable section

namespace Cert.ProjPromptIdeal.Arr

open Cert.ProjMath Cert.ProjPromptIdeal Cert.ProjPromptIdeal.Gen Cert.ProjPromptIdeal.Host Idealize.ShloMosaic Idealize.ShloMosaic.TcCoe Idealize.SL.Sem
open Cert.ProjSampleIdeal.Pay (lane8 lane2 Ones out9_of out10_eq out11_eq out12_eq out13_eq out14_of out15_of out16_of out17_of)

variable (m : (ℓ : Loc nD τ sig) → Buf (Elt Ideal) ℓ)

theorem N_eq : cfg0.N = 64 := N_0

/-! ## The loaded blocks -/

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val % 16 ∧ win0_4.index t 1 = 0 := by decide +kernel
theorem index5 : ∀ t : Fin grid0.N, win0_5.index t 0 = t.val % 16 ∧ win0_5.index t 1 = 0 := by decide +kernel
theorem index6 : ∀ t : Fin grid0.N, win0_6.index t 0 = t.val % 16 ∧ win0_6.index t 1 = 0 := by decide +kernel
theorem index7 : ∀ t : Fin grid0.N, win0_7.index t 0 = 0 ∧ win0_7.index t 1 = 0 := by decide +kernel

theorem blk0_apply (c : Dev nD) (t : Fin cfg0.N) (r : Fin 512) (n : Fin 4) (l : Fin 8192) (h : 8192 * n.val + l.val = t.val * 512 + r.val) (d : Fin 1024) :
    (iblk m c 0 t : Vec Ideal S512x1024 .f32) (ix2 r d) = (m ((c : Thread nD τ).loc main_arg0) : Vec Ideal S4x8192x1024 .f32) (ix3 n l d) := by
  refine Eq.trans ?_ (V_x_apply m c n l d)
  unfold iblk
  rw [View.read_apply]
  show V m c main_v42 _ = V m c main_v42 _
  congr 1
  funext a
  apply Fin.ext
  match a with
  | ⟨0, _⟩ => show win0_0.index t 0 * 512 + 1 * r.val = 8192 * n.val + l.val; rw [(index0 t).1]; omega
  | ⟨1, _⟩ => show win0_0.index t 1 * 1024 + 1 * d.val = d.val; rw [(index0 t).2]; omega

theorem blk1_apply (c : Dev nD) (t : Fin cfg0.N) (x : Fin 1) (y : Fin 1024) :
    (iblk m c 1 t : Vec Ideal S1x1024 .f32) (ix2 x y) = (V m c main_v41 : Vec Ideal S1x1024 .f32) (ix2 x y) := by
  unfold iblk
  rw [View.read_apply]
  show V m c main_v41 _ = V m c main_v41 _
  congr 1
  funext a
  apply Fin.ext
  match a with
  | ⟨0, _⟩ => show win0_1.index t 0 * 1 + 1 * x.val = x.val; rw [(index1 t).1]; omega
  | ⟨1, _⟩ => show win0_1.index t 1 * 1024 + 1 * y.val = y.val; rw [(index1 t).2]; omega

theorem blk2_apply (c : Dev nD) (t : Fin cfg0.N) (x : Fin 1024) (y : Fin 2304) :
    (iblk m c 2 t : Vec Ideal S1024x2304 .bf16) (ix2 x y) = (V m c main_v17 : Vec Ideal S1024x2304 .bf16) (ix2 x y) := by
  unfold iblk
  rw [View.read_apply]
  show V m c main_v17 _ = V m c main_v17 _
  congr 1
  funext a
  apply Fin.ext
  match a with
  | ⟨0, _⟩ => show win0_2.index t 0 * 1024 + 1 * x.val = x.val; rw [(index2 t).1]; omega
  | ⟨1, _⟩ => show win0_2.index t 1 * 2304 + 1 * y.val = y.val; rw [(index2 t).2]; omega

theorem blk3_apply (c : Dev nD) (t : Fin cfg0.N) (x : Fin 1) (y : Fin 1664) :
    (iblk m c 3 t : Vec Ideal S1x1664 .f32) (ix2 x y) = (V m c main_v39 : Vec Ideal S1x1664 .f32) (ix2 x y) := by
  unfold iblk
  rw [View.read_apply]
  show V m c main_v39 _ = V m c main_v39 _
  congr 1
  funext a
  apply Fin.ext
  match a with
  | ⟨0, _⟩ => show win0_3.index t 0 * 1 + 1 * x.val = x.val; rw [(index3 t).1]; omega
  | ⟨1, _⟩ => show win0_3.index t 1 * 1664 + 1 * y.val = y.val; rw [(index3 t).2]; omega

theorem blk7_apply (c : Dev nD) (t : Fin cfg0.N) (x : Fin 256) (y : Fin 256) :
    (iblk m c 7 t : Vec Ideal S256x256 .bf16) (ix2 x y) = (V m c main_cst : Vec Ideal S256x256 .bf16) (ix2 x y) := by
  unfold iblk
  rw [View.read_apply]
  show V m c main_cst _ = V m c main_cst _
  congr 1
  funext a
  apply Fin.ext
  match a with
  | ⟨0, _⟩ => show win0_7.index t 0 * 256 + 1 * x.val = x.val; rw [(index7 t).1]; omega
  | ⟨1, _⟩ => show win0_7.index t 1 * 256 + 1 * y.val = y.val; rw [(index7 t).2]; omega

/-- The position's word. -/
abbrev posAt (l : Fin 8192) : BitVec 32 := BitVec.ofNat 32 l.val

theorem blk4_apply (c : Dev nD) (t : Fin cfg0.N) (r : Fin 512) (n : Fin 4) (l : Fin 8192) (h : 8192 * n.val + l.val = t.val * 512 + r.val) (e : Fin 2) (j : Fin 64) :
    (iblk m c 4 t : Vec Ideal S512x128 .f32) (ix2 r (lane2 e j)) = tabC (angle (posAt l)) j := by
  refine Eq.trans ?_ (V_c_apply m c l e j)
  unfold iblk
  rw [View.read_apply]
  show V m c main_v68 _ = V m c main_v68 _
  congr 1
  funext a
  apply Fin.ext
  match a with
  | ⟨0, _⟩ => show win0_4.index t 0 * 512 + 1 * r.val = l.val; rw [(index4 t).1]; omega
  | ⟨1, _⟩ => show win0_4.index t 1 * 128 + 1 * (64 * e.val + j.val) = 64 * e.val + j.val; rw [(index4 t).2]; omega

theorem blk5_apply (c : Dev nD) (t : Fin cfg0.N) (r : Fin 512) (n : Fin 4) (l : Fin 8192) (h : 8192 * n.val + l.val = t.val * 512 + r.val) (e : Fin 2) (j : Fin 64) :
    (iblk m c 5 t : Vec Ideal S512x128 .f32) (ix2 r (lane2 e j)) = tabP (angle (posAt l)) j := by
  refine Eq.trans ?_ (V_p_apply m c l e j)
  unfold iblk
  rw [View.read_apply]
  show V m c main_v71 _ = V m c main_v71 _
  congr 1
  funext a
  apply Fin.ext
  match a with
  | ⟨0, _⟩ => show win0_5.index t 0 * 512 + 1 * r.val = l.val; rw [(index5 t).1]; omega
  | ⟨1, _⟩ => show win0_5.index t 1 * 128 + 1 * (64 * e.val + j.val) = 64 * e.val + j.val; rw [(index5 t).2]; omega

theorem blk6_apply (c : Dev nD) (t : Fin cfg0.N) (r : Fin 512) (n : Fin 4) (l : Fin 8192) (h : 8192 * n.val + l.val = t.val * 512 + r.val) (e : Fin 2) (j : Fin 64) :
    (iblk m c 6 t : Vec Ideal S512x128 .f32) (ix2 r (lane2 e j)) = tabM (angle (posAt l)) j := by
  refine Eq.trans ?_ (V_m_apply m c l e j)
  unfold iblk
  rw [View.read_apply]
  show V m c main_v74 _ = V m c main_v74 _
  congr 1
  funext a
  apply Fin.ext
  match a with
  | ⟨0, _⟩ => show win0_6.index t 0 * 512 + 1 * r.val = l.val; rw [(index6 t).1]; omega
  | ⟨1, _⟩ => show win0_6.index t 1 * 128 + 1 * (64 * e.val + j.val) = 64 * e.val + j.val; rw [(index6 t).2]; omega

theorem ones7 (c : Dev nD) (t : Fin cfg0.N) : Ones (iblk m c 7 t : Vec Ideal S256x256 .bf16) :=
  fun x y => (blk7_apply m c t x y).trans (ones m c x y)

/-! ## What one point stores, over the arguments -/

/-- One column of the projection of position `l` of sequence `n`. -/
abbrev zc (c : Dev nD) (n : Fin 4) (l : Fin 8192) (q : Fin 2304) : EReal :=
  col (rowNorm (fun d => (m ((c : Thread nD τ).loc main_arg0) : Vec Ideal S4x8192x1024 .f32) (ix3 n l d)) (fun d => (m ((c : Thread nD τ).loc main_arg1) : Vec Ideal S1x1024 .f32) (ix2 0 d)))
    (fun d => (m ((c : Thread nD τ).loc main_arg2) : Vec Ideal S1x1024x2304 .f32) (ix3 0 d q))

section
variable (c : Dev nD) (t : Fin cfg0.N) (r : Fin 512) (n : Fin 4) (l : Fin 8192) (h : 8192 * n.val + l.val = t.val * 512 + r.val)
include h

theorem at9 (e : Fin 8) (j : Fin 64) (g : Vec Ideal S1x64 .f32) (hg : m ((c : Thread nD τ).loc main_arg5) = g) :
    Cert.ProjSampleIdeal.Gen.out0_9 (iblk m c 0 t) (iblk m c 1 t) (iblk m c 2 t) (iblk m c 3 t) (iblk m c 4 t) (iblk m c 5 t) (iblk m c 6 t) (iblk m c 7 t) (ix2 r (lane8 e j))
      = headNorm (fun k => zc m c n l ⟨768 + (64 * e.val + k.val), by omega⟩) (fun k => g (ix2 0 k)) j * Ideal.ofBits FTy.f32 0x3E000000#32 :=
  out9_of _ _ _ _ _ _ _ _ r _ _ (ones7 m c t) (blk0_apply m c t r n l h) (fun d => (blk1_apply m c t 0 d).trans (V_g_apply m c d))
    (fun k d => (m ((c : Thread nD τ).loc main_arg2) : Vec Ideal S1x1024x2304 .f32) (ix3 0 d ⟨768 + k.val, by omega⟩))
    (fun k d => (blk2_apply m c t d _).trans (V_w_qb m c d k)) e (fun k => g (ix2 0 k)) _ (fun j => (blk3_apply m c t 0 _).trans (V_gn_qb m c e j g hg)) j

theorem at16 (e : Fin 8) (j : Fin 64) (g : Vec Ideal S1x64 .f32) (hg : m ((c : Thread nD τ).loc main_arg6) = g) :
    Cert.ProjSampleIdeal.Gen.out0_16 (iblk m c 0 t) (iblk m c 1 t) (iblk m c 2 t) (iblk m c 3 t) (iblk m c 4 t) (iblk m c 5 t) (iblk m c 6 t) (iblk m c 7 t) (ix2 r (lane8 e j))
      = headNorm (fun k => zc m c n l ⟨1280 + (64 * e.val + k.val), by omega⟩) (fun k => g (ix2 0 k)) j :=
  out16_of _ _ _ _ _ _ _ _ r _ _ (ones7 m c t) (blk0_apply m c t r n l h) (fun d => (blk1_apply m c t 0 d).trans (V_g_apply m c d))
    (fun k d => (m ((c : Thread nD τ).loc main_arg2) : Vec Ideal S1x1024x2304 .f32) (ix3 0 d ⟨1280 + k.val, by omega⟩))
    (fun k d => (blk2_apply m c t d _).trans (V_w_kb m c d k)) e (fun k => g (ix2 0 k)) (fun j => (blk3_apply m c t 0 _).trans (V_gn_kb m c e j g hg)) j

theorem at14 (e : Fin 2) (j : Fin 64) (g : Vec Ideal S1x64 .f32) (hg : m ((c : Thread nD τ).loc main_arg4) = g) :
    Cert.ProjSampleIdeal.Gen.out0_14 (iblk m c 0 t) (iblk m c 1 t) (iblk m c 2 t) (iblk m c 3 t) (iblk m c 4 t) (iblk m c 5 t) (iblk m c 6 t) (iblk m c 7 t) (ix2 r (lane2 e j))
      = rot (headNorm (fun k => zc m c n l ⟨512 + (64 * e.val + k.val), by omega⟩) (fun k => g (ix2 0 k))) (angle (posAt l)) j :=
  out14_of _ _ _ _ _ _ _ _ r _ _ (ones7 m c t) (blk0_apply m c t r n l h) (fun d => (blk1_apply m c t 0 d).trans (V_g_apply m c d))
    (fun k d => (m ((c : Thread nD τ).loc main_arg2) : Vec Ideal S1x1024x2304 .f32) (ix3 0 d ⟨512 + k.val, by omega⟩))
    (fun k d => (blk2_apply m c t d _).trans (V_w_ka m c d k)) e (fun k => g (ix2 0 k)) (fun j => (blk3_apply m c t 0 _).trans (V_gn_ka m c e j g hg)) _ j
    (blk4_apply m c t r n l h e j) (blk5_apply m c t r n l h e j) (blk6_apply m c t r n l h e j)

theorem at15 (k : Fin 128) :
    Cert.ProjSampleIdeal.Gen.out0_15 (iblk m c 0 t) (iblk m c 1 t) (iblk m c 2 t) (iblk m c 3 t) (iblk m c 4 t) (iblk m c 5 t) (iblk m c 6 t) (iblk m c 7 t) (ix2 r k) = zc m c n l ⟨640 + k.val, by omega⟩ :=
  out15_of _ _ _ _ _ _ _ _ r _ _ (blk0_apply m c t r n l h) (fun d => (blk1_apply m c t 0 d).trans (V_g_apply m c d))
    (fun k d => (m ((c : Thread nD τ).loc main_arg2) : Vec Ideal S1x1024x2304 .f32) (ix3 0 d ⟨640 + k.val, by omega⟩))
    (fun k d => (blk2_apply m c t d _).trans (V_w_va m c d k)) k

theorem at17 (k : Fin 512) :
    Cert.ProjSampleIdeal.Gen.out0_17 (iblk m c 0 t) (iblk m c 1 t) (iblk m c 2 t) (iblk m c 3 t) (iblk m c 4 t) (iblk m c 5 t) (iblk m c 6 t) (iblk m c 7 t) (ix2 r k) = zc m c n l ⟨1792 + k.val, by omega⟩ :=
  out17_of _ _ _ _ _ _ _ _ r _ _ (blk0_apply m c t r n l h) (fun d => (blk1_apply m c t 0 d).trans (V_g_apply m c d))
    (fun k d => (m ((c : Thread nD τ).loc main_arg2) : Vec Ideal S1x1024x2304 .f32) (ix3 0 d ⟨1792 + k.val, by omega⟩))
    (fun k d => (blk2_apply m c t d _).trans (V_w_vb m c d k)) k

end

/-! ## The arrays -/

theorem flush9 : ∀ t : Fin grid0.N, (cfg0.win 9).flush t = true := by decide +kernel
theorem index9 : ∀ t : Fin grid0.N, win0_9.index t 0 = t.val ∧ win0_9.index t 1 = 0 := by decide +kernel

theorem arr9_at (c : Dev nD) (t : Fin cfg0.N) (r : Fin 512) (q : Fin 512) (i : Fin 32768) (hi : i.val = t.val * 512 + r.val) :
    ((dats m 0 c).arrAt 9 cfg0.N : Vec Ideal S32768x512 .bf16) (ix2 i q) = Cert.ProjSampleIdeal.Gen.out0_9 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 9 Value.disjoint9 t (flush9 t) (ix2 r q)
  have he : ((cfg0.win 9).blk t).view.emb (ix2 r q) = (ix2 i q : S32768x512.Idx) := by
    funext a
    apply Fin.ext
    match a with
    | ⟨0, _⟩ => show win0_9.index t 0 * 512 + 1 * r.val = i.val; rw [(index9 t).1]; omega
    | ⟨1, _⟩ => show win0_9.index t 1 * 512 + 1 * q.val = q.val; rw [(index9 t).2]; omega
  refine (congrArg (fun i => (dats m 0 c).arrAt 9 cfg0.N i) he.symm).trans (h.trans ?_)
  by_cases h0 : t.val % 16 = 15
  · rw [Value.flushed9_B m c t h0, Out.outB_9]
    generalize Cert.ProjSampleIdeal.Gen.out0_9 (iblk m c 0 t) (iblk m c 1 t) (iblk m c 2 t) (iblk m c 3 t) (iblk m c 4 t) (iblk m c 5 t) (iblk m c 6 t) (iblk m c 7 t) = X
    rfl
  · rw [Value.flushed9_A m c t h0, Out.outA_9]
    generalize Cert.ProjSampleIdeal.Gen.out0_9 (iblk m c 0 t) (iblk m c 1 t) (iblk m c 2 t) (iblk m c 3 t) (iblk m c 4 t) (iblk m c 5 t) (iblk m c 6 t) (iblk m c 7 t) = X
    rfl

theorem flush10 : ∀ t : Fin grid0.N, (cfg0.win 10).flush t = true := by decide +kernel
theorem index10 : ∀ t : Fin grid0.N, win0_10.index t 0 = t.val ∧ win0_10.index t 1 = 0 := by decide +kernel

theorem arr10_at (c : Dev nD) (t : Fin cfg0.N) (r : Fin 512) (q : Fin 512) (i : Fin 32768) (hi : i.val = t.val * 512 + r.val) :
    ((dats m 0 c).arrAt 10 cfg0.N : Vec Ideal S32768x512 .bf16) (ix2 i q) = Cert.ProjSampleIdeal.Gen.out0_10 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 10 Value.disjoint10 t (flush10 t) (ix2 r q)
  have he : ((cfg0.win 10).blk t).view.emb (ix2 r q) = (ix2 i q : S32768x512.Idx) := by
    funext a
    apply Fin.ext
    match a with
    | ⟨0, _⟩ => show win0_10.index t 0 * 512 + 1 * r.val = i.val; rw [(index10 t).1]; omega
    | ⟨1, _⟩ => show win0_10.index t 1 * 512 + 1 * q.val = q.val; rw [(index10 t).2]; omega
  refine (congrArg (fun i => (dats m 0 c).arrAt 10 cfg0.N i) he.symm).trans (h.trans ?_)
  by_cases h0 : t.val % 16 = 15
  · rw [Value.flushed10_B m c t h0, Out.outB_10]
    generalize Cert.ProjSampleIdeal.Gen.out0_10 (iblk m c 0 t) (iblk m c 1 t) (iblk m c 2 t) (iblk m c 3 t) (iblk m c 4 t) (iblk m c 5 t) (iblk m c 6 t) (iblk m c 7 t) = X
    rfl
  · rw [Value.flushed10_A m c t h0, Out.outA_10]
    generalize Cert.ProjSampleIdeal.Gen.out0_10 (iblk m c 0 t) (iblk m c 1 t) (iblk m c 2 t) (iblk m c 3 t) (iblk m c 4 t) (iblk m c 5 t) (iblk m c 6 t) (iblk m c 7 t) = X
    rfl

theorem flush11 : ∀ t : Fin grid0.N, (cfg0.win 11).flush t = true := by decide +kernel
theorem index11 : ∀ t : Fin grid0.N, win0_11.index t 0 = t.val ∧ win0_11.index t 1 = 0 := by decide +kernel

theorem arr11_at (c : Dev nD) (t : Fin cfg0.N) (r : Fin 512) (q : Fin 128) (i : Fin 32768) (hi : i.val = t.val * 512 + r.val) :
    ((dats m 0 c).arrAt 11 cfg0.N : Vec Ideal S32768x128 .bf16) (ix2 i q) = Cert.ProjSampleIdeal.Gen.out0_11 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 11 Value.disjoint11 t (flush11 t) (ix2 r q)
  have he : ((cfg0.win 11).blk t).view.emb (ix2 r q) = (ix2 i q : S32768x128.Idx) := by
    funext a
    apply Fin.ext
    match a with
    | ⟨0, _⟩ => show win0_11.index t 0 * 512 + 1 * r.val = i.val; rw [(index11 t).1]; omega
    | ⟨1, _⟩ => show win0_11.index t 1 * 128 + 1 * q.val = q.val; rw [(index11 t).2]; omega
  refine (congrArg (fun i => (dats m 0 c).arrAt 11 cfg0.N i) he.symm).trans (h.trans ?_)
  by_cases h0 : t.val % 16 = 15
  · rw [Value.flushed11_B m c t h0, Out.outB_11]
    generalize Cert.ProjSampleIdeal.Gen.out0_11 (iblk m c 0 t) (iblk m c 1 t) (iblk m c 2 t) (iblk m c 3 t) (iblk m c 4 t) (iblk m c 5 t) (iblk m c 6 t) (iblk m c 7 t) = X
    rfl
  · rw [Value.flushed11_A m c t h0, Out.outA_11]
    generalize Cert.ProjSampleIdeal.Gen.out0_11 (iblk m c 0 t) (iblk m c 1 t) (iblk m c 2 t) (iblk m c 3 t) (iblk m c 4 t) (iblk m c 5 t) (iblk m c 6 t) (iblk m c 7 t) = X
    rfl

theorem flush12 : ∀ t : Fin grid0.N, (cfg0.win 12).flush t = true := by decide +kernel
theorem index12 : ∀ t : Fin grid0.N, win0_12.index t 0 = t.val ∧ win0_12.index t 1 = 0 := by decide +kernel

theorem arr12_at (c : Dev nD) (t : Fin cfg0.N) (r : Fin 512) (q : Fin 128) (i : Fin 32768) (hi : i.val = t.val * 512 + r.val) :
    ((dats m 0 c).arrAt 12 cfg0.N : Vec Ideal S32768x128 .bf16) (ix2 i q) = Cert.ProjSampleIdeal.Gen.out0_12 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 12 Value.disjoint12 t (flush12 t) (ix2 r q)
  have he : ((cfg0.win 12).blk t).view.emb (ix2 r q) = (ix2 i q : S32768x128.Idx) := by
    funext a
    apply Fin.ext
    match a with
    | ⟨0, _⟩ => show win0_12.index t 0 * 512 + 1 * r.val = i.val; rw [(index12 t).1]; omega
    | ⟨1, _⟩ => show win0_12.index t 1 * 128 + 1 * q.val = q.val; rw [(index12 t).2]; omega
  refine (congrArg (fun i => (dats m 0 c).arrAt 12 cfg0.N i) he.symm).trans (h.trans ?_)
  by_cases h0 : t.val % 16 = 15
  · rw [Value.flushed12_B m c t h0, Out.outB_12]
    generalize Cert.ProjSampleIdeal.Gen.out0_12 (iblk m c 0 t) (iblk m c 1 t) (iblk m c 2 t) (iblk m c 3 t) (iblk m c 4 t) (iblk m c 5 t) (iblk m c 6 t) (iblk m c 7 t) = X
    rfl
  · rw [Value.flushed12_A m c t h0, Out.outA_12]
    generalize Cert.ProjSampleIdeal.Gen.out0_12 (iblk m c 0 t) (iblk m c 1 t) (iblk m c 2 t) (iblk m c 3 t) (iblk m c 4 t) (iblk m c 5 t) (iblk m c 6 t) (iblk m c 7 t) = X
    rfl

theorem flush13 : ∀ t : Fin grid0.N, (cfg0.win 13).flush t = true := by decide +kernel
theorem index13 : ∀ t : Fin grid0.N, win0_13.index t 0 = t.val ∧ win0_13.index t 1 = 0 := by decide +kernel

theorem arr13_at (c : Dev nD) (t : Fin cfg0.N) (r : Fin 512) (q : Fin 512) (i : Fin 32768) (hi : i.val = t.val * 512 + r.val) :
    ((dats m 0 c).arrAt 13 cfg0.N : Vec Ideal S32768x512 .bf16) (ix2 i q) = Cert.ProjSampleIdeal.Gen.out0_13 (iblk m c 0 t) (iblk m c 1 t) (iblk m c 2 t) (iblk m c 3 t) (iblk m c 4 t) (iblk m c 5 t) (iblk m c 6 t) (iblk m c 7 t) (ix2 r q) := by
  have h := (dats m 0 c).arrAt_emb_eq_flushed 13 Value.disjoint13 t (flush13 t) (ix2 r q)
  have he : ((cfg0.win 13).blk t).view.emb (ix2 r q) = (ix2 i q : S32768x512.Idx) := by
    funext a
    apply Fin.ext
    match a with
    | ⟨0, _⟩ => show win0_13.index t 0 * 512 + 1 * r.val = i.val; rw [(index13 t).1]; omega
    | ⟨1, _⟩ => show win0_13.index t 1 * 512 + 1 * q.val = q.val; rw [(index13 t).2]; omega
  refine (congrArg (fun i => (dats m 0 c).arrAt 13 cfg0.N i) he.symm).trans (h.trans ?_)
  by_cases h0 : t.val % 16 = 15
  · rw [Value.flushed13_B m c t h0, Out.outB_13]
    generalize Cert.ProjSampleIdeal.Gen.out0_13 (iblk m c 0 t) (iblk m c 1 t) (iblk m c 2 t) (iblk m c 3 t) (iblk m c 4 t) (iblk m c 5 t) (iblk m c 6 t) (iblk m c 7 t) = X
    rfl
  · rw [Value.flushed13_A m c t h0, Out.outA_13]
    generalize Cert.ProjSampleIdeal.Gen.out0_13 (iblk m c 0 t) (iblk m c 1 t) (iblk m c 2 t) (iblk m c 3 t) (iblk m c 4 t) (iblk m c 5 t) (iblk m c 6 t) (iblk m c 7 t) = X
    rfl

theorem arr9 (c : Dev nD) (n : Fin 4) (l : Fin 8192) (e : Fin 8) (j : Fin 64) (g : Vec Ideal S1x64 .f32) (hg : m ((c : Thread nD τ).loc main_arg5) = g) :
    ((dats m 0 c).arrAt 9 cfg0.N : Vec Ideal S32768x512 .bf16) (ix2 (row n l) (lane8 e j)) = headNorm (fun k => zc m c n l ⟨768 + (64 * e.val + k.val), by omega⟩) (fun k => g (ix2 0 k)) j * Ideal.ofBits FTy.f32 0x3E000000#32 :=
  (arr9_at m c (⟨(8192 * n.val + l.val) / 512, by rw [N_eq]; omega⟩ : Fin cfg0.N) (⟨(8192 * n.val + l.val) % 512, by omega⟩ : Fin 512) (lane8 e j) (row n l) (by show 8192 * n.val + l.val = (8192 * n.val + l.val) / 512 * 512 + (8192 * n.val + l.val) % 512; omega)).trans
    ((at9 m c _ _ n l (by show 8192 * n.val + l.val = (8192 * n.val + l.val) / 512 * 512 + (8192 * n.val + l.val) % 512; omega) e j g hg))

theorem arr10 (c : Dev nD) (n : Fin 4) (l : Fin 8192) (e : Fin 8) (j : Fin 64) (g : Vec Ideal S1x64 .f32) (hg : m ((c : Thread nD τ).loc main_arg6) = g) :
    ((dats m 0 c).arrAt 10 cfg0.N : Vec Ideal S32768x512 .bf16) (ix2 (row n l) (lane8 e j)) = headNorm (fun k => zc m c n l ⟨1280 + (64 * e.val + k.val), by omega⟩) (fun k => g (ix2 0 k)) j :=
  (arr10_at m c (⟨(8192 * n.val + l.val) / 512, by rw [N_eq]; omega⟩ : Fin cfg0.N) (⟨(8192 * n.val + l.val) % 512, by omega⟩ : Fin 512) (lane8 e j) (row n l) (by show 8192 * n.val + l.val = (8192 * n.val + l.val) / 512 * 512 + (8192 * n.val + l.val) % 512; omega)).trans
    ((congrFun (out10_eq _ _ _ _ _ _ _ _) _).trans (at16 m c _ _ n l (by show 8192 * n.val + l.val = (8192 * n.val + l.val) / 512 * 512 + (8192 * n.val + l.val) % 512; omega) e j g hg))

theorem arr11 (c : Dev nD) (n : Fin 4) (l : Fin 8192) (e : Fin 2) (j : Fin 64) (g : Vec Ideal S1x64 .f32) (hg : m ((c : Thread nD τ).loc main_arg4) = g) :
    ((dats m 0 c).arrAt 11 cfg0.N : Vec Ideal S32768x128 .bf16) (ix2 (row n l) (lane2 e j)) = rot (headNorm (fun k => zc m c n l ⟨512 + (64 * e.val + k.val), by omega⟩) (fun k => g (ix2 0 k))) (angle (posAt l)) j :=
  (arr11_at m c (⟨(8192 * n.val + l.val) / 512, by rw [N_eq]; omega⟩ : Fin cfg0.N) (⟨(8192 * n.val + l.val) % 512, by omega⟩ : Fin 512) (lane2 e j) (row n l) (by show 8192 * n.val + l.val = (8192 * n.val + l.val) / 512 * 512 + (8192 * n.val + l.val) % 512; omega)).trans
    ((congrFun (out11_eq _ _ _ _ _ _ _ _) _).trans (at14 m c _ _ n l (by show 8192 * n.val + l.val = (8192 * n.val + l.val) / 512 * 512 + (8192 * n.val + l.val) % 512; omega) e j g hg))

theorem arr12 (c : Dev nD) (n : Fin 4) (l : Fin 8192) (k : Fin 128) :
    ((dats m 0 c).arrAt 12 cfg0.N : Vec Ideal S32768x128 .bf16) (ix2 (row n l) k) = zc m c n l ⟨640 + k.val, by omega⟩ :=
  (arr12_at m c (⟨(8192 * n.val + l.val) / 512, by rw [N_eq]; omega⟩ : Fin cfg0.N) (⟨(8192 * n.val + l.val) % 512, by omega⟩ : Fin 512) k (row n l) (by show 8192 * n.val + l.val = (8192 * n.val + l.val) / 512 * 512 + (8192 * n.val + l.val) % 512; omega)).trans
    ((congrFun (out12_eq _ _ _ _ _ _ _ _) _).trans (at15 m c _ _ n l (by show 8192 * n.val + l.val = (8192 * n.val + l.val) / 512 * 512 + (8192 * n.val + l.val) % 512; omega) k))

theorem arr13 (c : Dev nD) (n : Fin 4) (l : Fin 8192) (k : Fin 512) :
    ((dats m 0 c).arrAt 13 cfg0.N : Vec Ideal S32768x512 .bf16) (ix2 (row n l) k) = zc m c n l ⟨1792 + k.val, by omega⟩ :=
  (arr13_at m c (⟨(8192 * n.val + l.val) / 512, by rw [N_eq]; omega⟩ : Fin cfg0.N) (⟨(8192 * n.val + l.val) % 512, by omega⟩ : Fin 512) k (row n l) (by show 8192 * n.val + l.val = (8192 * n.val + l.val) / 512 * 512 + (8192 * n.val + l.val) % 512; omega)).trans
    ((congrFun (out13_eq _ _ _ _ _ _ _ _) _).trans (at17 m c _ _ n l (by show 8192 * n.val + l.val = (8192 * n.val + l.val) / 512 * 512 + (8192 * n.val + l.val) % 512; omega) k))

theorem flush14 : ∀ t : Fin grid0.N, (cfg0.win 14).flush t = true ↔ t.val % 16 = 15 := by decide +kernel
theorem index14 : ∀ t : Fin grid0.N, win0_14.index t 0 = t.val / 16 ∧ win0_14.index t 1 = 0 := by decide +kernel

theorem disjoint14 : ∀ t t' : Fin cfg0.N, (cfg0.win 14).flush t = true → (cfg0.win 14).flush t' = true → t ≠ t' →
    Disjoint ((cfg0.win 14).blk t).view.set ((cfg0.win 14).blk t').view.set :=
  fun t t' hf hf' hne => (cfg0.win 14).disjoint_blk fun h => hne (by
    have h0 : win0_14.index t 0 = win0_14.index t' 0 := congrFun h 0
    rw [(index14 t).1, (index14 t').1] at h0
    have h1 := (flush14 t).mp hf
    have h2 := (flush14 t').mp hf'
    exact Fin.ext (by omega))

theorem arr14_at (c : Dev nD) (t : Fin cfg0.N) (ht : t.val % 16 = 15) (y : Fin 128) (q : Fin 128) (i : Fin 512) (hi : i.val = t.val / 16 * 128 + y.val) :
    ((dats m 0 c).arrAt 14 cfg0.N : Vec Ideal S512x128 .f32) (ix2 i q) = Cert.ProjSampleIdeal.Gen.out0_14 (iblk m c 0 t) (iblk m c 1 t) (iblk m c 2 t) (iblk m c 3 t) (iblk m c 4 t) (iblk m c 5 t) (iblk m c 6 t) (iblk m c 7 t) (ix2 (⟨384 + y.val, by omega⟩ : Fin 512) q) := by
  have h := (dats m 0 c).arrAt_emb_eq_flushed 14 disjoint14 t ((flush14 t).mpr ht) (ix2 y q)
  have he : ((cfg0.win 14).blk t).view.emb (ix2 y q) = (ix2 i q : S512x128.Idx) := by
    funext a
    apply Fin.ext
    match a with
    | ⟨0, _⟩ => show win0_14.index t 0 * 128 + 1 * y.val = i.val; rw [(index14 t).1]; omega
    | ⟨1, _⟩ => show win0_14.index t 1 * 128 + 1 * q.val = q.val; rw [(index14 t).2]; omega
  refine (congrArg (fun i => (dats m 0 c).arrAt 14 cfg0.N i) he.symm).trans (h.trans ?_)
  have k := Out.outB_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr ht) (iblk m c 0 t) (iblk m c 1 t) (iblk m c 2 t) (iblk m c 3 t) (iblk m c 4 t) (iblk m c 5 t) (iblk m c 6 t) (iblk m c 7 t) y q
  rw [Value.flushed14_B m c t ht]
  revert k
  generalize out0_B_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr ht) (iblk m c 0 t) (iblk m c 1 t) (iblk m c 2 t) (iblk m c 3 t) (iblk m c 4 t) (iblk m c 5 t) (iblk m c 6 t) (iblk m c 7 t) = X
  generalize Cert.ProjSampleIdeal.Gen.out0_14 (F := Ideal) (iblk m c 0 t) (iblk m c 1 t) (iblk m c 2 t) (iblk m c 3 t) (iblk m c 4 t) (iblk m c 5 t) (iblk m c 6 t) (iblk m c 7 t) = Y
  intro k
  exact k

theorem arr14 (c : Dev nD) (n : Fin 4) (y : Fin 128) (e : Fin 2) (j : Fin 64) (g : Vec Ideal S1x64 .f32) (hg : m ((c : Thread nD τ).loc main_arg4) = g) :
    ((dats m 0 c).arrAt 14 cfg0.N : Vec Ideal S512x128 .f32) (ix2 (⟨128 * n.val + y.val, by omega⟩ : Fin 512) (lane2 e j)) = rot (headNorm (fun k => zc m c n ⟨8064 + y.val, by omega⟩ ⟨512 + (64 * e.val + k.val), by omega⟩) (fun k => g (ix2 0 k))) (angle (posAt ⟨8064 + y.val, by omega⟩)) j :=
  (arr14_at m c (⟨16 * n.val + 15, by rw [N_eq]; omega⟩ : Fin cfg0.N) (by show (16 * n.val + 15) % 16 = 15; omega) y (lane2 e j) _
      (by show 128 * n.val + y.val = (16 * n.val + 15) / 16 * 128 + y.val; omega)).trans
    (at14 m c _ _ n ⟨8064 + y.val, by omega⟩ (by show 8192 * n.val + (8064 + y.val) = (16 * n.val + 15) * 512 + (384 + y.val); omega) e j g hg)

theorem flush15 : ∀ t : Fin grid0.N, (cfg0.win 15).flush t = true ↔ t.val % 16 = 15 := by decide +kernel
theorem index15 : ∀ t : Fin grid0.N, win0_15.index t 0 = t.val / 16 ∧ win0_15.index t 1 = 0 := by decide +kernel

theorem disjoint15 : ∀ t t' : Fin cfg0.N, (cfg0.win 15).flush t = true → (cfg0.win 15).flush t' = true → t ≠ t' →
    Disjoint ((cfg0.win 15).blk t).view.set ((cfg0.win 15).blk t').view.set :=
  fun t t' hf hf' hne => (cfg0.win 15).disjoint_blk fun h => hne (by
    have h0 : win0_15.index t 0 = win0_15.index t' 0 := congrFun h 0
    rw [(index15 t).1, (index15 t').1] at h0
    have h1 := (flush15 t).mp hf
    have h2 := (flush15 t').mp hf'
    exact Fin.ext (by omega))

theorem arr15_at (c : Dev nD) (t : Fin cfg0.N) (ht : t.val % 16 = 15) (y : Fin 128) (q : Fin 128) (i : Fin 512) (hi : i.val = t.val / 16 * 128 + y.val) :
    ((dats m 0 c).arrAt 15 cfg0.N : Vec Ideal S512x128 .f32) (ix2 i q) = Cert.ProjSampleIdeal.Gen.out0_15 (iblk m c 0 t) (iblk m c 1 t) (iblk m c 2 t) (iblk m c 3 t) (iblk m c 4 t) (iblk m c 5 t) (iblk m c 6 t) (iblk m c 7 t) (ix2 (⟨384 + y.val, by omega⟩ : Fin 512) q) := by
  have h := (dats m 0 c).arrAt_emb_eq_flushed 15 disjoint15 t ((flush15 t).mpr ht) (ix2 y q)
  have he : ((cfg0.win 15).blk t).view.emb (ix2 y q) = (ix2 i q : S512x128.Idx) := by
    funext a
    apply Fin.ext
    match a with
    | ⟨0, _⟩ => show win0_15.index t 0 * 128 + 1 * y.val = i.val; rw [(index15 t).1]; omega
    | ⟨1, _⟩ => show win0_15.index t 1 * 128 + 1 * q.val = q.val; rw [(index15 t).2]; omega
  refine (congrArg (fun i => (dats m 0 c).arrAt 15 cfg0.N i) he.symm).trans (h.trans ?_)
  have k := Out.outB_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr ht) (iblk m c 0 t) (iblk m c 1 t) (iblk m c 2 t) (iblk m c 3 t) (iblk m c 4 t) (iblk m c 5 t) (iblk m c 6 t) (iblk m c 7 t) y q
  rw [Value.flushed15_B m c t ht]
  revert k
  generalize out0_B_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr ht) (iblk m c 0 t) (iblk m c 1 t) (iblk m c 2 t) (iblk m c 3 t) (iblk m c 4 t) (iblk m c 5 t) (iblk m c 6 t) (iblk m c 7 t) = X
  generalize Cert.ProjSampleIdeal.Gen.out0_15 (F := Ideal) (iblk m c 0 t) (iblk m c 1 t) (iblk m c 2 t) (iblk m c 3 t) (iblk m c 4 t) (iblk m c 5 t) (iblk m c 6 t) (iblk m c 7 t) = Y
  intro k
  exact k

theorem arr15 (c : Dev nD) (n : Fin 4) (y : Fin 128) (k : Fin 128) :
    ((dats m 0 c).arrAt 15 cfg0.N : Vec Ideal S512x128 .f32) (ix2 (⟨128 * n.val + y.val, by omega⟩ : Fin 512) k) = zc m c n ⟨8064 + y.val, by omega⟩ ⟨640 + k.val, by omega⟩ :=
  (arr15_at m c (⟨16 * n.val + 15, by rw [N_eq]; omega⟩ : Fin cfg0.N) (by show (16 * n.val + 15) % 16 = 15; omega) y k _
      (by show 128 * n.val + y.val = (16 * n.val + 15) / 16 * 128 + y.val; omega)).trans
    (at15 m c _ _ n ⟨8064 + y.val, by omega⟩ (by show 8192 * n.val + (8064 + y.val) = (16 * n.val + 15) * 512 + (384 + y.val); omega) k)

theorem flush16 : ∀ t : Fin grid0.N, (cfg0.win 16).flush t = true ↔ t.val % 16 = 15 := by decide +kernel
theorem index16 : ∀ t : Fin grid0.N, win0_16.index t 0 = t.val / 16 ∧ win0_16.index t 1 = 0 := by decide +kernel

theorem disjoint16 : ∀ t t' : Fin cfg0.N, (cfg0.win 16).flush t = true → (cfg0.win 16).flush t' = true → t ≠ t' →
    Disjoint ((cfg0.win 16).blk t).view.set ((cfg0.win 16).blk t').view.set :=
  fun t t' hf hf' hne => (cfg0.win 16).disjoint_blk fun h => hne (by
    have h0 : win0_16.index t 0 = win0_16.index t' 0 := congrFun h 0
    rw [(index16 t).1, (index16 t').1] at h0
    have h1 := (flush16 t).mp hf
    have h2 := (flush16 t').mp hf'
    exact Fin.ext (by omega))

theorem arr16_at (c : Dev nD) (t : Fin cfg0.N) (ht : t.val % 16 = 15) (y : Fin 512) (q : Fin 512) (i : Fin 2048) (hi : i.val = t.val / 16 * 512 + y.val) :
    ((dats m 0 c).arrAt 16 cfg0.N : Vec Ideal S2048x512 .f32) (ix2 i q) = Cert.ProjSampleIdeal.Gen.out0_16 (iblk m c 0 t) (iblk m c 1 t) (iblk m c 2 t) (iblk m c 3 t) (iblk m c 4 t) (iblk m c 5 t) (iblk m c 6 t) (iblk m c 7 t) (ix2 (⟨0 + y.val, by omega⟩ : Fin 512) q) := by
  have h := (dats m 0 c).arrAt_emb_eq_flushed 16 disjoint16 t ((flush16 t).mpr ht) (ix2 y q)
  have he : ((cfg0.win 16).blk t).view.emb (ix2 y q) = (ix2 i q : S2048x512.Idx) := by
    funext a
    apply Fin.ext
    match a with
    | ⟨0, _⟩ => show win0_16.index t 0 * 512 + 1 * y.val = i.val; rw [(index16 t).1]; omega
    | ⟨1, _⟩ => show win0_16.index t 1 * 512 + 1 * q.val = q.val; rw [(index16 t).2]; omega
  refine (congrArg (fun i => (dats m 0 c).arrAt 16 cfg0.N i) he.symm).trans (h.trans ?_)
  rw [Value.flushed16_B m c t ht, Out.outB_16]
  generalize Cert.ProjSampleIdeal.Gen.out0_16 (iblk m c 0 t) (iblk m c 1 t) (iblk m c 2 t) (iblk m c 3 t) (iblk m c 4 t) (iblk m c 5 t) (iblk m c 6 t) (iblk m c 7 t) = Y
  exact congrArg (fun z : Fin 512 => Y (ix2 z q)) (Fin.ext (Nat.zero_add _).symm)

theorem arr16 (c : Dev nD) (n : Fin 4) (y : Fin 512) (e : Fin 8) (j : Fin 64) (g : Vec Ideal S1x64 .f32) (hg : m ((c : Thread nD τ).loc main_arg6) = g) :
    ((dats m 0 c).arrAt 16 cfg0.N : Vec Ideal S2048x512 .f32) (ix2 (⟨512 * n.val + y.val, by omega⟩ : Fin 2048) (lane8 e j)) = headNorm (fun k => zc m c n ⟨7680 + y.val, by omega⟩ ⟨1280 + (64 * e.val + k.val), by omega⟩) (fun k => g (ix2 0 k)) j :=
  (arr16_at m c (⟨16 * n.val + 15, by rw [N_eq]; omega⟩ : Fin cfg0.N) (by show (16 * n.val + 15) % 16 = 15; omega) y (lane8 e j) _
      (by show 512 * n.val + y.val = (16 * n.val + 15) / 16 * 512 + y.val; omega)).trans
    (at16 m c _ _ n ⟨7680 + y.val, by omega⟩ (by show 8192 * n.val + (7680 + y.val) = (16 * n.val + 15) * 512 + (0 + y.val); omega) e j g hg)

theorem flush17 : ∀ t : Fin grid0.N, (cfg0.win 17).flush t = true ↔ t.val % 16 = 15 := by decide +kernel
theorem index17 : ∀ t : Fin grid0.N, win0_17.index t 0 = t.val / 16 ∧ win0_17.index t 1 = 0 := by decide +kernel

theorem disjoint17 : ∀ t t' : Fin cfg0.N, (cfg0.win 17).flush t = true → (cfg0.win 17).flush t' = true → t ≠ t' →
    Disjoint ((cfg0.win 17).blk t).view.set ((cfg0.win 17).blk t').view.set :=
  fun t t' hf hf' hne => (cfg0.win 17).disjoint_blk fun h => hne (by
    have h0 : win0_17.index t 0 = win0_17.index t' 0 := congrFun h 0
    rw [(index17 t).1, (index17 t').1] at h0
    have h1 := (flush17 t).mp hf
    have h2 := (flush17 t').mp hf'
    exact Fin.ext (by omega))

theorem arr17_at (c : Dev nD) (t : Fin cfg0.N) (ht : t.val % 16 = 15) (y : Fin 512) (q : Fin 512) (i : Fin 2048) (hi : i.val = t.val / 16 * 512 + y.val) :
    ((dats m 0 c).arrAt 17 cfg0.N : Vec Ideal S2048x512 .f32) (ix2 i q) = Cert.ProjSampleIdeal.Gen.out0_17 (iblk m c 0 t) (iblk m c 1 t) (iblk m c 2 t) (iblk m c 3 t) (iblk m c 4 t) (iblk m c 5 t) (iblk m c 6 t) (iblk m c 7 t) (ix2 (⟨0 + y.val, by omega⟩ : Fin 512) q) := by
  have h := (dats m 0 c).arrAt_emb_eq_flushed 17 disjoint17 t ((flush17 t).mpr ht) (ix2 y q)
  have he : ((cfg0.win 17).blk t).view.emb (ix2 y q) = (ix2 i q : S2048x512.Idx) := by
    funext a
    apply Fin.ext
    match a with
    | ⟨0, _⟩ => show win0_17.index t 0 * 512 + 1 * y.val = i.val; rw [(index17 t).1]; omega
    | ⟨1, _⟩ => show win0_17.index t 1 * 512 + 1 * q.val = q.val; rw [(index17 t).2]; omega
  refine (congrArg (fun i => (dats m 0 c).arrAt 17 cfg0.N i) he.symm).trans (h.trans ?_)
  rw [Value.flushed17_B m c t ht, Out.outB_17]
  generalize Cert.ProjSampleIdeal.Gen.out0_17 (iblk m c 0 t) (iblk m c 1 t) (iblk m c 2 t) (iblk m c 3 t) (iblk m c 4 t) (iblk m c 5 t) (iblk m c 6 t) (iblk m c 7 t) = Y
  exact congrArg (fun z : Fin 512 => Y (ix2 z q)) (Fin.ext (Nat.zero_add _).symm)

theorem arr17 (c : Dev nD) (n : Fin 4) (y : Fin 512) (k : Fin 512) :
    ((dats m 0 c).arrAt 17 cfg0.N : Vec Ideal S2048x512 .f32) (ix2 (⟨512 * n.val + y.val, by omega⟩ : Fin 2048) k) = zc m c n ⟨7680 + y.val, by omega⟩ ⟨1792 + k.val, by omega⟩ :=
  (arr17_at m c (⟨16 * n.val + 15, by rw [N_eq]; omega⟩ : Fin cfg0.N) (by show (16 * n.val + 15) % 16 = 15; omega) y k _
      (by show 512 * n.val + y.val = (16 * n.val + 15) / 16 * 512 + y.val; omega)).trans
    (at17 m c _ _ n ⟨7680 + y.val, by omega⟩ (by show 8192 * n.val + (7680 + y.val) = (16 * n.val + 15) * 512 + (0 + y.val); omega) k)

end Cert.ProjPromptIdeal.Arr

end
-- ==== Proof.ProjPromptRef.lean ====
/-
  The reference of the projection call on the prompt, as terms of its arguments, read at an entry.
-/
module

public import proofs.«01_k».proof.Proof.ProjMath
public import proofs.«01_k».proof.Proof.Gen.ProjPromptReferenceIdeal.Run
public import Idealize.ShloMosaic.Lib.Pointwise
public import Idealize.ShloMosaic.PureOps.Ideal

@[expose] public section

set_option maxRecDepth 16384

noncomputable section

namespace Cert.ProjPromptReferenceIdeal.At

open Cert.ProjMath Cert.ProjPromptReferenceIdeal Cert.ProjPromptReferenceIdeal.Gen Idealize.ShloMosaic Idealize.ShloMosaic.TcCoe Idealize.SL.Sem

/-- The normalised rows. -/
def refH (X : FVec Ideal S4x8192x1024 .f32) (G : FVec Ideal S1x1024 .f32) : FVec Ideal S4x8192x1024 .f32 :=
  mulf (F := Ideal) (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ G shapeCasts_S1x1024_S1024)))

/-- The joint projection. -/
def refZ (X : FVec Ideal S4x8192x1024 .f32) (G : FVec Ideal S1x1024 .f32) (W : FVec Ideal S1x1024x2304 .f32) : FVec Ideal S4x8192x2304 .f32 :=
  Host.dotGeneral (F := Ideal) dot_S4x8192x1024_S1024x2304_S4x8192x2304_2_0_01_1_n_n none (refH X G) (shapeCast _ W shapeCasts_S1x1024x2304_S1024x2304)

/-- Eight heads normalised, each along its own lanes. -/
def refHN8 (z : FVec Ideal S4x8192x8x64 .f32) (g : FVec Ideal S1x64 .f32) : FVec Ideal S4x8192x8x64 .f32 :=
  mulf (F := Ideal) (mulf z (broadcastInDim S4x8192x8x64 ![0, 1, 2, 3] bcast_S4x8192x8x1_S4x8192x8x64_0_1_2_3 (Host.rsqrt (addf (Host.divf (broadcastInDim S4x8192x8x1 ![0, 1, 2] bcast_S4x8192x8_S4x8192x8x1_0_1_2 (Host.reduceAdd (mulf z z) (constant S_ .f32 0x00000000#32) reducesTo_S4x8192x8x64_S4x8192x8_d3 h_S_)) (broadcastInDim S4x8192x8x1 ![] bcast_S_S4x8192x8x1 (constant S_ .f32 0x42800000#32))) (broadcastInDim S4x8192x8x1 ![] bcast_S_S4x8192x8x1 (constant S_ .f32 0x358637BD#32)))))) (broadcastInDim S4x8192x8x64 ![0, 1, 2, 3] bcast_S1x1x1x64_S4x8192x8x64_0_1_2_3 (broadcastInDim S1x1x1x64 ![3] bcast_S64_S1x1x1x64_3 (shapeCast _ g shapeCasts_S1x64_S64)))

/-- Two heads normalised. -/
def refHN2 (z : FVec Ideal S4x8192x2x64 .f32) (g : FVec Ideal S1x64 .f32) : FVec Ideal S4x8192x2x64 .f32 :=
  mulf (F := Ideal) (mulf z (broadcastInDim S4x8192x2x64 ![0, 1, 2, 3] bcast_S4x8192x2x1_S4x8192x2x64_0_1_2_3 (Host.rsqrt (addf (Host.divf (broadcastInDim S4x8192x2x1 ![0, 1, 2] bcast_S4x8192x2_S4x8192x2x1_0_1_2 (Host.reduceAdd (mulf z z) (constant S_ .f32 0x00000000#32) reducesTo_S4x8192x2x64_S4x8192x2_d3 h_S_)) (broadcastInDim S4x8192x2x1 ![] bcast_S_S4x8192x2x1 (constant S_ .f32 0x42800000#32))) (broadcastInDim S4x8192x2x1 ![] bcast_S_S4x8192x2x1 (constant S_ .f32 0x358637BD#32)))))) (broadcastInDim S4x8192x2x64 ![0, 1, 2, 3] bcast_S1x1x1x64_S4x8192x2x64_0_1_2_3 (broadcastInDim S1x1x1x64 ![3] bcast_S64_S1x1x1x64_3 (shapeCast _ g shapeCasts_S1x64_S64)))

/-- The rotation angles, by position and frequency. -/
def refAng : FVec Ideal S8192x8 .f32 :=
  mulf (F := Ideal) (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- The cosines, ready to multiply the heads. -/
def refCos : FVec Ideal S1x8192x1x8 .f32 := broadcastInDim S1x8192x1x8 ![1, 3] bcast_S8192x8_S1x8192x1x8_1_3 (Host.cos refAng)

/-- The sines, ready to multiply the heads. -/
def refSin : FVec Ideal S1x8192x1x8 .f32 := broadcastInDim S1x8192x1x8 ![1, 3] bcast_S8192x8_S1x8192x1x8_1_3 (Host.sin refAng)

/-- Two heads rotated on their first sixteen lanes. -/
def refRope (t : FVec Ideal S4x8192x2x64 .f32) : FVec Ideal S4x8192x2x64 .f32 :=
  concatenate S4x8192x2x64 3 [⟨S4x8192x2x8, subf (F := Ideal) (mulf (extractStridedSlice S4x8192x2x8 ![0, 0, 0, 0] t slices_S4x8192x2x64_S4x8192x2x8_0_0_0_0) (broadcastInDim S4x8192x2x8 ![0, 1, 2, 3] bcast_S1x8192x1x8_S4x8192x2x8_0_1_2_3 refCos)) (mulf (extractStridedSlice S4x8192x2x8 ![0, 0, 0, 8] t slices_S4x8192x2x64_S4x8192x2x8_0_0_0_8) (broadcastInDim S4x8192x2x8 ![0, 1, 2, 3] bcast_S1x8192x1x8_S4x8192x2x8_0_1_2_3 refSin))⟩,
    ⟨S4x8192x2x8, addf (F := Ideal) (mulf (extractStridedSlice S4x8192x2x8 ![0, 0, 0, 8] t slices_S4x8192x2x64_S4x8192x2x8_0_0_0_8) (broadcastInDim S4x8192x2x8 ![0, 1, 2, 3] bcast_S1x8192x1x8_S4x8192x2x8_0_1_2_3 refCos)) (mulf (extractStridedSlice S4x8192x2x8 ![0, 0, 0, 0] t slices_S4x8192x2x64_S4x8192x2x8_0_0_0_0) (broadcastInDim S4x8192x2x8 ![0, 1, 2, 3] bcast_S1x8192x1x8_S4x8192x2x8_0_1_2_3 refSin))⟩,
    ⟨S4x8192x2x48, extractStridedSlice S4x8192x2x48 ![0, 0, 0, 16] t slices_S4x8192x2x64_S4x8192x2x48_0_0_0_16⟩] concatenates_S4x8192x2x8_S4x8192x2x8_S4x8192x2x48_S4x8192x2x64_d3

def refKA (X : FVec Ideal S4x8192x1024 .f32) (G : FVec Ideal S1x1024 .f32) (W : FVec Ideal S1x1024x2304 .f32) (g : FVec Ideal S1x64 .f32) : FVec Ideal S4x8192x2x64 .f32 :=
  refRope (refHN2 (shapeCast _ (extractStridedSlice S4x8192x128 ![0, 0, 512] (refZ X G W) slices_S4x8192x2304_S4x8192x128_0_0_512) shapeCasts_S4x8192x128_S4x8192x2x64) g)

def refKB (X : FVec Ideal S4x8192x1024 .f32) (G : FVec Ideal S1x1024 .f32) (W : FVec Ideal S1x1024x2304 .f32) (g : FVec Ideal S1x64 .f32) : FVec Ideal S4x8192x8x64 .f32 :=
  refHN8 (shapeCast _ (extractStridedSlice S4x8192x512 ![0, 0, 1280] (refZ X G W) slices_S4x8192x2304_S4x8192x512_0_0_1280) shapeCasts_S4x8192x512_S4x8192x8x64) g

def refQB (X : FVec Ideal S4x8192x1024 .f32) (G : FVec Ideal S1x1024 .f32) (W : FVec Ideal S1x1024x2304 .f32) (g : FVec Ideal S1x64 .f32) : FVec Ideal S4x8192x8x64 .f32 :=
  mulf (F := Ideal) (refHN8 (shapeCast _ (extractStridedSlice S4x8192x512 ![0, 0, 768] (refZ X G W) slices_S4x8192x2304_S4x8192x512_0_0_768) shapeCasts_S4x8192x512_S4x8192x8x64) g) (broadcastInDim S4x8192x8x64 ![] bcast_S_S4x8192x8x64 (constant S_ .f32 0x3E000000#32))

def refVA (X : FVec Ideal S4x8192x1024 .f32) (G : FVec Ideal S1x1024 .f32) (W : FVec Ideal S1x1024x2304 .f32) : FVec Ideal S4x8192x128 .f32 :=
  extractStridedSlice S4x8192x128 ![0, 0, 640] (refZ X G W) slices_S4x8192x2304_S4x8192x128_0_0_640

def refVB (X : FVec Ideal S4x8192x1024 .f32) (G : FVec Ideal S1x1024 .f32) (W : FVec Ideal S1x1024x2304 .f32) : FVec Ideal S4x8192x512 .f32 :=
  extractStridedSlice S4x8192x512 ![0, 0, 1792] (refZ X G W) slices_S4x8192x2304_S4x8192x512_0_0_1792

/-! ## At an entry -/

/-- One column of the projection of position `l` of sequence `n`. -/
def zAt (X : FVec Ideal S4x8192x1024 .f32) (G : FVec Ideal S1x1024 .f32) (W : FVec Ideal S1x1024x2304 .f32) (n : Fin 4) (l : Fin 8192) (c : Fin 2304) : EReal :=
  col (rowNorm (fun k => X (ix3 n l k)) (fun k => G (ix2 0 k))) (fun d => W (ix3 0 d c))

theorem refH_apply (X : FVec Ideal S4x8192x1024 .f32) (G : FVec Ideal S1x1024 .f32) (n : Fin 4) (l : Fin 8192) (d : Fin 1024) :
    refH X G (ix3 n l d) = rowNorm (fun k => X (ix3 n l k)) (fun k => G (ix2 0 k)) d := by
  pointwise [refH]
  rfl

theorem refZ_apply (X : FVec Ideal S4x8192x1024 .f32) (G : FVec Ideal S1x1024 .f32) (W : FVec Ideal S1x1024x2304 .f32) (n : Fin 4) (l : Fin 8192) (c : Fin 2304) :
    refZ X G W (ix3 n l c) = zAt X G W n l c := by
  have key : refZ X G W (ix3 n l c) = ∑ k : Fin 1024, refH X G (ix3 n l k) * W (ix3 0 k c) := by
    pointwise [refZ]
  rw [key]
  exact Finset.sum_congr rfl fun d _ => congrArg (fun z : EReal => z * _) (refH_apply X G n l d)

theorem refHN8_apply (z : FVec Ideal S4x8192x8x64 .f32) (g : FVec Ideal S1x64 .f32) (n : Fin 4) (l : Fin 8192) (e : Fin 8) (j : Fin 64) :
    refHN8 z g (ix4 n l e j) = headNorm (fun k => z (ix4 n l e k)) (fun k => g (ix2 0 k)) j := by
  pointwise [refHN8]
  rfl

theorem refHN2_apply (z : FVec Ideal S4x8192x2x64 .f32) (g : FVec Ideal S1x64 .f32) (n : Fin 4) (l : Fin 8192) (e : Fin 2) (j : Fin 64) :
    refHN2 z g (ix4 n l e j) = headNorm (fun k => z (ix4 n l e k)) (fun k => g (ix2 0 k)) j := by
  pointwise [refHN2]
  rfl

/-- The position's word. -/
abbrev posAt (l : Fin 8192) : BitVec 32 := BitVec.ofNat 32 l.val

theorem refCos_apply (l : Fin 8192) (d : Fin 8) : refCos (ix4 0 l 0 d) = Ideal.cos (angle (posAt l) d) := by
  pointwise [refCos, refAng]
  rfl

theorem refSin_apply (l : Fin 8192) (d : Fin 8) : refSin (ix4 0 l 0 d) = Ideal.sin (angle (posAt l) d) := by
  pointwise [refSin, refAng]
  rfl

theorem refRope_apply (t : FVec Ideal S4x8192x2x64 .f32) (n : Fin 4) (l : Fin 8192) (e : Fin 2) (j : Fin 64) :
    refRope t (ix4 n l e j) = rot (fun k => t (ix4 n l e k)) (angle (posAt l)) j := by
  pointwise [refRope]
  unfold rot
  simp only [refCos_apply, refSin_apply]
  split
  · rfl
  · split
    · refine congrArg₂ (fun a b : EReal => a * _ + b) ?_ rfl
      exact congrArg (fun q : Fin 64 => t (ix4 n l e q)) (Fin.ext (by show 8 + (j.val - 8) = j.val; omega))
    · exact congrArg (fun q : Fin 64 => t (ix4 n l e q)) (Fin.ext (by show 16 + (j.val - 8 - 8) = j.val; omega))

theorem seg8_apply (y : FVec Ideal S4x8192x512 .f32) (n : Fin 4) (l : Fin 8192) (e : Fin 8) (j : Fin 64) :
    shapeCast S4x8192x8x64 y shapeCasts_S4x8192x512_S4x8192x8x64 (ix4 n l e j) = y (ix3 n l ⟨64 * e.val + j.val, by omega⟩) := by
  rw [shapeCast_apply _ _ _ (ix3 n l ⟨64 * e.val + j.val, by omega⟩)]
  rw [Shape.rowMajor_val_four, Shape.rowMajor_val_three]
  show (n.val * 8192 + l.val) * 512 + (64 * e.val + j.val) = ((n.val * 8192 + l.val) * 8 + e.val) * 64 + j.val
  omega

theorem seg2_apply (y : FVec Ideal S4x8192x128 .f32) (n : Fin 4) (l : Fin 8192) (e : Fin 2) (j : Fin 64) :
    shapeCast S4x8192x2x64 y shapeCasts_S4x8192x128_S4x8192x2x64 (ix4 n l e j) = y (ix3 n l ⟨64 * e.val + j.val, by omega⟩) := by
  rw [shapeCast_apply _ _ _ (ix3 n l ⟨64 * e.val + j.val, by omega⟩)]
  rw [Shape.rowMajor_val_four, Shape.rowMajor_val_three]
  show (n.val * 8192 + l.val) * 128 + (64 * e.val + j.val) = ((n.val * 8192 + l.val) * 2 + e.val) * 64 + j.val
  omega

variable (X : FVec Ideal S4x8192x1024 .f32) (G : FVec Ideal S1x1024 .f32) (W : FVec Ideal S1x1024x2304 .f32) (g : FVec Ideal S1x64 .f32)

theorem refVA_apply (n : Fin 4) (l : Fin 8192) (c : Fin 128) : refVA X G W (ix3 n l c) = zAt X G W n l ⟨640 + c.val, by omega⟩ := by
  rw [← refZ_apply]
  pointwise [refVA]

theorem refVB_apply (n : Fin 4) (l : Fin 8192) (c : Fin 512) : refVB X G W (ix3 n l c) = zAt X G W n l ⟨1792 + c.val, by omega⟩ := by
  rw [← refZ_apply]
  pointwise [refVB]

theorem refKB_apply (n : Fin 4) (l : Fin 8192) (e : Fin 8) (j : Fin 64) :
    refKB X G W g (ix4 n l e j) = headNorm (fun k => zAt X G W n l ⟨1280 + (64 * e.val + k.val), by omega⟩) (fun k => g (ix2 0 k)) j := by
  unfold refKB
  rw [refHN8_apply]
  refine congrArg (fun z : Fin 64 → EReal => headNorm z _ j) (funext fun k => ?_)
  rw [seg8_apply, ← refZ_apply]
  pointwise

theorem refQB_apply (n : Fin 4) (l : Fin 8192) (e : Fin 8) (j : Fin 64) :
    refQB X G W g (ix4 n l e j) = headNorm (fun k => zAt X G W n l ⟨768 + (64 * e.val + k.val), by omega⟩) (fun k => g (ix2 0 k)) j * Ideal.ofBits FTy.f32 0x3E000000#32 := by
  unfold refQB
  show refHN8 _ g (ix4 n l e j) * _ = _
  rw [refHN8_apply]
  refine congrArg₂ (fun (z : Fin 64 → EReal) (s : EReal) => headNorm z _ j * s) (funext fun k => ?_) rfl
  rw [seg8_apply, ← refZ_apply]
  pointwise

theorem refKA_apply (n : Fin 4) (l : Fin 8192) (e : Fin 2) (j : Fin 64) :
    refKA X G W g (ix4 n l e j) = rot (headNorm (fun k => zAt X G W n l ⟨512 + (64 * e.val + k.val), by omega⟩) (fun k => g (ix2 0 k))) (angle (posAt l)) j := by
  unfold refKA
  rw [refRope_apply]
  refine congrArg (fun z : Fin 64 → EReal => rot z _ j) (funext fun i => ?_)
  rw [refHN2_apply]
  refine congrArg (fun z : Fin 64 → EReal => headNorm z _ i) (funext fun k => ?_)
  rw [seg2_apply, ← refZ_apply]
  pointwise

/-! ## Flattened -/

/-- Position `l` of sequence `n` among all rows. -/
abbrev row (n : Fin 4) (l : Fin 8192) : Fin 32768 := ⟨8192 * n.val + l.val, by omega⟩

theorem flat8_apply (y : FVec Ideal S4x8192x8x64 .f32) (n : Fin 4) (l : Fin 8192) (e : Fin 8) (j : Fin 64) :
    shapeCast S32768x512 y shapeCasts_S4x8192x8x64_S32768x512 (ix2 (row n l) (⟨64 * e.val + j.val, by omega⟩ : Fin 512)) = y (ix4 n l e j) := by
  rw [shapeCast_apply _ _ _ (ix4 n l e j)]
  rw [Shape.rowMajor_val_four, Shape.rowMajor_val_two]
  show ((n.val * 8192 + l.val) * 8 + e.val) * 64 + j.val = (8192 * n.val + l.val) * 512 + (64 * e.val + j.val)
  omega

theorem flat2_apply (y : FVec Ideal S4x8192x2x64 .f32) (n : Fin 4) (l : Fin 8192) (e : Fin 2) (j : Fin 64) :
    shapeCast S32768x128 y shapeCasts_S4x8192x2x64_S32768x128 (ix2 (row n l) (⟨64 * e.val + j.val, by omega⟩ : Fin 128)) = y (ix4 n l e j) := by
  rw [shapeCast_apply _ _ _ (ix4 n l e j)]
  rw [Shape.rowMajor_val_four, Shape.rowMajor_val_two]
  show ((n.val * 8192 + l.val) * 2 + e.val) * 64 + j.val = (8192 * n.val + l.val) * 128 + (64 * e.val + j.val)
  omega

theorem flat512_apply (y : FVec Ideal S4x8192x512 .f32) (n : Fin 4) (l : Fin 8192) (c : Fin 512) :
    shapeCast S32768x512 y shapeCasts_S4x8192x512_S32768x512 (ix2 (row n l) c) = y (ix3 n l c) := by
  rw [shapeCast_apply _ _ _ (ix3 n l c)]
  rw [Shape.rowMajor_val_three, Shape.rowMajor_val_two]
  show (n.val * 8192 + l.val) * 512 + c.val = (8192 * n.val + l.val) * 512 + c.val
  omega

theorem flat128_apply (y : FVec Ideal S4x8192x128 .f32) (n : Fin 4) (l : Fin 8192) (c : Fin 128) :
    shapeCast S32768x128 y shapeCasts_S4x8192x128_S32768x128 (ix2 (row n l) c) = y (ix3 n l c) := by
  rw [shapeCast_apply _ _ _ (ix3 n l c)]
  rw [Shape.rowMajor_val_three, Shape.rowMajor_val_two]
  show (n.val * 8192 + l.val) * 128 + c.val = (8192 * n.val + l.val) * 128 + c.val
  omega

/-- The last 128 positions of every sequence, as one array of rows: heads. -/
theorem last2_apply (y : FVec Ideal S4x8192x2x64 .f32) (n : Fin 4) (l : Fin 128) (e : Fin 2) (j : Fin 64) :
    shapeCast S512x128 (extractStridedSlice S4x128x2x64 ![0, 8064, 0, 0] y slices_S4x8192x2x64_S4x128x2x64_0_8064_0_0) shapeCasts_S4x128x2x64_S512x128
        (ix2 (⟨128 * n.val + l.val, by omega⟩ : Fin 512) (⟨64 * e.val + j.val, by omega⟩ : Fin 128)) = y (ix4 n ⟨8064 + l.val, by omega⟩ e j) := by
  rw [shapeCast_apply _ _ _ (ix4 n l e j)]
  · pointwise
  · rw [Shape.rowMajor_val_four, Shape.rowMajor_val_two]
    show ((n.val * 128 + l.val) * 2 + e.val) * 64 + j.val = (128 * n.val + l.val) * 128 + (64 * e.val + j.val)
    omega

/-- The last 128 positions of every sequence, as one array of rows: lanes. -/
theorem last128_apply (y : FVec Ideal S4x8192x128 .f32) (n : Fin 4) (l : Fin 128) (k : Fin 128) :
    shapeCast S512x128 (extractStridedSlice S4x128x128 ![0, 8064, 0] y slices_S4x8192x128_S4x128x128_0_8064_0) shapeCasts_S4x128x128_S512x128
        (ix2 (⟨128 * n.val + l.val, by omega⟩ : Fin 512) k) = y (ix3 n ⟨8064 + l.val, by omega⟩ k) := by
  rw [shapeCast_apply _ _ _ (ix3 n l k)]
  · pointwise
  · rw [Shape.rowMajor_val_three, Shape.rowMajor_val_two]
    show (n.val * 128 + l.val) * 128 + k.val = (128 * n.val + l.val) * 128 + k.val
    omega

/-- The last 512 positions of every sequence, as one array of rows: heads. -/
theorem last8_apply (y : FVec Ideal S4x8192x8x64 .f32) (n : Fin 4) (l : Fin 512) (e : Fin 8) (j : Fin 64) :
    shapeCast S2048x512 (extractStridedSlice S4x512x8x64 ![0, 7680, 0, 0] y slices_S4x8192x8x64_S4x512x8x64_0_7680_0_0) shapeCasts_S4x512x8x64_S2048x512
        (ix2 (⟨512 * n.val + l.val, by omega⟩ : Fin 2048) (⟨64 * e.val + j.val, by omega⟩ : Fin 512)) = y (ix4 n ⟨7680 + l.val, by omega⟩ e j) := by
  rw [shapeCast_apply _ _ _ (ix4 n l e j)]
  · pointwise
  · rw [Shape.rowMajor_val_four, Shape.rowMajor_val_two]
    show ((n.val * 512 + l.val) * 8 + e.val) * 64 + j.val = (512 * n.val + l.val) * 512 + (64 * e.val + j.val)
    omega

/-- The last 512 positions of every sequence, as one array of rows: lanes. -/
theorem last512_apply (y : FVec Ideal S4x8192x512 .f32) (n : Fin 4) (l : Fin 512) (k : Fin 512) :
    shapeCast S2048x512 (extractStridedSlice S4x512x512 ![0, 7680, 0] y slices_S4x8192x512_S4x512x512_0_7680_0) shapeCasts_S4x512x512_S2048x512
        (ix2 (⟨512 * n.val + l.val, by omega⟩ : Fin 2048) k) = y (ix3 n ⟨7680 + l.val, by omega⟩ k) := by
  rw [shapeCast_apply _ _ _ (ix3 n l k)]
  · pointwise
  · rw [Shape.rowMajor_val_three, Shape.rowMajor_val_two]
    show (n.val * 512 + l.val) * 512 + k.val = (512 * n.val + l.val) * 512 + k.val
    omega

end Cert.ProjPromptReferenceIdeal.At

end
-- ==== Proof.ProjPromptEq.lean ====
/-
  The projection of the prompt: the arrays its kernel leaves are the reference's.
-/
module

public import proofs.«01_k».proof.Proof.ProjPromptArr
public import proofs.«01_k».proof.Proof.ProjPromptRef

@[expose] public section

set_option maxRecDepth 16384

noncomputable section

namespace Cert.ProjPromptIdeal.Arr

open Cert.ProjMath Cert.ProjPromptIdeal Cert.ProjPromptIdeal.Gen Cert.ProjPromptIdeal.Host Idealize.ShloMosaic Idealize.ShloMosaic.TcCoe Idealize.SL.Sem
open Cert.ProjSampleIdeal.Pay (lane8 lane2)
open Cert.ProjPromptReferenceIdeal.At (refKA refKB refQB refVA refVB refKA_apply refKB_apply refQB_apply refVA_apply refVB_apply flat8_apply flat2_apply flat512_apply flat128_apply last2_apply last8_apply last128_apply last512_apply)

/-! ## Every index is a row and a lane -/

theorem at8 (i : S32768x512.Idx) : ∃ (n : Fin 4) (l : Fin 8192) (e : Fin 8) (j : Fin 64), i = ix2 (row n l) (lane8 e j) := by
  have h0 : (i 0).val < 32768 := (i 0).isLt
  have h1 : (i 1).val < 512 := (i 1).isLt
  refine ⟨⟨(i 0).val / 8192, by omega⟩, ⟨(i 0).val % 8192, by omega⟩, ⟨(i 1).val / 64, by omega⟩, ⟨(i 1).val % 64, by omega⟩, funext fun a => Fin.ext ?_⟩
  match a with
  | ⟨0, _⟩ => show (i 0).val = 8192 * ((i 0).val / 8192) + (i 0).val % 8192; omega
  | ⟨1, _⟩ => show (i 1).val = 64 * ((i 1).val / 64) + (i 1).val % 64; omega

theorem at2 (i : S32768x128.Idx) : ∃ (n : Fin 4) (l : Fin 8192) (e : Fin 2) (j : Fin 64), i = ix2 (row n l) (lane2 e j) := by
  have h0 : (i 0).val < 32768 := (i 0).isLt
  have h1 : (i 1).val < 128 := (i 1).isLt
  refine ⟨⟨(i 0).val / 8192, by omega⟩, ⟨(i 0).val % 8192, by omega⟩, ⟨(i 1).val / 64, by omega⟩, ⟨(i 1).val % 64, by omega⟩, funext fun a => Fin.ext ?_⟩
  match a with
  | ⟨0, _⟩ => show (i 0).val = 8192 * ((i 0).val / 8192) + (i 0).val % 8192; omega
  | ⟨1, _⟩ => show (i 1).val = 64 * ((i 1).val / 64) + (i 1).val % 64; omega

theorem at8c (i : S2048x512.Idx) : ∃ (n : Fin 4) (l : Fin 512) (e : Fin 8) (j : Fin 64), i = ix2 (⟨512 * n.val + l.val, by omega⟩ : Fin 2048) (lane8 e j) := by
  have h0 : (i 0).val < 2048 := (i 0).isLt
  have h1 : (i 1).val < 512 := (i 1).isLt
  refine ⟨⟨(i 0).val / 512, by omega⟩, ⟨(i 0).val % 512, by omega⟩, ⟨(i 1).val / 64, by omega⟩, ⟨(i 1).val % 64, by omega⟩, funext fun a => Fin.ext ?_⟩
  match a with
  | ⟨0, _⟩ => show (i 0).val = 512 * ((i 0).val / 512) + (i 0).val % 512; omega
  | ⟨1, _⟩ => show (i 1).val = 64 * ((i 1).val / 64) + (i 1).val % 64; omega

theorem at2c (i : S512x128.Idx) : ∃ (n : Fin 4) (l : Fin 128) (e : Fin 2) (j : Fin 64), i = ix2 (⟨128 * n.val + l.val, by omega⟩ : Fin 512) (lane2 e j) := by
  have h0 : (i 0).val < 512 := (i 0).isLt
  have h1 : (i 1).val < 128 := (i 1).isLt
  refine ⟨⟨(i 0).val / 128, by omega⟩, ⟨(i 0).val % 128, by omega⟩, ⟨(i 1).val / 64, by omega⟩, ⟨(i 1).val % 64, by omega⟩, funext fun a => Fin.ext ?_⟩
  match a with
  | ⟨0, _⟩ => show (i 0).val = 128 * ((i 0).val / 128) + (i 0).val % 128; omega
  | ⟨1, _⟩ => show (i 1).val = 64 * ((i 1).val / 64) + (i 1).val % 64; omega

/-! ## The results -/

variable (m : (ℓ : Loc nD τ sig) → Buf (Elt Ideal) ℓ) (c : Dev nD)

theorem eq9 : ((dats m 0 c).arrAt 9 cfg0.N : Vec Ideal S32768x512 .bf16) = (truncf (F := Ideal) .bf16 (shapeCast Cert.ProjPromptReferenceIdeal.S32768x512 (refQB (m ((c : Thread nD τ).loc main_arg0)) (m ((c : Thread nD τ).loc main_arg1)) (m ((c : Thread nD τ).loc main_arg2)) (m ((c : Thread nD τ).loc main_arg5))) Cert.ProjPromptReferenceIdeal.Facts₀.shapeCasts_S4x8192x8x64_S32768x512) : FVec Ideal S32768x512 .bf16) := by
  funext i
  obtain ⟨n, l, e, j, rfl⟩ := at8 i
  refine (arr9 m c n l e j _ rfl).trans ?_
  refine Eq.trans ?_ (flat8_apply (refQB (m ((c : Thread nD τ).loc main_arg0)) (m ((c : Thread nD τ).loc main_arg1)) (m ((c : Thread nD τ).loc main_arg2)) (m ((c : Thread nD τ).loc main_arg5))) n l e j).symm
  rw [refQB_apply]
  rfl

theorem eq10 : ((dats m 0 c).arrAt 10 cfg0.N : Vec Ideal S32768x512 .bf16) = (truncf (F := Ideal) .bf16 (shapeCast Cert.ProjPromptReferenceIdeal.S32768x512 (refKB (m ((c : Thread nD τ).loc main_arg0)) (m ((c : Thread nD τ).loc main_arg1)) (m ((c : Thread nD τ).loc main_arg2)) (m ((c : Thread nD τ).loc main_arg6))) Cert.ProjPromptReferenceIdeal.Facts₀.shapeCasts_S4x8192x8x64_S32768x512) : FVec Ideal S32768x512 .bf16) := by
  funext i
  obtain ⟨n, l, e, j, rfl⟩ := at8 i
  refine (arr10 m c n l e j _ rfl).trans ?_
  refine Eq.trans ?_ (flat8_apply (refKB (m ((c : Thread nD τ).loc main_arg0)) (m ((c : Thread nD τ).loc main_arg1)) (m ((c : Thread nD τ).loc main_arg2)) (m ((c : Thread nD τ).loc main_arg6))) n l e j).symm
  rw [refKB_apply]
  rfl

theorem eq11 : ((dats m 0 c).arrAt 11 cfg0.N : Vec Ideal S32768x128 .bf16) = (truncf (F := Ideal) .bf16 (shapeCast Cert.ProjPromptReferenceIdeal.S32768x128 (refKA (m ((c : Thread nD τ).loc main_arg0)) (m ((c : Thread nD τ).loc main_arg1)) (m ((c : Thread nD τ).loc main_arg2)) (m ((c : Thread nD τ).loc main_arg4))) Cert.ProjPromptReferenceIdeal.Facts₀.shapeCasts_S4x8192x2x64_S32768x128) : FVec Ideal S32768x128 .bf16) := by
  funext i
  obtain ⟨n, l, e, j, rfl⟩ := at2 i
  refine (arr11 m c n l e j _ rfl).trans ?_
  refine Eq.trans ?_ (flat2_apply (refKA (m ((c : Thread nD τ).loc main_arg0)) (m ((c : Thread nD τ).loc main_arg1)) (m ((c : Thread nD τ).loc main_arg2)) (m ((c : Thread nD τ).loc main_arg4))) n l e j).symm
  rw [refKA_apply]
  rfl

theorem eq12 : ((dats m 0 c).arrAt 12 cfg0.N : Vec Ideal S32768x128 .bf16) = (truncf (F := Ideal) .bf16 (shapeCast Cert.ProjPromptReferenceIdeal.S32768x128 (refVA (m ((c : Thread nD τ).loc main_arg0)) (m ((c : Thread nD τ).loc main_arg1)) (m ((c : Thread nD τ).loc main_arg2))) Cert.ProjPromptReferenceIdeal.Facts₀.shapeCasts_S4x8192x128_S32768x128) : FVec Ideal S32768x128 .bf16) := by
  funext i
  obtain ⟨n, l, e, j, rfl⟩ := at2 i
  refine (arr12 m c n l (lane2 e j)).trans ?_
  refine Eq.trans ?_ (flat128_apply (refVA (m ((c : Thread nD τ).loc main_arg0)) (m ((c : Thread nD τ).loc main_arg1)) (m ((c : Thread nD τ).loc main_arg2))) n l (lane2 e j)).symm
  rw [refVA_apply]
  rfl

theorem eq13 : ((dats m 0 c).arrAt 13 cfg0.N : Vec Ideal S32768x512 .bf16) = (truncf (F := Ideal) .bf16 (shapeCast Cert.ProjPromptReferenceIdeal.S32768x512 (refVB (m ((c : Thread nD τ).loc main_arg0)) (m ((c : Thread nD τ).loc main_arg1)) (m ((c : Thread nD τ).loc main_arg2))) Cert.ProjPromptReferenceIdeal.Facts₀.shapeCasts_S4x8192x512_S32768x512) : FVec Ideal S32768x512 .bf16) := by
  funext i
  obtain ⟨n, l, e, j, rfl⟩ := at8 i
  refine (arr13 m c n l (lane8 e j)).trans ?_
  refine Eq.trans ?_ (flat512_apply (refVB (m ((c : Thread nD τ).loc main_arg0)) (m ((c : Thread nD τ).loc main_arg1)) (m ((c : Thread nD τ).loc main_arg2))) n l (lane8 e j)).symm
  rw [refVB_apply]
  rfl

theorem eq14 : ((dats m 0 c).arrAt 14 cfg0.N : Vec Ideal S512x128 .f32) = (shapeCast Cert.ProjPromptReferenceIdeal.S512x128 (extractStridedSlice Cert.ProjPromptReferenceIdeal.S4x128x2x64 ![0, 8064, 0, 0] (refKA (m ((c : Thread nD τ).loc main_arg0)) (m ((c : Thread nD τ).loc main_arg1)) (m ((c : Thread nD τ).loc main_arg2)) (m ((c : Thread nD τ).loc main_arg4))) Cert.ProjPromptReferenceIdeal.Facts₀.slices_S4x8192x2x64_S4x128x2x64_0_8064_0_0) Cert.ProjPromptReferenceIdeal.Facts₀.shapeCasts_S4x128x2x64_S512x128 : FVec Ideal S512x128 .f32) := by
  funext i
  obtain ⟨n, l, e, j, rfl⟩ := at2c i
  refine (arr14 m c n l e j _ rfl).trans ?_
  refine Eq.trans ?_ (last2_apply (refKA (m ((c : Thread nD τ).loc main_arg0)) (m ((c : Thread nD τ).loc main_arg1)) (m ((c : Thread nD τ).loc main_arg2)) (m ((c : Thread nD τ).loc main_arg4))) n l e j).symm
  rw [refKA_apply]
  rfl

theorem eq15 : ((dats m 0 c).arrAt 15 cfg0.N : Vec Ideal S512x128 .f32) = (shapeCast Cert.ProjPromptReferenceIdeal.S512x128 (extractStridedSlice Cert.ProjPromptReferenceIdeal.S4x128x128 ![0, 8064, 0] (refVA (m ((c : Thread nD τ).loc main_arg0)) (m ((c : Thread nD τ).loc main_arg1)) (m ((c : Thread nD τ).loc main_arg2))) Cert.ProjPromptReferenceIdeal.Facts₀.slices_S4x8192x128_S4x128x128_0_8064_0) Cert.ProjPromptReferenceIdeal.Facts₀.shapeCasts_S4x128x128_S512x128 : FVec Ideal S512x128 .f32) := by
  funext i
  obtain ⟨n, l, e, j, rfl⟩ := at2c i
  refine (arr15 m c n l (lane2 e j)).trans ?_
  refine Eq.trans ?_ (last128_apply (refVA (m ((c : Thread nD τ).loc main_arg0)) (m ((c : Thread nD τ).loc main_arg1)) (m ((c : Thread nD τ).loc main_arg2))) n l (lane2 e j)).symm
  rw [refVA_apply]
  rfl

theorem eq16 : ((dats m 0 c).arrAt 16 cfg0.N : Vec Ideal S2048x512 .f32) = (shapeCast Cert.ProjPromptReferenceIdeal.S2048x512 (extractStridedSlice Cert.ProjPromptReferenceIdeal.S4x512x8x64 ![0, 7680, 0, 0] (refKB (m ((c : Thread nD τ).loc main_arg0)) (m ((c : Thread nD τ).loc main_arg1)) (m ((c : Thread nD τ).loc main_arg2)) (m ((c : Thread nD τ).loc main_arg6))) Cert.ProjPromptReferenceIdeal.Facts₀.slices_S4x8192x8x64_S4x512x8x64_0_7680_0_0) Cert.ProjPromptReferenceIdeal.Facts₀.shapeCasts_S4x512x8x64_S2048x512 : FVec Ideal S2048x512 .f32) := by
  funext i
  obtain ⟨n, l, e, j, rfl⟩ := at8c i
  refine (arr16 m c n l e j _ rfl).trans ?_
  refine Eq.trans ?_ (last8_apply (refKB (m ((c : Thread nD τ).loc main_arg0)) (m ((c : Thread nD τ).loc main_arg1)) (m ((c : Thread nD τ).loc main_arg2)) (m ((c : Thread nD τ).loc main_arg6))) n l e j).symm
  rw [refKB_apply]
  rfl

theorem eq17 : ((dats m 0 c).arrAt 17 cfg0.N : Vec Ideal S2048x512 .f32) = (shapeCast Cert.ProjPromptReferenceIdeal.S2048x512 (extractStridedSlice Cert.ProjPromptReferenceIdeal.S4x512x512 ![0, 7680, 0] (refVB (m ((c : Thread nD τ).loc main_arg0)) (m ((c : Thread nD τ).loc main_arg1)) (m ((c : Thread nD τ).loc main_arg2))) Cert.ProjPromptReferenceIdeal.Facts₀.slices_S4x8192x512_S4x512x512_0_7680_0) Cert.ProjPromptReferenceIdeal.Facts₀.shapeCasts_S4x512x512_S2048x512 : FVec Ideal S2048x512 .f32) := by
  funext i
  obtain ⟨n, l, e, j, rfl⟩ := at8c i
  refine (arr17 m c n l (lane8 e j)).trans ?_
  refine Eq.trans ?_ (last512_apply (refVB (m ((c : Thread nD τ).loc main_arg0)) (m ((c : Thread nD τ).loc main_arg1)) (m ((c : Thread nD τ).loc main_arg2))) n l (lane8 e j)).symm
  rw [refVB_apply]
  rfl

end Cert.ProjPromptIdeal.Arr

end
-- ==== Proof.ProjPromptRes.lean ====
/-
  The results of the prompt reference's run that carry names, as the terms of ProjPromptRef.lean.
-/
module

public import proofs.«01_k».proof.Proof.ProjPromptRef

@[expose] public section

set_option maxRecDepth 16384

noncomputable section

namespace Cert.ProjPromptReferenceIdeal.At

open Cert.ProjPromptReferenceIdeal Cert.ProjPromptReferenceIdeal.Gen Cert.ProjPromptReferenceIdeal.Value Idealize.ShloMosaic Idealize.ShloMosaic.TcCoe Idealize.SL.Sem

theorem res_v101 (m : (ℓ : Loc nD τ sig) → Buf (Elt Ideal) ℓ) (c : Dev nD) :
    (Value.res_main_v101 m c : Vec Ideal S32768x512 .bf16) =
      (truncf (F := Ideal) .bf16 (shapeCast S32768x512 (refQB (m ((c : Thread nD τ).loc main_arg0)) (m ((c : Thread nD τ).loc main_arg1)) (m ((c : Thread nD τ).loc main_arg2)) (m ((c : Thread nD τ).loc main_arg5))) Cert.ProjPromptReferenceIdeal.Facts₀.shapeCasts_S4x8192x8x64_S32768x512) : FVec Ideal S32768x512 .bf16) := rfl

theorem res_v103 (m : (ℓ : Loc nD τ sig) → Buf (Elt Ideal) ℓ) (c : Dev nD) :
    (Value.res_main_v103 m c : Vec Ideal S32768x512 .bf16) =
      (truncf (F := Ideal) .bf16 (shapeCast S32768x512 (refKB (m ((c : Thread nD τ).loc main_arg0)) (m ((c : Thread nD τ).loc main_arg1)) (m ((c : Thread nD τ).loc main_arg2)) (m ((c : Thread nD τ).loc main_arg6))) Cert.ProjPromptReferenceIdeal.Facts₀.shapeCasts_S4x8192x8x64_S32768x512) : FVec Ideal S32768x512 .bf16) := rfl

theorem res_v105 (m : (ℓ : Loc nD τ sig) → Buf (Elt Ideal) ℓ) (c : Dev nD) :
    (Value.res_main_v105 m c : Vec Ideal S32768x128 .bf16) =
      (truncf (F := Ideal) .bf16 (shapeCast S32768x128 (refKA (m ((c : Thread nD τ).loc main_arg0)) (m ((c : Thread nD τ).loc main_arg1)) (m ((c : Thread nD τ).loc main_arg2)) (m ((c : Thread nD τ).loc main_arg4))) Cert.ProjPromptReferenceIdeal.Facts₀.shapeCasts_S4x8192x2x64_S32768x128) : FVec Ideal S32768x128 .bf16) := rfl

theorem res_v111 (m : (ℓ : Loc nD τ sig) → Buf (Elt Ideal) ℓ) (c : Dev nD) :
    (Value.res_main_v111 m c : Vec Ideal S512x128 .f32) =
      (shapeCast S512x128 (extractStridedSlice S4x128x2x64 ![0, 8064, 0, 0] (refKA (m ((c : Thread nD τ).loc main_arg0)) (m ((c : Thread nD τ).loc main_arg1)) (m ((c : Thread nD τ).loc main_arg2)) (m ((c : Thread nD τ).loc main_arg4))) Cert.ProjPromptReferenceIdeal.Facts₀.slices_S4x8192x2x64_S4x128x2x64_0_8064_0_0) Cert.ProjPromptReferenceIdeal.Facts₀.shapeCasts_S4x128x2x64_S512x128 : FVec Ideal S512x128 .f32) := rfl

theorem res_v115 (m : (ℓ : Loc nD τ sig) → Buf (Elt Ideal) ℓ) (c : Dev nD) :
    (Value.res_main_v115 m c : Vec Ideal S2048x512 .f32) =
      (shapeCast S2048x512 (extractStridedSlice S4x512x8x64 ![0, 7680, 0, 0] (refKB (m ((c : Thread nD τ).loc main_arg0)) (m ((c : Thread nD τ).loc main_arg1)) (m ((c : Thread nD τ).loc main_arg2)) (m ((c : Thread nD τ).loc main_arg6))) Cert.ProjPromptReferenceIdeal.Facts₀.slices_S4x8192x8x64_S4x512x8x64_0_7680_0_0) Cert.ProjPromptReferenceIdeal.Facts₀.shapeCasts_S4x512x8x64_S2048x512 : FVec Ideal S2048x512 .f32) := rfl

end Cert.ProjPromptReferenceIdeal.At

end
-- ==== Proof.lean ====
/-
  The certificate of the expert call and of the projection call on both batches: frames by the generated runs, and each
  algebraic claim by setting the kernel's results beside the reference's (MoeEq.lean, ProjSampleEq.lean, ProjPromptEq.lean).
-/
module

public import proofs.«01_k».proof.Defs
public import proofs.«01_k».proof.Proof.Gen.Moe.Frame
public import proofs.«01_k».proof.Proof.Gen.MoeIdeal.Value
public import proofs.«01_k».proof.Proof.Gen.MoeReferenceIdeal.Run
public import proofs.«01_k».proof.Proof.Gen.ProjSample.Frame
public import proofs.«01_k».proof.Proof.Gen.ProjSampleIdeal.Value
public import proofs.«01_k».proof.Proof.Gen.ProjSampleReferenceIdeal.Run
public import proofs.«01_k».proof.Proof.Gen.ProjPrompt.Frame
public import proofs.«01_k».proof.Proof.Gen.ProjPromptIdeal.Value
public import proofs.«01_k».proof.Proof.Gen.ProjPromptReferenceIdeal.Run
public import Idealize.ShloMosaic.Adequacy
public import Idealize.ShloMosaic.Init
public import Idealize.ShloMosaic.Lib.Quiescent
public import proofs.«01_k».proof.Proof.MoeEq
public import proofs.«01_k».proof.Proof.ProjSampleEq
public import proofs.«01_k».proof.Proof.ProjSampleRes
public import proofs.«01_k».proof.Proof.ProjPromptEq
public import proofs.«01_k».proof.Proof.ProjPromptRes

@[expose] public section

noncomputable section

namespace Cert.Proof

open Idealize.ShloMosaic Idealize.SL.Sem

theorem quiescent_MoeReferenceIdeal : quiescent_MoeReferenceIdeal := fun m ρ _ =>
  (θ_run Cert.MoeReferenceIdeal.defs _ _).mono (fun r h => ⟨fun c => (h c).2, sem_eq_zero_of_no_sems (by decide) r.2⟩)
    (Cert.MoeReferenceIdeal.Value.run (F := Ideal) m ρ)

theorem algebraic_MoeIdeal_MoeReferenceIdeal : algebraic_MoeIdeal_MoeReferenceIdeal := by
  intro m ρ m' ρ' _ hagree
  refine ⟨_, Cert.MoeIdeal.Value.run (F := Ideal) m ρ, ?_⟩
  refine (θ_run Cert.MoeReferenceIdeal.defs _ _).mono (fun _ h c => ⟨?_, (h c).2⟩) (Cert.MoeReferenceIdeal.Value.run (F := Ideal) m' ρ')
  rw [(h c).1]
  refine Eq.trans ?_ (Cert.MoeIdeal.Steps.value_eq m c).symm
  simp only [hagree c]
  rfl

theorem quiescent_ProjSampleReferenceIdeal : quiescent_ProjSampleReferenceIdeal := fun m ρ _ =>
  (θ_run Cert.ProjSampleReferenceIdeal.defs _ _).mono (fun r h => ⟨fun c => (h c).2.2.2.2.2.2.2.2.2, sem_eq_zero_of_no_sems (by decide) r.2⟩)
    (Cert.ProjSampleReferenceIdeal.Value.run (F := Ideal) m ρ)

set_option maxHeartbeats 4000000 in
theorem algebraic_ProjSampleIdeal_ProjSampleReferenceIdeal : algebraic_ProjSampleIdeal_ProjSampleReferenceIdeal := by
  intro m ρ m' ρ' _ hagree
  refine ⟨_, _, _, _, _, _, _, _, _, (θ_run Cert.ProjSampleIdeal.defs _ _).mono (fun _ h c => (h c).2) (Cert.ProjSampleIdeal.Value.run_blocks (F := Ideal) m ρ), ?_⟩
  refine (θ_run Cert.ProjSampleReferenceIdeal.defs _ _).mono (fun _ h c => ⟨?_, ?_, ?_, ?_, ?_, ?_, ?_, ?_, ?_, (h c).2.2.2.2.2.2.2.2.2⟩) (Cert.ProjSampleReferenceIdeal.Value.run (F := Ideal) m' ρ')
  · rw [(h c).1]
    refine (Cert.ProjSampleReferenceIdeal.At.res_v103 m' c).trans ?_
    refine Eq.trans ?_ (Cert.ProjSampleIdeal.Arr.eq9 m c).symm
    simp only [hagree c]
  · rw [(h c).2.1]
    refine Eq.trans ?_ (Cert.ProjSampleIdeal.Arr.eq10 m c).symm
    simp only [hagree c]
    rfl
  · rw [(h c).2.2.1]
    refine (Cert.ProjSampleReferenceIdeal.At.res_v107 m' c).trans ?_
    refine Eq.trans ?_ (Cert.ProjSampleIdeal.Arr.eq11 m c).symm
    simp only [hagree c]
  · rw [(h c).2.2.2.1]
    refine Eq.trans ?_ (Cert.ProjSampleIdeal.Arr.eq12 m c).symm
    simp only [hagree c]
    rfl
  · rw [(h c).2.2.2.2.1]
    refine Eq.trans ?_ (Cert.ProjSampleIdeal.Arr.eq13 m c).symm
    simp only [hagree c]
    rfl
  · rw [(h c).2.2.2.2.2.1]
    refine (Cert.ProjSampleReferenceIdeal.At.res_v112 m' c).trans ?_
    refine Eq.trans ?_ (Cert.ProjSampleIdeal.Arr.eq14 m c).symm
    simp only [hagree c]
  · rw [(h c).2.2.2.2.2.2.1]
    refine Eq.trans ?_ (Cert.ProjSampleIdeal.Arr.eq15 m c).symm
    simp only [hagree c]
    rfl
  · rw [(h c).2.2.2.2.2.2.2.1]
    refine Eq.trans ?_ (Cert.ProjSampleIdeal.Arr.eq16 m c).symm
    simp only [hagree c]
    rfl
  · rw [(h c).2.2.2.2.2.2.2.2.1]
    refine Eq.trans ?_ (Cert.ProjSampleIdeal.Arr.eq17 m c).symm
    simp only [hagree c]
    rfl

theorem quiescent_ProjPromptReferenceIdeal : quiescent_ProjPromptReferenceIdeal := fun m ρ _ =>
  (θ_run Cert.ProjPromptReferenceIdeal.defs _ _).mono (fun r h => ⟨fun c => (h c).2.2.2.2.2.2.2.2.2, sem_eq_zero_of_no_sems (by decide) r.2⟩)
    (Cert.ProjPromptReferenceIdeal.Value.run (F := Ideal) m ρ)

set_option maxHeartbeats 4000000 in
theorem algebraic_ProjPromptIdeal_ProjPromptReferenceIdeal : algebraic_ProjPromptIdeal_ProjPromptReferenceIdeal := by
  intro m ρ m' ρ' _ hagree
  refine ⟨_, _, _, _, _, _, _, _, _, (θ_run Cert.ProjPromptIdeal.defs _ _).mono (fun _ h c => (h c).2) (Cert.ProjPromptIdeal.Value.run_blocks (F := Ideal) m ρ), ?_⟩
  refine (θ_run Cert.ProjPromptReferenceIdeal.defs _ _).mono (fun _ h c => ⟨?_, ?_, ?_, ?_, ?_, ?_, ?_, ?_, ?_, (h c).2.2.2.2.2.2.2.2.2⟩) (Cert.ProjPromptReferenceIdeal.Value.run (F := Ideal) m' ρ')
  · rw [(h c).1]
    refine (Cert.ProjPromptReferenceIdeal.At.res_v101 m' c).trans ?_
    refine Eq.trans ?_ (Cert.ProjPromptIdeal.Arr.eq9 m c).symm
    simp only [hagree c]
  · rw [(h c).2.1]
    refine (Cert.ProjPromptReferenceIdeal.At.res_v103 m' c).trans ?_
    refine Eq.trans ?_ (Cert.ProjPromptIdeal.Arr.eq10 m c).symm
    simp only [hagree c]
  · rw [(h c).2.2.1]
    refine (Cert.ProjPromptReferenceIdeal.At.res_v105 m' c).trans ?_
    refine Eq.trans ?_ (Cert.ProjPromptIdeal.Arr.eq11 m c).symm
    simp only [hagree c]
  · rw [(h c).2.2.2.1]
    refine Eq.trans ?_ (Cert.ProjPromptIdeal.Arr.eq12 m c).symm
    simp only [hagree c]
    rfl
  · rw [(h c).2.2.2.2.1]
    refine Eq.trans ?_ (Cert.ProjPromptIdeal.Arr.eq13 m c).symm
    simp only [hagree c]
    rfl
  · rw [(h c).2.2.2.2.2.1]
    refine (Cert.ProjPromptReferenceIdeal.At.res_v111 m' c).trans ?_
    refine Eq.trans ?_ (Cert.ProjPromptIdeal.Arr.eq14 m c).symm
    simp only [hagree c]
  · rw [(h c).2.2.2.2.2.2.1]
    refine Eq.trans ?_ (Cert.ProjPromptIdeal.Arr.eq15 m c).symm
    simp only [hagree c]
    rfl
  · rw [(h c).2.2.2.2.2.2.2.1]
    refine (Cert.ProjPromptReferenceIdeal.At.res_v115 m' c).trans ?_
    refine Eq.trans ?_ (Cert.ProjPromptIdeal.Arr.eq16 m c).symm
    simp only [hagree c]
  · rw [(h c).2.2.2.2.2.2.2.2.1]
    refine Eq.trans ?_ (Cert.ProjPromptIdeal.Arr.eq17 m c).symm
    simp only [hagree c]
    rfl

theorem claim : Cert.Claim := ⟨Cert.Moe.Gen.facts,
  Cert.MoeIdeal.Gen.facts,
  Cert.MoeReferenceIdeal.Gen.facts,
  Cert.ProjSample.Gen.facts,
  Cert.ProjSampleIdeal.Gen.facts,
  Cert.ProjSampleReferenceIdeal.Gen.facts,
  Cert.ProjPrompt.Gen.facts,
  Cert.ProjPromptIdeal.Gen.facts,
  Cert.ProjPromptReferenceIdeal.Gen.facts,
  fun m ρ _ => Cert.Moe.Gen.frame m ρ,
  fun m ρ _ => Cert.MoeIdeal.Gen.frame m ρ,
  quiescent_MoeReferenceIdeal,
  fun m ρ _ => Cert.ProjSample.Gen.frame m ρ,
  fun m ρ _ => Cert.ProjSampleIdeal.Gen.frame m ρ,
  quiescent_ProjSampleReferenceIdeal,
  fun m ρ _ => Cert.ProjPrompt.Gen.frame m ρ,
  fun m ρ _ => Cert.ProjPromptIdeal.Gen.frame m ρ,
  quiescent_ProjPromptReferenceIdeal,
  (trivial : preserves_Moe_MoeIdeal),
  algebraic_MoeIdeal_MoeReferenceIdeal,
  (trivial : preserves_ProjSample_ProjSampleIdeal),
  algebraic_ProjSampleIdeal_ProjSampleReferenceIdeal,
  (trivial : preserves_ProjPrompt_ProjPromptIdeal),
  algebraic_ProjPromptIdeal_ProjPromptReferenceIdeal⟩

end Cert.Proof

end
